-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x2048 : Shape := ⟨2, ![2048, 2048]⟩
abbrev S2048x64 : Shape := ⟨2, ![2048, 64]⟩
abbrev S4x512x2048 : Shape := ⟨3, ![4, 512, 2048]⟩
abbrev S16x64x128 : Shape := ⟨3, ![16, 64, 128]⟩
abbrev S4x4x64x128 : Shape := ⟨4, ![4, 4, 64, 128]⟩
abbrev S8x2x64x128 : Shape := ⟨4, ![8, 2, 64, 128]⟩
abbrev S4 : Shape := ⟨1, ![4]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S64x512 : Shape := ⟨2, ![64, 512]⟩
abbrev S1x512x512 : Shape := ⟨3, ![1, 512, 512]⟩
abbrev S512x512 : Shape := ⟨2, ![512, 512]⟩
abbrev S64x128 : Shape := ⟨2, ![64, 128]⟩
abbrev S1x64x128 : Shape := ⟨3, ![1, 64, 128]⟩
abbrev S1x4x64x128 : Shape := ⟨4, ![1, 4, 64, 128]⟩
abbrev S4x64x128 : Shape := ⟨3, ![4, 64, 128]⟩
abbrev S64x64 : Shape := ⟨2, ![64, 64]⟩
abbrev S1x1x64x128 : Shape := ⟨4, ![1, 1, 64, 128]⟩
abbrev S1x2x64x128 : Shape := ⟨4, ![1, 2, 64, 128]⟩
abbrev S2x64x128 : Shape := ⟨3, ![2, 64, 128]⟩

abbrev nBuf : Space → Nat
  | .hbm => 3
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S2048x64, .f32⟩
  | .local _ .vmem, ⟨0, _⟩ => ⟨S64x2048, .f32⟩
  | .local _ .vmem, ⟨1, _⟩ => ⟨S2048x64, .f32⟩
  | .local _ .vmem, ⟨2, _⟩ => ⟨S4x512x2048, .f32⟩
  | .local _ .vmem, ⟨3, _⟩ => ⟨S16x64x128, .bf16⟩
  | .local _ .vmem, ⟨4, _⟩ => ⟨S4x4x64x128, .bf16⟩
  | .local _ .vmem, ⟨5, _⟩ => ⟨S8x2x64x128, .bf16⟩
  | .local _ .vmem, ⟨6, _⟩ => ⟨S8x2x64x128, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_6 : BitVec 32 := 1#32
  let v22 : BitVec 32 := Scalar.addi v19 c1_i32_6
  let c4_i32 : BitVec 32 := 4#32
  let v23 : BitVec 32 := Scalar.remsi v22 c4_i32
  let c8_i32_7 : BitVec 32 := 8#32
  let v24 : BitVec 32 := Scalar.muli v23 c8_i32_7
  let c8_i32_5 : BitVec 32 := 8#32
  let v20 : BitVec 32 := Scalar.remsi v2 c8_i32_5
  let v25 : BitVec 32 := Scalar.addi v24 v20
  let c1_i32_9 : BitVec 32 := 1#32
  let v26 : BitVec 32 := Scalar.muli v25 c1_i32_9
  let v27 : BitVec 32 := Scalar.addi c0_i32_10 v26
  v27.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.addi v19 c2_i32
  let c4_i32_11 : BitVec 32 := 4#32
  let v29 : BitVec 32 := Scalar.remsi v28 c4_i32_11
  let c8_i32_12 : BitVec 32 := 8#32
  let v30 : BitVec 32 := Scalar.muli v29 c8_i32_12
  let c8_i32_5 : BitVec 32 := 8#32
  let v20 : BitVec 32 := Scalar.remsi v2 c8_i32_5
  let v31 : BitVec 32 := Scalar.addi v30 v20
  let c1_i32_14 : BitVec 32 := 1#32
  let v32 : BitVec 32 := Scalar.muli v31 c1_i32_14
  let v33 : BitVec 32 := Scalar.addi c0_i32_15 v32
  v33.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v34 : BitVec 32 := Scalar.addi v19 c3_i32
  let c4_i32_16 : BitVec 32 := 4#32
  let v35 : BitVec 32 := Scalar.remsi v34 c4_i32_16
  let c8_i32_17 : BitVec 32 := 8#32
  let v36 : BitVec 32 := Scalar.muli v35 c8_i32_17
  let c8_i32_5 : BitVec 32 := 8#32
  let v20 : BitVec 32 := Scalar.remsi v2 c8_i32_5
  let v37 : BitVec 32 := Scalar.addi v36 v20
  let c1_i32_19 : BitVec 32 := 1#32
  let v38 : BitVec 32 := Scalar.muli v37 c1_i32_19
  let v39 : BitVec 32 := Scalar.addi c0_i32_20 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_23 : BitVec 32 := 8#32
  let v42 : BitVec 32 := Scalar.muli v19 c8_i32_23
  let c8_i32_5 : BitVec 32 := 8#32
  let v20 : BitVec 32 := Scalar.remsi v2 c8_i32_5
  let c1_i32_21 : BitVec 32 := 1#32
  let v40 : BitVec 32 := Scalar.addi v20 c1_i32_21
  let c8_i32_22 : BitVec 32 := 8#32
  let v41 : BitVec 32 := Scalar.remsi v40 c8_i32_22
  let v43 : BitVec 32 := Scalar.addi v42 v41
  let c1_i32_25 : BitVec 32 := 1#32
  let v44 : BitVec 32 := Scalar.muli v43 c1_i32_25
  let v45 : BitVec 32 := Scalar.addi c0_i32_26 v44
  v45.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_29 : BitVec 32 := 8#32
  let v48 : BitVec 32 := Scalar.muli v19 c8_i32_29
  let c8_i32_5 : BitVec 32 := 8#32
  let v20 : BitVec 32 := Scalar.remsi v2 c8_i32_5
  let c2_i32_27 : BitVec 32 := 2#32
  let v46 : BitVec 32 := Scalar.addi v20 c2_i32_27
  let c8_i32_28 : BitVec 32 := 8#32
  let v47 : BitVec 32 := Scalar.remsi v46 c8_i32_28
  let v49 : BitVec 32 := Scalar.addi v48 v47
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v54 : BitVec 32 := Scalar.muli v19 c8_i32_35
  let c8_i32_5 : BitVec 32 := 8#32
  let v20 : BitVec 32 := Scalar.remsi v2 c8_i32_5
  let c3_i32_33 : BitVec 32 := 3#32
  let v52 : BitVec 32 := Scalar.addi v20 c3_i32_33
  let c8_i32_34 : BitVec 32 := 8#32
  let v53 : BitVec 32 := Scalar.remsi v52 c8_i32_34
  let v55 : BitVec 32 := Scalar.addi v54 v53
  let c1_i32_37 : BitVec 32 := 1#32
  let v56 : BitVec 32 := Scalar.muli v55 c1_i32_37
  let v57 : BitVec 32 := Scalar.addi c0_i32_38 v56
  v57.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_41 : BitVec 32 := 8#32
  let v60 : BitVec 32 := Scalar.muli v19 c8_i32_41
  let c8_i32_5 : BitVec 32 := 8#32
  let v20 : BitVec 32 := Scalar.remsi v2 c8_i32_5
  let c4_i32_39 : BitVec 32 := 4#32
  let v58 : BitVec 32 := Scalar.addi v20 c4_i32_39
  let c8_i32_40 : BitVec 32 := 8#32
  let v59 : BitVec 32 := Scalar.remsi v58 c8_i32_40
  let v61 : BitVec 32 := Scalar.addi v60 v59
  let c1_i32_43 : BitVec 32 := 1#32
  let v62 : BitVec 32 := Scalar.muli v61 c1_i32_43
  let v63 : BitVec 32 := Scalar.addi c0_i32_44 v62
  v63.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_46 : BitVec 32 := 8#32
  let v66 : BitVec 32 := Scalar.muli v19 c8_i32_46
  let c8_i32_5 : BitVec 32 := 8#32
  let v20 : BitVec 32 := Scalar.remsi v2 c8_i32_5
  let c5_i32 : BitVec 32 := 5#32
  let v64 : BitVec 32 := Scalar.addi v20 c5_i32
  let c8_i32_45 : BitVec 32 := 8#32
  let v65 : BitVec 32 := Scalar.remsi v64 c8_i32_45
  let v67 : BitVec 32 := Scalar.addi v66 v65
  let c1_i32_48 : BitVec 32 := 1#32
  let v68 : BitVec 32 := Scalar.muli v67 c1_i32_48
  let v69 : BitVec 32 := Scalar.addi c0_i32_49 v68
  v69.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_51 : BitVec 32 := 8#32
  let v72 : BitVec 32 := Scalar.muli v19 c8_i32_51
  let c8_i32_5 : BitVec 32 := 8#32
  let v20 : BitVec 32 := Scalar.remsi v2 c8_i32_5
  let c6_i32 : BitVec 32 := 6#32
  let v70 : BitVec 32 := Scalar.addi v20 c6_i32
  let c8_i32_50 : BitVec 32 := 8#32
  let v71 : BitVec 32 := Scalar.remsi v70 c8_i32_50
  let v73 : BitVec 32 := Scalar.addi v72 v71
  let c1_i32_53 : BitVec 32 := 1#32
  let v74 : BitVec 32 := Scalar.muli v73 c1_i32_53
  let v75 : BitVec 32 := Scalar.addi c0_i32_54 v74
  v75.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v78 : BitVec 32 := Scalar.muli v19 c8_i32_56
  let c8_i32_5 : BitVec 32 := 8#32
  let v20 : BitVec 32 := Scalar.remsi v2 c8_i32_5
  let c7_i32 : BitVec 32 := 7#32
  let v76 : BitVec 32 := Scalar.addi v20 c7_i32
  let c8_i32_55 : BitVec 32 := 8#32
  let v77 : BitVec 32 := Scalar.remsi v76 c8_i32_55
  let v79 : BitVec 32 := Scalar.addi v78 v77
  let c1_i32_58 : BitVec 32 := 1#32
  let v80 : BitVec 32 := Scalar.muli v79 c1_i32_58
  let v81 : BitVec 32 := Scalar.addi c0_i32_59 v80
  v81.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_134 : BitVec 32 := 0#32
  let v174 : BitVec 1 := Scalar.cmpi .ne v19 c0_i32_134
  let v175 : BitVec 32 := Scalar.extui v174
  let c0_i32_135 : BitVec 32 := 0#32
  let v176 : BitVec 1 := Scalar.cmpi .ne v175 c0_i32_135
  v176

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_306 : BitVec 32 := 0#32
  let c0_i32_307 : BitVec 32 := 0#32
  let c0_i32_308 : BitVec 32 := 0#32
  ![v19.toNat, 0, 0, 0]
def k0_dev11 (d0 : Dev nD) : Nat :=
  let c0_i32_305 : BitVec 32 := 0#32
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v469 : BitVec 32 := Scalar.addi c0_i32_302 v20
  let c1_i32_304 : BitVec 32 := 1#32
  let v470 : BitVec 32 := Scalar.muli v469 c1_i32_304
  let v471 : BitVec 32 := Scalar.addi c0_i32_305 v470
  v471.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_151 : BitVec 32 := 1#32
  let v212 : BitVec 1 := Scalar.cmpi .ne v19 c1_i32_151
  let v213 : BitVec 32 := Scalar.extui v212
  let c0_i32_152 : BitVec 32 := 0#32
  let v214 : BitVec 1 := Scalar.cmpi .ne v213 c0_i32_152
  v214

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_306 : BitVec 32 := 0#32
  let c0_i32_307 : BitVec 32 := 0#32
  let c0_i32_308 : BitVec 32 := 0#32
  ![v19.toNat, 0, 0, 0]
def k0_dev12 (d0 : Dev nD) : Nat :=
  let c0_i32_305 : BitVec 32 := 0#32
  let c8_i32_302 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v469 : BitVec 32 := Scalar.addi c8_i32_302 v20
  let c1_i32_304 : BitVec 32 := 1#32
  let v470 : BitVec 32 := Scalar.muli v469 c1_i32_304
  let v471 : BitVec 32 := Scalar.addi c0_i32_305 v470
  v471.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_168 : BitVec 32 := 2#32
  let v250 : BitVec 1 := Scalar.cmpi .ne v19 c2_i32_168
  let v251 : BitVec 32 := Scalar.extui v250
  let c0_i32_169 : BitVec 32 := 0#32
  let v252 : BitVec 1 := Scalar.cmpi .ne v251 c0_i32_169
  v252

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_306 : BitVec 32 := 0#32
  let c0_i32_307 : BitVec 32 := 0#32
  let c0_i32_308 : BitVec 32 := 0#32
  ![v19.toNat, 0, 0, 0]
def k0_dev13 (d0 : Dev nD) : Nat :=
  let c0_i32_305 : BitVec 32 := 0#32
  let c16_i32_302 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v469 : BitVec 32 := Scalar.addi c16_i32_302 v20
  let c1_i32_304 : BitVec 32 := 1#32
  let v470 : BitVec 32 := Scalar.muli v469 c1_i32_304
  let v471 : BitVec 32 := Scalar.addi c0_i32_305 v470
  v471.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_185 : BitVec 32 := 3#32
  let v288 : BitVec 1 := Scalar.cmpi .ne v19 c3_i32_185
  let v289 : BitVec 32 := Scalar.extui v288
  let c0_i32_186 : BitVec 32 := 0#32
  let v290 : BitVec 1 := Scalar.cmpi .ne v289 c0_i32_186
  v290

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_306 : BitVec 32 := 0#32
  let c0_i32_307 : BitVec 32 := 0#32
  let c0_i32_308 : BitVec 32 := 0#32
  ![v19.toNat, 0, 0, 0]
def k0_dev14 (d0 : Dev nD) : Nat :=
  let c0_i32_305 : BitVec 32 := 0#32
  let c24_i32_302 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v469 : BitVec 32 := Scalar.addi c24_i32_302 v20
  let c1_i32_304 : BitVec 32 := 1#32
  let v470 : BitVec 32 := Scalar.muli v469 c1_i32_304
  let v471 : BitVec 32 := Scalar.addi c0_i32_305 v470
  v471.toNat
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_187 : BitVec 32 := 4#32
  let v291 : BitVec 32 := Scalar.muli v19 c4_i32_187
  let v292 : Index := Scalar.indexCast v291
  let c0_188 : Index := 0#32
  let c0_189 : Index := 0#32
  ![v292.toNat, 0, 0]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v295 : Index := Scalar.indexCast v19
  let c0_190 : Index := 0#32
  let c0_191 : Index := 0#32
  let c0_192 : Index := 0#32
  ![v295.toNat, 0, 0, 0]
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_201 : BitVec 32 := 0#32
  let v311 : BitVec 1 := Scalar.cmpi .ne v20 c0_i32_201
  let v312 : BitVec 32 := Scalar.extui v311
  let c0_i32_202 : BitVec 32 := 0#32
  let v313 : BitVec 1 := Scalar.cmpi .ne v312 c0_i32_202
  v313

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c0_i32_339 : BitVec 32 := 0#32
  let v498 : BitVec 32 := Scalar.addi v497 c0_i32_339
  let c1_i32_342 : BitVec 32 := 1#32
  let v499 : BitVec 32 := Scalar.muli v498 c1_i32_342
  let v500 : BitVec 32 := Scalar.addi c0_i32_343 v499
  v500.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_203 : BitVec 32 := 1#32
  let v314 : BitVec 1 := Scalar.cmpi .ne v20 c1_i32_203
  let v315 : BitVec 32 := Scalar.extui v314
  let c0_i32_204 : BitVec 32 := 0#32
  let v316 : BitVec 1 := Scalar.cmpi .ne v315 c0_i32_204
  v316

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev16 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c1_i32_339 : BitVec 32 := 1#32
  let v498 : BitVec 32 := Scalar.addi v497 c1_i32_339
  let c1_i32_342 : BitVec 32 := 1#32
  let v499 : BitVec 32 := Scalar.muli v498 c1_i32_342
  let v500 : BitVec 32 := Scalar.addi c0_i32_343 v499
  v500.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_205 : BitVec 32 := 2#32
  let v317 : BitVec 1 := Scalar.cmpi .ne v20 c2_i32_205
  let v318 : BitVec 32 := Scalar.extui v317
  let c0_i32_206 : BitVec 32 := 0#32
  let v319 : BitVec 1 := Scalar.cmpi .ne v318 c0_i32_206
  v319

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev17 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c2_i32_339 : BitVec 32 := 2#32
  let v498 : BitVec 32 := Scalar.addi v497 c2_i32_339
  let c1_i32_342 : BitVec 32 := 1#32
  let v499 : BitVec 32 := Scalar.muli v498 c1_i32_342
  let v500 : BitVec 32 := Scalar.addi c0_i32_343 v499
  v500.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32_207 : BitVec 32 := 3#32
  let v320 : BitVec 1 := Scalar.cmpi .ne v20 c3_i32_207
  let v321 : BitVec 32 := Scalar.extui v320
  let c0_i32_208 : BitVec 32 := 0#32
  let v322 : BitVec 1 := Scalar.cmpi .ne v321 c0_i32_208
  v322

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev18 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c3_i32_339 : BitVec 32 := 3#32
  let v498 : BitVec 32 := Scalar.addi v497 c3_i32_339
  let c1_i32_342 : BitVec 32 := 1#32
  let v499 : BitVec 32 := Scalar.muli v498 c1_i32_342
  let v500 : BitVec 32 := Scalar.addi c0_i32_343 v499
  v500.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_209 : BitVec 32 := 4#32
  let v323 : BitVec 1 := Scalar.cmpi .ne v20 c4_i32_209
  let v324 : BitVec 32 := Scalar.extui v323
  let c0_i32_210 : BitVec 32 := 0#32
  let v325 : BitVec 1 := Scalar.cmpi .ne v324 c0_i32_210
  v325

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev19 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c4_i32_339 : BitVec 32 := 4#32
  let v498 : BitVec 32 := Scalar.addi v497 c4_i32_339
  let c1_i32_342 : BitVec 32 := 1#32
  let v499 : BitVec 32 := Scalar.muli v498 c1_i32_342
  let v500 : BitVec 32 := Scalar.addi c0_i32_343 v499
  v500.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c5_i32_211 : BitVec 32 := 5#32
  let v326 : BitVec 1 := Scalar.cmpi .ne v20 c5_i32_211
  let v327 : BitVec 32 := Scalar.extui v326
  let c0_i32_212 : BitVec 32 := 0#32
  let v328 : BitVec 1 := Scalar.cmpi .ne v327 c0_i32_212
  v328

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev20 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c5_i32_339 : BitVec 32 := 5#32
  let v498 : BitVec 32 := Scalar.addi v497 c5_i32_339
  let c1_i32_342 : BitVec 32 := 1#32
  let v499 : BitVec 32 := Scalar.muli v498 c1_i32_342
  let v500 : BitVec 32 := Scalar.addi c0_i32_343 v499
  v500.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c6_i32_213 : BitVec 32 := 6#32
  let v329 : BitVec 1 := Scalar.cmpi .ne v20 c6_i32_213
  let v330 : BitVec 32 := Scalar.extui v329
  let c0_i32_214 : BitVec 32 := 0#32
  let v331 : BitVec 1 := Scalar.cmpi .ne v330 c0_i32_214
  v331

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev21 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c6_i32_339 : BitVec 32 := 6#32
  let v498 : BitVec 32 := Scalar.addi v497 c6_i32_339
  let c1_i32_342 : BitVec 32 := 1#32
  let v499 : BitVec 32 := Scalar.muli v498 c1_i32_342
  let v500 : BitVec 32 := Scalar.addi c0_i32_343 v499
  v500.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_215 : BitVec 32 := 7#32
  let v332 : BitVec 1 := Scalar.cmpi .ne v20 c7_i32_215
  let v333 : BitVec 32 := Scalar.extui v332
  let c0_i32_216 : BitVec 32 := 0#32
  let v334 : BitVec 1 := Scalar.cmpi .ne v333 c0_i32_216
  v334

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_344 : BitVec 32 := 0#32
  let c0_i32_345 : BitVec 32 := 0#32
  let c0_i32_346 : BitVec 32 := 0#32
  ![v20.toNat, 0, 0, 0]
def k0_dev22 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_338 : BitVec 32 := 8#32
  let v497 : BitVec 32 := Scalar.muli v19 c8_i32_338
  let c7_i32_339 : BitVec 32 := 7#32
  let v498 : BitVec 32 := Scalar.addi v497 c7_i32_339
  let c1_i32_342 : BitVec 32 := 1#32
  let v499 : BitVec 32 := Scalar.muli v498 c1_i32_342
  let v500 : BitVec 32 := Scalar.addi c0_i32_343 v499
  v500.toNat
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_218 : BitVec 32 := 0#32
  let v336 : BitVec 1 := Scalar.cmpi .sgt v20 c0_i32_218
  let v337 : BitVec 32 := Scalar.extui v336
  let c0_i32_219 : BitVec 32 := 0#32
  let v338 : BitVec 1 := Scalar.cmpi .slt v20 c0_i32_219
  let v339 : BitVec 32 := Scalar.extui v338
  let v340 : BitVec 32 := Scalar.subi v337 v339
  let c2_i32_217 : BitVec 32 := 2#32
  let c0_i32_220 : BitVec 32 := 0#32
  let v341 : BitVec 1 := Scalar.cmpi .sgt c2_i32_217 c0_i32_220
  let v342 : BitVec 32 := Scalar.extui v341
  let c0_i32_221 : BitVec 32 := 0#32
  let v343 : BitVec 1 := Scalar.cmpi .slt c2_i32_217 c0_i32_221
  let v344 : BitVec 32 := Scalar.extui v343
  let v345 : BitVec 32 := Scalar.subi v342 v344
  let v346 : BitVec 1 := Scalar.cmpi .ne v340 v345
  let v347 : BitVec 32 := Scalar.remsi v20 c2_i32_217
  let c0_i32_222 : BitVec 32 := 0#32
  let v348 : BitVec 1 := Scalar.cmpi .ne v347 c0_i32_222
  let v349 : BitVec 1 := Scalar.andi v346 v348
  let v335 : BitVec 32 := Scalar.divsi v20 c2_i32_217
  let c1_i32_223 : BitVec 32 := 1#32
  let v350 : BitVec 32 := Scalar.subi v335 c1_i32_223
  let v351 : BitVec 32 := Scalar.select v349 v350 v335
  let v355 : Index := Scalar.indexCast v351
  let c0_229 : Index := 0#32
  let c0_230 : Index := 0#32
  ![v355.toNat, 0, 0]
def k0_off28 (d0 : Dev nD) (c0_i32_232 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v363 : BitVec 32 := Scalar.addi c0_i32_232 v20
  let c64_i32 : BitVec 32 := 64#32
  let v364 : BitVec 32 := Scalar.muli v363 c64_i32
  let v365 : Index := Scalar.indexCast v364
  let c0_233 : Index := 0#32
  ![v365.toNat, 0]
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/-
The protocol of the two-phase all-to-all kernel: the devices' places, the memrefs and semaphore cells, the contents
every transfer hands over, the schedule of duties, and what each device owes at launch.

Device `c = 8 p + q` stands in plane `p` (of 4) at place `q` (of 8). It computes its 64 rows of the activated product,
sends the four column blocks to the four planes (same place), regroups what it received, and sends to the eight places
of its own plane.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- A duty is named by the place of the device that pays it: a plane or a place in the plane. -/
abbrev Dty : Type := Fin 4 ⊕ Fin 8
abbrev UB : Type := URounds (GSem nD τ sig) Dty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Places -/

set_option backward.proofsInPublic true in
/-- The plane of a device. -/
def pl (c : Dev nD) : Fin 4 := ⟨c.val / 8, by have := c.isLt; simp only [nD] at this; omega⟩
set_option backward.proofsInPublic true in
/-- The place of a device in its plane. -/
def sl (c : Dev nD) : Fin 8 := ⟨c.val % 8, Nat.mod_lt _ (by decide)⟩
set_option backward.proofsInPublic true in
/-- The device at a place of a plane. -/
def dv (a : Fin 4) (s : Fin 8) : Dev nD := ⟨8 * a.val + s.val, by have := a.isLt; have := s.isLt; simp only [nD]; omega⟩

theorem dv_pl_sl (c : Dev nD) : dv (pl c) (sl c) = c := Fin.ext (by simp only [dv, pl, sl]; omega)
theorem pl_dv (a : Fin 4) (s : Fin 8) : pl (dv a s) = a := Fin.ext (by have := s.isLt; simp only [dv, pl]; omega)
theorem sl_dv (a : Fin 4) (s : Fin 8) : sl (dv a s) = s := Fin.ext (by have := s.isLt; simp only [dv, sl]; omega)

/-! ## Memrefs and cells -/

abbrev xM : Memref sig .tc .vmem S64x2048 .f32 := Memref.whole cc0_stg0_0
abbrev gM : Memref sig .tc .hbm S2048x2048 .f32 := Memref.whole main_arg1
abbrev oM : Memref sig .tc .vmem S2048x64 .f32 := Memref.whole cc0_stg1_0
abbrev wM : Memref sig .tc .vmem S4x512x2048 .f32 := Memref.whole cc0_scratch0
abbrev yM : Memref sig .tc .vmem S16x64x128 .bf16 := Memref.whole cc0_scratch1
abbrev rM : Memref sig .tc .vmem S4x4x64x128 .bf16 := Memref.whole cc0_scratch2
abbrev sM : Memref sig .tc .vmem S8x2x64x128 .bf16 := Memref.whole cc0_scratch3
abbrev dM : Memref sig .tc .vmem S8x2x64x128 .bf16 := Memref.whole cc0_scratch4

/-- The runtime's barrier semaphore. -/
abbrev barS : Sem sig := (SemArray.scalar (sig.barrier 0 rfl) : Sems sig S_).sem

set_option backward.proofsInPublic true in
/-- The semaphore a weight block's copy signals. -/
def wI (b : Fin 4) : DmaSem sig := ⟨2 + b.val, by have := b.isLt; show _ < 30; omega⟩
set_option backward.proofsInPublic true in
/-- The sender's semaphore of the first phase, by the plane addressed. -/
def aI (b : Fin 4) : DmaSem sig := ⟨6 + b.val, by have := b.isLt; show _ < 30; omega⟩
set_option backward.proofsInPublic true in
/-- The receiver's semaphore of the first phase, by the sender's plane. -/
def bI (b : Fin 4) : DmaSem sig := ⟨10 + b.val, by have := b.isLt; show _ < 30; omega⟩
set_option backward.proofsInPublic true in
/-- The sender's semaphore of the second phase, by the place addressed. -/
def cI (b : Fin 8) : DmaSem sig := ⟨14 + b.val, by have := b.isLt; show _ < 30; omega⟩
set_option backward.proofsInPublic true in
/-- The receiver's semaphore of the second phase, by the sender's place. -/
def dI (b : Fin 8) : DmaSem sig := ⟨22 + b.val, by have := b.isLt; show _ < 30; omega⟩

abbrev barCell (c : Dev nD) : GSem nD τ sig := ((c : Thread nD τ), .reg barS)
abbrev wCell (c : Dev nD) (b : Fin 4) : GSem nD τ sig := ((c : Thread nD τ), .dma (wI b))
abbrev aCell (c : Dev nD) (b : Fin 4) : GSem nD τ sig := ((c : Thread nD τ), .dma (aI b))
abbrev bCell (c : Dev nD) (b : Fin 4) : GSem nD τ sig := ((c : Thread nD τ), .dma (bI b))
abbrev cCell (c : Dev nD) (b : Fin 8) : GSem nD τ sig := ((c : Thread nD τ), .dma (cI b))
abbrev dCell (c : Dev nD) (b : Fin 8) : GSem nD τ sig := ((c : Thread nD τ), .dma (dI b))

/-- What a semaphore is for. -/
inductive Kd where
  | idle | bar | w (b : Fin 4) | a (b : Fin 4) | b (b : Fin 4) | c (b : Fin 8) | d (b : Fin 8)
  deriving DecidableEq

set_option backward.proofsInPublic true in
def kind : SemLoc sig → Kd
  | .reg _ => .bar
  | .dma s =>
    if h : s.val < 2 then .idle
    else if h1 : s.val < 6 then .w ⟨s.val - 2, by omega⟩
    else if h2 : s.val < 10 then .a ⟨s.val - 6, by omega⟩
    else if h3 : s.val < 14 then .b ⟨s.val - 10, by omega⟩
    else if h4 : s.val < 22 then .c ⟨s.val - 14, by omega⟩
    else if h5 : s.val < 30 then .d ⟨s.val - 22, by omega⟩ else .idle

theorem kind_bar (s : Sem sig) : kind (.reg s) = .bar := rfl
theorem kind_w (b : Fin 4) : kind (.dma (wI b)) = .w b := by revert b; decide
theorem kind_a (b : Fin 4) : kind (.dma (aI b)) = .a b := by revert b; decide
theorem kind_b (b : Fin 4) : kind (.dma (bI b)) = .b b := by revert b; decide
theorem kind_c (b : Fin 8) : kind (.dma (cI b)) = .c b := by revert b; decide
theorem kind_d (b : Fin 8) : kind (.dma (dI b)) = .d b := by revert b; decide

/-- The kind of a cell: only TensorCore cells are used. -/
def gk (g : GSem nD τ sig) : Kd := if g.1.2 = .tc then kind g.2 else .idle

theorem gk_tc (c : Dev nD) (sm : SemLoc sig) : gk ((c : Thread nD τ), sm) = kind sm := if_pos rfl

/-! ## Slots -/

/-- The elements of a weight block, of a column block, of a slot. -/
def wSet (b : Fin 4) : Finset S4x512x2048.Idx := Finset.univ.filter fun i => (i 0).val = b.val
def gSet (b : Fin 4) : Finset S2048x2048.Idx := Finset.univ.filter fun i => (i 0).val / 512 = b.val
def ySet (a : Fin 4) : Finset S16x64x128.Idx := Finset.univ.filter fun i => (i 0).val / 4 = a.val
def rSet (a : Fin 4) : Finset S4x4x64x128.Idx := Finset.univ.filter fun i => (i 0).val = a.val
def sSet (a : Fin 8) : Finset S8x2x64x128.Idx := Finset.univ.filter fun i => (i 0).val = a.val

abbrev LW (c : Dev nD) : Loc nD τ sig := (c : Thread nD τ).loc cc0_scratch0
abbrev LG (c : Dev nD) : Loc nD τ sig := (c : Thread nD τ).loc main_arg1
abbrev LY (c : Dev nD) : Loc nD τ sig := (c : Thread nD τ).loc cc0_scratch1
abbrev LR (c : Dev nD) : Loc nD τ sig := (c : Thread nD τ).loc cc0_scratch2
abbrev LS (c : Dev nD) : Loc nD τ sig := (c : Thread nD τ).loc cc0_scratch3
abbrev LD (c : Dev nD) : Loc nD τ sig := (c : Thread nD τ).loc cc0_scratch4
abbrev LO (c : Dev nD) : Loc nD τ sig := (c : Thread nD τ).loc cc0_stg1_0
abbrev LX (c : Dev nD) : Loc nD τ sig := (c : Thread nD τ).loc cc0_stg0_0

def wPts (c : Dev nD) (b : Fin 4) (f : Buf (Elt F) (LW c)) : sProp 𝕄 := LW c ↦[wSet b]{fullShare} f
def gPts (c : Dev nD) (b : Fin 4) (f : Buf (Elt F) (LG c)) : sProp 𝕄 := LG c ↦[gSet b]{fullShare} f
def yPts (c : Dev nD) (b : Fin 4) (f : Buf (Elt F) (LY c)) : sProp 𝕄 := LY c ↦[ySet b]{fullShare} f
def rPts (c : Dev nD) (b : Fin 4) (f : Buf (Elt F) (LR c)) : sProp 𝕄 := LR c ↦[rSet b]{fullShare} f
def sPts (c : Dev nD) (b : Fin 8) (f : Buf (Elt F) (LS c)) : sProp 𝕄 := LS c ↦[sSet b]{fullShare} f
def dPts (c : Dev nD) (b : Fin 8) (f : Buf (Elt F) (LD c)) : sProp 𝕄 := LD c ↦[sSet b]{fullShare} f

instance wPts_storable (c : Dev nD) (b f) : BI.Storable (upEmb : UEmb _ 𝕄) (wPts (F := F) c b f) := by unfold wPts; infer_instance
instance gPts_storable (c : Dev nD) (b f) : BI.Storable (upEmb : UEmb _ 𝕄) (gPts (F := F) c b f) := by unfold gPts; infer_instance
instance yPts_storable (c : Dev nD) (b f) : BI.Storable (upEmb : UEmb _ 𝕄) (yPts (F := F) c b f) := by unfold yPts; infer_instance
instance rPts_storable (c : Dev nD) (b f) : BI.Storable (upEmb : UEmb _ 𝕄) (rPts (F := F) c b f) := by unfold rPts; infer_instance
instance sPts_storable (c : Dev nD) (b f) : BI.Storable (upEmb : UEmb _ 𝕄) (sPts (F := F) c b f) := by unfold sPts; infer_instance
instance dPts_storable (c : Dev nD) (b f) : BI.Storable (upEmb : UEmb _ 𝕄) (dPts (F := F) c b f) := by unfold dPts; infer_instance

/-! ## Contents -/

/-- The staged block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- The weights at launch. -/
def wgt (c : Dev nD) : Buf (Elt F) (LG c) := m (LG c)

set_option backward.proofsInPublic true in
/-- The weight buffer once its four blocks have arrived. -/
def WB (c : Dev nD) : Vec F S4x512x2048 .f32 :=
  fun i => (wgt m c : Vec F S2048x2048 .f32) (ix2 ⟨512 * (i 0).val + (i 1).val, by
    have h0 : (i 0).val < 4 := (i 0).isLt
    have h1 : (i 1).val < 512 := (i 1).isLt
    omega⟩ (i 2))

/-- One weight block as loaded, -/
def WL (c : Dev nD) (b : Fin 4) : Vec F S1x512x2048 .f32 := fun i => WB m c (ix3 b (i 1) (i 2))
set_option backward.proofsInPublic true in
/-- and 512 columns of the last one. -/
def WC (c : Dev nD) (a : Fin 4) : Vec F S1x512x512 .f32 :=
  fun i => WB m c (ix3 (3 : Fin 4) (i 1) ⟨512 * a.val + (i 2).val, by
    have h2 : (i 2).val < 512 := (i 2).isLt
    omega⟩)

def V103 (c : Dev nD) : FVec F S64x2048 .f32 := k0_pay57 (xstg m ρ c)
def V112 (c : Dev nD) : FVec F S64x2048 .f32 := k0_pay58 (xstg m ρ c) (WL m c 0)
def V132 (c : Dev nD) : FVec F S64x2048 .f32 := k0_pay59 (V103 m ρ c) (V112 m ρ c) (WL m c 1) (WL m c 2)
def V138 (c : Dev nD) : FVec F S64x512 .f32 := k0_pay60 (V103 m ρ c)
def V140 (c : Dev nD) : FVec F S512x512 .f32 := k0_pay61 (WC m c 0)
def V141 (c : Dev nD) : FVec F S64x512 .f32 := k0_pay62 (V103 m ρ c) (V112 m ρ c) (WL m c 1) (WL m c 2)

/-- The activated 512-column block `a` of the device's rows. -/
def YV (c : Dev nD) (a : Fin 4) : FVec F S64x512 .bf16 := match a with
  | ⟨0, _⟩ => k0_pay63 (V138 m ρ c) (V140 m c) (V141 m ρ c) (constant S64x512 .f32 0x00000000#32)
  | ⟨1, _⟩ => k0_pay68 (V132 m ρ c) (V138 m ρ c) (WC m c 1)
  | ⟨2, _⟩ => k0_pay73 (V132 m ρ c) (V138 m ρ c) (WC m c 2)
  | ⟨_ + 3, _⟩ => k0_pay79 (V132 m ρ c) (V138 m ρ c) (WC m c 3)

set_option backward.proofsInPublic true in
/-- The activated rows, in sixteen blocks of 128 columns. -/
def YB (c : Dev nD) : Vec F S16x64x128 .bf16 :=
  fun i => YV m ρ c ⟨(i 0).val / 4, by have h0 : (i 0).val < 16 := (i 0).isLt; omega⟩
    (ix2 (i 1) ⟨128 * ((i 0).val % 4) + (i 2).val, by have h2 : (i 2).val < 128 := (i 2).isLt; omega⟩)

set_option backward.proofsInPublic true in
/-- What the first phase leaves: block `k` of plane `pl c`'s columns from each plane. -/
def RB (c : Dev nD) : Vec F S4x4x64x128 .bf16 :=
  fun i => YB m ρ (dv (i 0) (sl c)) (ix3 ⟨4 * (pl c).val + (i 1).val, by
    have h1 : (i 1).val < 4 := (i 1).isLt
    have := (pl c).isLt
    omega⟩ (i 2) (i 3))

set_option backward.proofsInPublic true in
/-- What the second phase sends: for place `s`, that place's 64 columns from the four planes, two planes to a block. -/
def SB (c : Dev nD) : Vec F S8x2x64x128 .bf16 :=
  fun i => RB m ρ c (ix4 ⟨2 * (i 1).val + (i 3).val / 64, by
      have h1 : (i 1).val < 2 := (i 1).isLt
      have h3 : (i 3).val < 128 := (i 3).isLt
      omega⟩ ⟨(i 0).val / 2, by have h0 : (i 0).val < 8 := (i 0).isLt; omega⟩ (i 2)
    ⟨64 * ((i 0).val % 2) + (i 3).val % 64, by omega⟩)

/-- What the second phase leaves. -/
def DB (c : Dev nD) : Vec F S8x2x64x128 .bf16 := fun i => SB m ρ (dv (pl c) (i 0)) (ix4 (sl c) (i 1) (i 2) (i 3))

set_option backward.proofsInPublic true in
/-- The device's result: its 64 columns of every row, in the wide format. -/
def OB (c : Dev nD) : Vec F S2048x64 .f32 :=
  fun i => FloatOps.extf .f32 (by decide) (YB m ρ ⟨(i 0).val / 64, by have h0 : (i 0).val < 2048 := (i 0).isLt; simp only [nD]; omega⟩
    (ix3 ⟨4 * (pl c).val + (sl c).val / 2, by have := (pl c).isLt; have := (sl c).isLt; omega⟩
      ⟨(i 0).val % 64, by omega⟩
      ⟨64 * ((sl c).val % 2) + (i 1).val, by have h1 : (i 1).val < 64 := (i 1).isLt; omega⟩))

/-! ## The slots as the kernel names them -/

abbrev wSl (o : Fin 3 → ℕ) (h : ∀ a, o a + S1x512x2048.size a ≤ S4x512x2048.size a) : Memref sig .tc .vmem S512x2048 .f32 :=
  (wM.slice (Rect.unit (s := S4x512x2048) o S1x512x2048.size h) (fun _ => rfl)).squeeze S512x2048 squeezes_S1x512x2048_S512x2048
abbrev gSl (o : Fin 2 → ℕ) (h : ∀ a, o a + S512x2048.size a ≤ S2048x2048.size a) : Memref sig .tc .hbm S512x2048 .f32 :=
  gM.slice (Rect.unit (s := S2048x2048) o S512x2048.size h) (fun _ => rfl)
abbrev ySl (o : Fin 3 → ℕ) (h : ∀ a, o a + S4x64x128.size a ≤ S16x64x128.size a) : Memref sig .tc .vmem S4x64x128 .bf16 :=
  yM.slice (Rect.unit (s := S16x64x128) o S4x64x128.size h) (fun _ => rfl)
abbrev rSl (o : Fin 4 → ℕ) (h : ∀ a, o a + S1x4x64x128.size a ≤ S4x4x64x128.size a) : Memref sig .tc .vmem S4x64x128 .bf16 :=
  (rM.slice (Rect.unit (s := S4x4x64x128) o S1x4x64x128.size h) (fun _ => rfl)).squeeze S4x64x128 squeezes_S1x4x64x128_S4x64x128
abbrev sSl (o : Fin 4 → ℕ) (h : ∀ a, o a + S1x2x64x128.size a ≤ S8x2x64x128.size a) : Memref sig .tc .vmem S2x64x128 .bf16 :=
  (sM.slice (Rect.unit (s := S8x2x64x128) o S1x2x64x128.size h) (fun _ => rfl)).squeeze S2x64x128 squeezes_S1x2x64x128_S2x64x128
abbrev dSl (o : Fin 4 → ℕ) (h : ∀ a, o a + S1x2x64x128.size a ≤ S8x2x64x128.size a) : Memref sig .tc .vmem S2x64x128 .bf16 :=
  (dM.slice (Rect.unit (s := S8x2x64x128) o S1x2x64x128.size h) (fun _ => rfl)).squeeze S2x64x128 squeezes_S1x2x64x128_S2x64x128

/-! ## Amounts -/

abbrev NW : ℕ := (wSl ![0, 0, 0] inb_S4x512x2048_S1x512x2048_0_0_0).view.dmaCredit
abbrev N1 : ℕ := (ySl ![0, 0, 0] inb_S16x64x128_S4x64x128_0_0_0).view.dmaCredit
abbrev N2 : ℕ := (sSl ![0, 0, 0, 0] inb_S8x2x64x128_S1x2x64x128_0_0_0_0).view.dmaCredit

theorem amount_wSl (o h) : (wSl o h).view.dmaCredit = NW := rfl
theorem amount_ySl (o h) : (ySl o h).view.dmaCredit = N1 := rfl
theorem amount_rSl (o h) : (rSl o h).view.dmaCredit = N1 := rfl
theorem amount_sSl (o h) : (sSl o h).view.dmaCredit = N2 := rfl
theorem amount_dSl (o h) : (dSl o h).view.dmaCredit = N2 := rfl

theorem NW_pos : 0 < NW := View.dmaCredit_pos _ (by decide)
theorem N1_pos : 0 < N1 := View.dmaCredit_pos _ (by decide)
theorem N2_pos : 0 < N2 := View.dmaCredit_pos _ (by decide)

/-! ## The schedule -/

/-- The duties of a cell's one round. -/
def dut (g : GSem nD τ sig) : Finset Dty := match gk g with
  | .idle => ∅
  | .bar => Finset.univ.filter fun d => d ≠ .inl (pl g.1.1) ∧ d ≠ .inr (sl g.1.1)
  | .w _ => {.inl 0}
  | .a i => if i = pl g.1.1 then ∅ else {.inl 0}
  | .b i => if i = pl g.1.1 then ∅ else {.inl 0}
  | .c i => if i = sl g.1.1 then ∅ else {.inl 0}
  | .d i => if i = sl g.1.1 then ∅ else {.inl 0}

/-- What a duty of the barrier hands over: the payer's landing slot for the device signalled. -/
def barPay (c : Dev nD) : Dty → sProp 𝕄
  | .inl a => iprop(∃ f, rPts (F := F) (dv a (sl c)) (pl c) f)
  | .inr s => iprop(∃ f, dPts (F := F) (dv (pl c) s) (sl c) f)

/-- What a cell's duty hands over. -/
def pay (g : GSem nD τ sig) (d : Dty) : sProp 𝕄 := match gk g with
  | .idle => iprop(emp)
  | .bar => barPay (F := F) g.1.1 d
  | .w i => iprop(wPts (F := F) g.1.1 i (WB m g.1.1) ∗ gPts (F := F) g.1.1 i (wgt m g.1.1))
  | .a i => yPts (F := F) g.1.1 i (YB m ρ g.1.1)
  | .b i => rPts (F := F) g.1.1 i (RB m ρ g.1.1)
  | .c i => sPts (F := F) g.1.1 i (SB m ρ g.1.1)
  | .d i => dPts (F := F) g.1.1 i (DB m ρ g.1.1)

def amt (g : GSem nD τ sig) : ℕ := match gk g with
  | .idle => 1 | .bar => 1 | .w _ => NW | .a _ => N1 | .b _ => N1 | .c _ => N2 | .d _ => N2

theorem amt_pos (g : GSem nD τ sig) : 0 < amt g := by
  unfold amt
  split
  · exact Nat.one_pos
  · exact Nat.one_pos
  · exact NW_pos
  · exact N1_pos
  · exact N1_pos
  · exact N2_pos
  · exact N2_pos

/-- Every cell has one round. -/
def Rd : Rounds.Schedule (GSem nD τ sig) Dty 𝕄 where
  duties g r := if r = 0 then dut g else ∅
  unitless _ := False
  amount g _ _ := amt g
  payload g _ d := pay (F := F) m ρ g d
  amount_pos g _ _ _ := amt_pos g

instance barPay_storable (c : Dev nD) (d : Dty) : BI.Storable (upEmb : UEmb _ 𝕄) (barPay (F := F) c d) := by
  cases d <;> (simp only [barPay]; infer_instance)

instance pay_storable (g : GSem nD τ sig) (r : ℕ) (d : Dty) :
    BI.Storable (upEmb : UEmb _ 𝕄) ((Rd (F := F) m ρ).payload g r d) := by
  show BI.Storable (upEmb : UEmb _ 𝕄) (pay (F := F) m ρ g d)
  unfold pay
  cases gk g <;> dsimp only <;> infer_instance

section Facts

variable (c : Dev nD)

theorem duties_late (g : GSem nD τ sig) (r : ℕ) (hr : 1 ≤ r) : (Rd (F := F) m ρ).duties g r = ∅ :=
  if_neg (by omega)
theorem duties_zero (g : GSem nD τ sig) : (Rd (F := F) m ρ).duties g 0 = dut g := rfl

theorem gk_bar : gk (barCell c) = .bar := rfl
theorem gk_w (i) : gk (wCell c i) = .w i := by rw [gk_tc, kind_w]
theorem gk_a (i) : gk (aCell c i) = .a i := by rw [gk_tc, kind_a]
theorem gk_b (i) : gk (bCell c i) = .b i := by rw [gk_tc, kind_b]
theorem gk_c (i) : gk (cCell c i) = .c i := by rw [gk_tc, kind_c]
theorem gk_d (i) : gk (dCell c i) = .d i := by rw [gk_tc, kind_d]

theorem dut_bar : dut (barCell c) = Finset.univ.filter fun d => d ≠ .inl (pl c) ∧ d ≠ .inr (sl c) := by
  unfold dut; rw [gk_bar]
theorem dut_w (i) : dut (wCell c i) = {.inl 0} := by unfold dut; rw [gk_w]
theorem dut_a (i) : dut (aCell c i) = if i = pl c then ∅ else {.inl 0} := by unfold dut; rw [gk_a]
theorem dut_b (i) : dut (bCell c i) = if i = pl c then ∅ else {.inl 0} := by unfold dut; rw [gk_b]
theorem dut_c (i) : dut (cCell c i) = if i = sl c then ∅ else {.inl 0} := by unfold dut; rw [gk_c]
theorem dut_d (i) : dut (dCell c i) = if i = sl c then ∅ else {.inl 0} := by unfold dut; rw [gk_d]

theorem amt_bar : amt (barCell c) = 1 := by unfold amt; rw [gk_bar]
theorem amt_w (i) : amt (wCell c i) = NW := by unfold amt; rw [gk_w]
theorem amt_a (i) : amt (aCell c i) = N1 := by unfold amt; rw [gk_a]
theorem amt_b (i) : amt (bCell c i) = N1 := by unfold amt; rw [gk_b]
theorem amt_c (i) : amt (cCell c i) = N2 := by unfold amt; rw [gk_c]
theorem amt_d (i) : amt (dCell c i) = N2 := by unfold amt; rw [gk_d]

theorem pay_bar (d) : pay (F := F) m ρ (barCell c) d = barPay (F := F) c d := by unfold pay; rw [gk_bar]
theorem pay_w (i d) : pay (F := F) m ρ (wCell c i) d = iprop(wPts (F := F) c i (WB m c) ∗ gPts (F := F) c i (wgt m c)) := by
  unfold pay; rw [gk_w]
theorem pay_a (i d) : pay (F := F) m ρ (aCell c i) d = yPts (F := F) c i (YB m ρ c) := by unfold pay; rw [gk_a]
theorem pay_b (i d) : pay (F := F) m ρ (bCell c i) d = rPts (F := F) c i (RB m ρ c) := by unfold pay; rw [gk_b]
theorem pay_c (i d) : pay (F := F) m ρ (cCell c i) d = sPts (F := F) c i (SB m ρ c) := by unfold pay; rw [gk_c]
theorem pay_d (i d) : pay (F := F) m ρ (dCell c i) d = dPts (F := F) c i (DB m ρ c) := by unfold pay; rw [gk_d]

end Facts

/-! ## Levels, and what is owed at launch -/

/-- One waiting name per TensorCore cell. -/
def Lw (g : GSem nD τ sig) : Finset Unit := if g.1.2 = .tc then {()} else ∅
theorem Lw_tc (c : Dev nD) (sm : SemLoc sig) : Lw ((c : Thread nD τ), sm) = {()} := if_pos rfl
theorem Lw_of_ne (g : GSem nD τ sig) (h : g.1.2 ≠ .tc) : Lw g = ∅ := if_neg h

/-- A device waits on its weights, then the barrier, then the first phase, then the second. -/
def lv : GSem nD τ sig → Unit → ℕ := fun g _ => match gk g with
  | .bar => 1 | .b _ => 2 | .d _ => 3 | _ => 0

/-- The first phase's send to plane `a`. -/
def O1 (c : Dev nD) (a : Fin 4) : CellTallies nD τ sig Unit :=
  if a = pl c then 0 else tallyAt (bCell (dv a (sl c)) (pl c)) () N1
/-- The second phase's send to place `s`. -/
def O2 (c : Dev nD) (s : Fin 8) : CellTallies nD τ sig Unit :=
  if s = sl c then 0 else tallyAt (dCell (dv (pl c) s) (sl c)) () N2

set_option backward.proofsInPublic true in
/-- The plane addressed by a device's `j`th barrier signal, -/
def pA (c : Dev nD) (j : ℕ) : Fin 4 := ⟨((pl c).val + j) % 4, Nat.mod_lt _ (by decide)⟩
set_option backward.proofsInPublic true in
/-- and the place. -/
def pS (c : Dev nD) (j : ℕ) : Fin 8 := ⟨((sl c).val + j) % 8, Nat.mod_lt _ (by decide)⟩

/-- One signal at the barrier of a device. -/
abbrev OB1 (c' : Dev nD) : CellTallies nD τ sig Unit := tallyAt (barCell c') () 1

/-- What is owed once the barrier has been signalled, -/
def OS (c : Dev nD) : CellTallies nD τ sig Unit :=
  O2 c 7 + O2 c 6 + O2 c 5 + O2 c 4 + O2 c 3 + O2 c 2 + O2 c 1 + O2 c 0 + O1 c 3 + O1 c 2 + O1 c 1 + O1 c 0
/-- and at launch. -/
def O₀ (c : Dev nD) : CellTallies nD τ sig Unit :=
  OS c + OB1 (dv (pl c) (pS c 7)) + OB1 (dv (pl c) (pS c 6)) + OB1 (dv (pl c) (pS c 5)) + OB1 (dv (pl c) (pS c 4))
    + OB1 (dv (pl c) (pS c 3)) + OB1 (dv (pl c) (pS c 2)) + OB1 (dv (pl c) (pS c 1))
    + OB1 (dv (pA c 3) (sl c)) + OB1 (dv (pA c 2) (sl c)) + OB1 (dv (pA c 1) (sl c))

end Cert.A2A
end
end
-- ==== Proof.Slots.lean ====
/-
Where the slots lie in their buffers, and what each copy delivers.
-/
module

public import proofs.«01_k».proof.Proof.Common
public import Idealize.ShloMosaic.Lib.Pipeline.Value
public import Idealize.ShloMosaic.Lib.Pipeline.ValueKit.Geometry

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents through a view -/

/-- A buffer whose view was overwritten with what another contents reads there, agrees with that contents. -/
theorem write_agree {κ : Kind} {sp : Space} {s : Shape} {e : EltTy} {Val : EltTy → Type} (v : View sig κ sp s e)
    (f G : v.ty.Contents Val) (w : s.Idx → Val e) (h : ∀ x, w x = v.read Val G x) :
    ∀ i ∈ v.set, v.write Val f w Finset.univ i = G i := fun i hi => by
  obtain ⟨x, rfl⟩ := View.exists_emb_of_mem_set v hi
  rw [View.write_emb_of_mem _ _ (Finset.mem_univ x), h, View.read_apply, cast_cast, cast_eq]

/-! ## Where the slots lie -/

theorem sq_ab {a b : ℕ} (h : (⟨2, ![a, b]⟩ : Shape).numel = (⟨3, ![1, a, b]⟩ : Shape).numel) (j : (⟨2, ![a, b]⟩ : Shape).Idx) :
    Shape.reshapeEquiv h j = ix3 (⟨0, Nat.one_pos⟩ : Fin 1) (j 0) (j 1) := by
  conv_lhs => rw [eq_ix2 j]
  exact reshapeEquiv_ix2_1ab h _ _

theorem sq_abc {a b c : ℕ} (h : (⟨3, ![a, b, c]⟩ : Shape).numel = (⟨4, ![1, a, b, c]⟩ : Shape).numel) (j : (⟨3, ![a, b, c]⟩ : Shape).Idx) :
    Shape.reshapeEquiv h j = ix4 (⟨0, Nat.one_pos⟩ : Fin 1) (j 0) (j 1) (j 2) := by
  conv_lhs => rw [eq_ix3 j]
  exact reshapeEquiv_ix3_1abc h _ _ _

theorem wSl_emb (b : Fin 4) (o h) (ho : o = ![b.val, 0, 0]) (j : S512x2048.Idx) :
    ((wSl o h).view.emb j : S4x512x2048.Idx) = ix3 b (j 0) (j 1) := by
  subst ho
  refine (congrArg (Rect.unit (s := S4x512x2048) ![b.val, 0, 0] S1x512x2048.size h).emb (sq_ab _ j)).trans ?_
  funext a
  refine Fin.ext ?_
  refine (ValueKit.rect_emb_unit_val _ _ _ _ _).trans ?_
  fin_cases a <;> simp

theorem gSl_emb (b : Fin 4) (o h) (ho : o = ![512 * b.val, 0]) (j : S512x2048.Idx) :
    (((gSl o h).view.emb j : S2048x2048.Idx) 0).val = 512 * b.val + (j 0).val
      ∧ (((gSl o h).view.emb j : S2048x2048.Idx) 1).val = (j 1).val := by
  subst ho
  constructor
  · show ((Rect.unit (s := S2048x2048) ![512 * b.val, 0] S512x2048.size h).emb j 0).val = _
    rw [ValueKit.rect_emb_unit_val]; rfl
  · show ((Rect.unit (s := S2048x2048) ![512 * b.val, 0] S512x2048.size h).emb j 1).val = _
    rw [ValueKit.rect_emb_unit_val]; simp

theorem ySl_emb (b : Fin 4) (o h) (ho : o = ![4 * b.val, 0, 0]) (j : S4x64x128.Idx) :
    (((ySl o h).view.emb j : S16x64x128.Idx) 0).val = 4 * b.val + (j 0).val
      ∧ ((ySl o h).view.emb j : S16x64x128.Idx) 1 = j 1 ∧ ((ySl o h).view.emb j : S16x64x128.Idx) 2 = j 2 := by
  subst ho
  refine ⟨?_, Fin.ext ?_, Fin.ext ?_⟩
  · show ((Rect.unit (s := S16x64x128) ![4 * b.val, 0, 0] S4x64x128.size h).emb j 0).val = _
    rw [ValueKit.rect_emb_unit_val]; rfl
  · show ((Rect.unit (s := S16x64x128) ![4 * b.val, 0, 0] S4x64x128.size h).emb j 1).val = _
    rw [ValueKit.rect_emb_unit_val]; simp
  · show ((Rect.unit (s := S16x64x128) ![4 * b.val, 0, 0] S4x64x128.size h).emb j 2).val = _
    rw [ValueKit.rect_emb_unit_val]; simp

theorem rSl_emb (b : Fin 4) (o h) (ho : o = ![b.val, 0, 0, 0]) (j : S4x64x128.Idx) :
    ((rSl o h).view.emb j : S4x4x64x128.Idx) = ix4 b (j 0) (j 1) (j 2) := by
  subst ho
  refine (congrArg (Rect.unit (s := S4x4x64x128) ![b.val, 0, 0, 0] S1x4x64x128.size h).emb (sq_abc _ j)).trans ?_
  funext a
  refine Fin.ext ?_
  refine (ValueKit.rect_emb_unit_val _ _ _ _ _).trans ?_
  fin_cases a <;> simp

theorem sSl_emb (b : Fin 8) (o h) (ho : o = ![b.val, 0, 0, 0]) (j : S2x64x128.Idx) :
    ((sSl o h).view.emb j : S8x2x64x128.Idx) = ix4 b (j 0) (j 1) (j 2) := by
  subst ho
  refine (congrArg (Rect.unit (s := S8x2x64x128) ![b.val, 0, 0, 0] S1x2x64x128.size h).emb (sq_abc _ j)).trans ?_
  funext a
  refine Fin.ext ?_
  refine (ValueKit.rect_emb_unit_val _ _ _ _ _).trans ?_
  fin_cases a <;> simp

theorem dSl_emb (b : Fin 8) (o h) (ho : o = ![b.val, 0, 0, 0]) (j : S2x64x128.Idx) :
    ((dSl o h).view.emb j : S8x2x64x128.Idx) = ix4 b (j 0) (j 1) (j 2) := sSl_emb b o h ho j

/-- An index is in a unit-axis slot exactly when its leading coordinate is the slot's. -/
theorem mem_unit4 {n a b c : ℕ} (k : Fin n) (o : Fin 4 → ℕ) (ho : o = ![k.val, 0, 0, 0])
    (h : ∀ x, o x + (![1, a, b, c] : Fin 4 → ℕ) x ≤ (![n, a, b, c] : Fin 4 → ℕ) x) (i : (⟨4, ![n, a, b, c]⟩ : Shape).Idx) :
    i ∈ (Rect.unit (s := ⟨4, ![n, a, b, c]⟩) o ![1, a, b, c] h).set ↔ (i 0).val = k.val := by
  subst ho
  rw [Rect.mem_set_unit]
  constructor
  · intro hi
    have h0 := hi 0
    simp only [Matrix.cons_val_zero] at h0
    omega
  · intro hi x
    have h1 : (i 1).val < a := (i 1).isLt
    have h2 : (i 2).val < b := (i 2).isLt
    have h3 : (i 3).val < c := (i 3).isLt
    fin_cases x <;> simp <;> omega

theorem wSl_set (b : Fin 4) (o h) (ho : o = ![b.val, 0, 0]) : (wSl o h).view.set = wSet b := by
  ext i
  rw [show (wSl o h).view.set = (Rect.unit (s := S4x512x2048) o S1x512x2048.size h).set from
    (View.set_reshape _ _).trans (View.set_slice_whole _ _)]
  subst ho
  rw [Rect.mem_set_unit, wSet, Finset.mem_filter]
  constructor
  · intro hi
    have h0 : b.val ≤ (i 0).val ∧ (i 0).val < b.val + 1 := hi 0
    exact ⟨Finset.mem_univ _, by omega⟩
  · rintro ⟨-, hi⟩ x
    have h1 : (i 1).val < 512 := (i 1).isLt
    have h2 : (i 2).val < 2048 := (i 2).isLt
    fin_cases x <;> simp <;> omega

theorem gSl_set (b : Fin 4) (o h) (ho : o = ![512 * b.val, 0]) : (gSl o h).view.set = gSet b := by
  ext i
  rw [show (gSl o h).view.set = (Rect.unit (s := S2048x2048) o S512x2048.size h).set from View.set_slice_whole _ _]
  subst ho
  rw [Rect.mem_set_unit, gSet, Finset.mem_filter]
  constructor
  · intro hi
    have h0 : 512 * b.val ≤ (i 0).val ∧ (i 0).val < 512 * b.val + 512 := hi 0
    exact ⟨Finset.mem_univ _, by omega⟩
  · rintro ⟨-, hi⟩ x
    have h1 : (i 1).val < 2048 := (i 1).isLt
    fin_cases x <;> simp <;> omega

theorem ySl_set (b : Fin 4) (o h) (ho : o = ![4 * b.val, 0, 0]) : (ySl o h).view.set = ySet b := by
  ext i
  rw [show (ySl o h).view.set = (Rect.unit (s := S16x64x128) o S4x64x128.size h).set from View.set_slice_whole _ _]
  subst ho
  rw [Rect.mem_set_unit, ySet, Finset.mem_filter]
  constructor
  · intro hi
    have h0 : 4 * b.val ≤ (i 0).val ∧ (i 0).val < 4 * b.val + 4 := hi 0
    exact ⟨Finset.mem_univ _, by omega⟩
  · rintro ⟨-, hi⟩ x
    have h1 : (i 1).val < 64 := (i 1).isLt
    have h2 : (i 2).val < 128 := (i 2).isLt
    fin_cases x <;> simp <;> omega

theorem rSl_set (b : Fin 4) (o h) (ho : o = ![b.val, 0, 0, 0]) : (rSl o h).view.set = rSet b := by
  ext i
  rw [show (rSl o h).view.set = (Rect.unit (s := S4x4x64x128) o S1x4x64x128.size h).set from
    (View.set_reshape _ _).trans (View.set_slice_whole _ _), rSet, Finset.mem_filter]
  exact (mem_unit4 b o ho h i).trans (by simp)

theorem sSl_set (b : Fin 8) (o h) (ho : o = ![b.val, 0, 0, 0]) : (sSl o h).view.set = sSet b := by
  ext i
  rw [show (sSl o h).view.set = (Rect.unit (s := S8x2x64x128) o S1x2x64x128.size h).set from
    (View.set_reshape _ _).trans (View.set_slice_whole _ _), sSet, Finset.mem_filter]
  exact (mem_unit4 b o ho h i).trans (by simp)

theorem dSl_set (b : Fin 8) (o h) (ho : o = ![b.val, 0, 0, 0]) : (dSl o h).view.set = sSet b := sSl_set b o h ho

/-! ## What the copies deliver -/

/-- A weight block arriving holds its rows. -/
theorem copy_w (c : Dev nD) (b : Fin 4) (o h o' h') (ho : o = ![b.val, 0, 0]) (ho' : o' = ![512 * b.val, 0]) (f : Buf (Elt F) (LW c)) :
    ∀ i ∈ wSet b, (wSl o h).view.write (Elt F) f ((gSl o' h').view.read (Elt F) (wgt m c)) Finset.univ i = WB m c i := by
  rw [← wSl_set b o h ho]
  refine write_agree (wSl o h).view f (WB m c) _ fun x => ?_
  have e1 : (wSl o h).view.read (Elt F) (WB m c) x = WB m c ((wSl o h).view.emb x) := rfl
  have e2 : (gSl o' h').view.read (Elt F) (wgt m c) x = (wgt m c : Vec F S2048x2048 .f32) ((gSl o' h').view.emb x) := rfl
  rw [e1, e2, wSl_emb b o h ho]
  refine congrArg (wgt m c : Vec F S2048x2048 .f32) ?_
  obtain ⟨h0, h1⟩ := gSl_emb b o' h' ho' x
  funext a
  refine Fin.ext ?_
  fin_cases a
  · exact h0
  · exact h1

/-- A first-phase block arriving in plane `a` holds what the receiver expects from the sender's plane. -/
theorem copy_r (c : Dev nD) (a : Fin 4) (o h o' h') (ho : o = ![(pl c).val, 0, 0, 0]) (ho' : o' = ![4 * a.val, 0, 0])
    (f : Buf (Elt F) (LR (dv a (sl c)))) :
    ∀ i ∈ rSet (pl c), (rSl o h).view.write (Elt F) f ((ySl o' h').view.read (Elt F) (YB m ρ c)) Finset.univ i = RB m ρ (dv a (sl c)) i := by
  rw [← rSl_set (pl c) o h ho]
  refine write_agree (rSl o h).view f (RB m ρ (dv a (sl c))) _ fun x => ?_
  have e1 : (rSl o h).view.read (Elt F) (RB m ρ (dv a (sl c))) x = RB m ρ (dv a (sl c)) ((rSl o h).view.emb x) := rfl
  have e2 : (ySl o' h').view.read (Elt F) (YB m ρ c) x = YB m ρ c ((ySl o' h').view.emb x) := rfl
  rw [e1, e2, rSl_emb (pl c) o h ho]
  show YB m ρ c _ = YB m ρ (dv (pl c) (sl (dv a (sl c)))) _
  rw [sl_dv, dv_pl_sl]
  refine congrArg (YB m ρ c) ?_
  obtain ⟨h0, h1, h2⟩ := ySl_emb a o' h' ho' x
  funext k
  fin_cases k
  · refine Fin.ext ?_
    show _ = 4 * (pl (dv a (sl c))).val + (x 0).val
    rw [pl_dv]; exact h0
  · exact h1
  · exact h2

/-- A second-phase block arriving at place `s` holds what the receiver expects from the sender's place. -/
theorem copy_d (c : Dev nD) (s : Fin 8) (o h o' h') (ho : o = ![(sl c).val, 0, 0, 0]) (ho' : o' = ![s.val, 0, 0, 0])
    (f : Buf (Elt F) (LD (dv (pl c) s))) :
    ∀ i ∈ sSet (sl c), (dSl o h).view.write (Elt F) f ((sSl o' h').view.read (Elt F) (SB m ρ c)) Finset.univ i = DB m ρ (dv (pl c) s) i := by
  rw [← dSl_set (sl c) o h ho]
  refine write_agree (dSl o h).view f (DB m ρ (dv (pl c) s)) _ fun x => ?_
  have e1 : (dSl o h).view.read (Elt F) (DB m ρ (dv (pl c) s)) x = DB m ρ (dv (pl c) s) ((dSl o h).view.emb x) := rfl
  have e2 : (sSl o' h').view.read (Elt F) (SB m ρ c) x = SB m ρ c ((sSl o' h').view.emb x) := rfl
  rw [e1, e2, dSl_emb (sl c) o h ho, sSl_emb s o' h' ho']
  show SB m ρ c _ = SB m ρ (dv (pl (dv (pl c) s)) (sl c)) (ix4 (sl (dv (pl c) s)) _ _ _)
  rw [pl_dv, sl_dv, dv_pl_sl]
  rfl

end Cert.A2A
end
end
-- ==== Proof.Steps.lean ====
/-
The rules a device's program is run by: cells by name, waits for a whole round, conditionals, loads and stores.
-/
module

public import proofs.«01_k».proof.Proof.Slots

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running a program on device `c`'s TensorCore to a postcondition. -/
abbrev WP {α : Type} (c : Dev nD) (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

theorem WP_ret {α : Type} (c : Dev nD) (a : α) (Q : α → sProp 𝕄) : WP (F := F) c (.ret a) Q = iprop(|={Set.univ}=> Q a) := wp_ret _ _ _ a Q

theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun x => WP c (k x) Q) := wp_bind _ _ _ p k Q

/-- A rule for a program's head, as a rule for the one effect. -/
theorem lift_step {c : Dev nD} {β : Type} {a : β} {P T W : sProp 𝕄} {Q : β → sProp 𝕄}
    (h : P ⊢ iprop((T -∗ WP c (.ret a) Q) -∗ W)) : P ⊢ iprop((T -∗ Q a) -∗ W) := by
  iintro HP Hk
  iapply h $$ HP
  iintro HT
  rw [WP_ret]; imodintro
  iapply Hk; iexact HT

/-! ## Cells by name -/

def ci : SemLoc sig → Fin 29
  | .reg _ => 0
  | .dma s => ⟨(s.val - 1) % 29, Nat.mod_lt _ (by decide)⟩

set_option backward.proofsInPublic true in
def csem (k : Fin 29) : SemLoc sig := if k.val = 0 then .reg barS else .dma ⟨k.val + 1, by have := k.isLt; show _ < 30; omega⟩
abbrev kcell (x : Dev nD × Fin 29) : GSem nD τ sig := ((x.1 : Thread nD τ), csem x.2)

/-- The cells' levels, as known facts. -/
@[irreducible] def Lev : sProp 𝕄 := levAts Lw lv

instance Lev_persistent : BI.Persistent (Lev (F := F)) := by unfold Lev; infer_instance

/-- The cells' invariants under the names `K`, that every cell's round is reached, and the levels. -/
def Rec (K : Dev nD × Fin 29 → ℕ) : sProp 𝕄 :=
  iprop((bigSep Finset.univ fun x : Dev nD × Fin 29 => cellInv ER (Rd (F := F) m ρ) (K x) (kcell x))
    ∗ (bigSep Finset.univ fun x : Dev nD × Fin 29 => reached ER (kcell x) 0) ∗ Lev (F := F))

instance Rec_persistent (K) : BI.Persistent (Rec (F := F) m ρ K) := by unfold Rec; infer_instance

/-- The cells in use. -/
def InUse (sm : SemLoc sig) : Prop := csem (ci sm) = sm
theorem use_bar : InUse (.reg barS) := by unfold InUse; decide
theorem use_w (b) : InUse (.dma (wI b)) := by unfold InUse; revert b; decide
theorem use_a (b) : InUse (.dma (aI b)) := by unfold InUse; revert b; decide
theorem use_b (b) : InUse (.dma (bI b)) := by unfold InUse; revert b; decide
theorem use_c (b) : InUse (.dma (cI b)) := by unfold InUse; revert b; decide
theorem use_d (b) : InUse (.dma (dI b)) := by unfold InUse; revert b; decide

theorem Rec_inv (K) (c : Dev nD) {sm : SemLoc sig} (h : InUse sm) :
    Rec (F := F) m ρ K ⊢ cellInv ER (Rd (F := F) m ρ) (K (c, ci sm)) ((c : Thread nD τ), sm) := by
  unfold Rec
  rw [← show kcell (c, ci sm) = ((c : Thread nD τ), sm) from congrArg (Prod.mk (c : Thread nD τ)) h]
  have he : (bigSep Finset.univ fun x : Dev nD × Fin 29 => cellInv ER (Rd (F := F) m ρ) (K x) (kcell x)) ⊢ cellInv ER (Rd (F := F) m ρ) (K (c, ci sm)) (kcell (c, ci sm)) :=
    bigSep_elim (Finset.mem_univ (c, ci sm))
  iintro ⟨H, -, -⟩
  iapply he; iexact H

theorem Rec_reached (K) (c : Dev nD) {sm : SemLoc sig} (h : InUse sm) :
    Rec (F := F) m ρ K ⊢ reached ER ((c : Thread nD τ), sm) 0 := by
  unfold Rec
  rw [← show kcell (c, ci sm) = ((c : Thread nD τ), sm) from congrArg (Prod.mk (c : Thread nD τ)) h]
  have he : (bigSep Finset.univ fun x : Dev nD × Fin 29 => reached ER (kcell x) 0) ⊢ (reached ER (kcell (c, ci sm)) 0 : sProp 𝕄) :=
    bigSep_elim (Finset.mem_univ (c, ci sm))
  iintro ⟨-, H, -⟩
  iapply he; iexact H

theorem Rec_lev (K : Dev nD × Fin 29 → ℕ) : Rec (F := F) m ρ K ⊢ Lev (F := F) := by
  unfold Rec
  iintro ⟨-, -, H⟩
  iexact H

/-! ## What is owed, and where a cell stands -/

/-- A device owes `O`, whatever it is waiting on. -/
def owesE (c : Dev nD) (O : CellTallies nD τ sig Unit) : sProp 𝕄 := iprop(∃ W, owes (c : Thread nD τ) O W)

/-- A cell with no round left, in its owner's hands. -/
def closable (g : GSem nD τ sig) : sProp 𝕄 := iprop(∃ R, ⌜∀ r, R ≤ r → (Rd (F := F) m ρ).duties g r = ∅⌝ ∗ atPos ER g R ∅ 0)

/-- Everything owed lies above level `n`. -/
def Above (n : ℕ) (O : CellTallies nD τ sig Unit) : Prop := ∀ g u, 0 < O g u → g.1.2 = .tc ∧ n < lv g u

theorem above_zero (n) : Above n 0 := fun g u h => absurd h (by show ¬ 0 < 0; exact Nat.lt_irrefl 0)
theorem above_add {n O O'} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n} (c : Dev nD) (sm) (k : ℕ) (h : n < lv ((c : Thread nD τ), sm) ()) : Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
theorem lv_bar (c : Dev nD) : lv (barCell c) () = 1 := by unfold lv; rw [gk_bar]
theorem lv_w (c : Dev nD) (i) : lv (wCell c i) () = 0 := by unfold lv; rw [gk_w]
theorem lv_b (c : Dev nD) (i) : lv (bCell c i) () = 2 := by unfold lv; rw [gk_b]
theorem lv_d (c : Dev nD) (i) : lv (dCell c i) () = 3 := by unfold lv; rw [gk_d]
theorem above_O1 (c a) {n} (h : n < 2) : Above n (O1 c a) := by
  unfold O1; split
  · exact above_zero n
  · exact above_tally _ _ _ (by rw [lv_b]; exact h)
theorem above_O2 (c a) {n} (h : n < 3) : Above n (O2 c a) := by
  unfold O2; split
  · exact above_zero n
  · exact above_tally _ _ _ (by rw [lv_d]; exact h)
theorem above_OB1 (c) {n} (h : n < 1) : Above n (OB1 c) := above_tally _ _ _ (by rw [lv_bar]; exact h)

theorem mayWait (c : Dev nD) (sm : SemLoc sig) (O) (h : Above (lv ((c : Thread nD τ), sm) ()) O) :
    Lev (F := F) ⊢ MayWait (c : Thread nD τ) sm () O := by
  unfold Lev
  exact MayOwe.of_cut (L := Lw) (lev := lv) (lv ((c : Thread nD τ), sm) ())
    (fun p hp => by rw [Finset.mem_singleton.mp hp, Lw_tc]; exact Finset.mem_singleton_self _)
    (fun g u hg => by unfold Lw; rw [if_pos (h g u hg).1]; exact Finset.mem_singleton_self _)
    (fun p hp => by rw [Finset.mem_singleton.mp hp])
    (fun g u hg => (h g u hg).2)

/-! ## Waiting for a cell's one round -/

/-- Waiting for the whole of a cell's round: its payloads arrive and the cell has no round left. -/
theorem wait_all (K) (c : Dev nD) {sm : SemLoc sig} (hu : InUse sm) {w : TpuEff nD τ sig (Elt F) Λ₀ .tc PUnit} {k' : ℕ}
    (hw : ∀ X : PUnit → sProp 𝕄, wpE' (defs₀ (F := F)) 𝒱₀ (c : Thread nD τ) none [] Set.univ w X = waitSpec (c : Thread nD τ) Set.univ sm k' X)
    (hk : k' = (Rd (F := F) m ρ).expect ((c : Thread nD τ), sm) 0) {O} (hO : Above (lv ((c : Thread nD τ), sm) ()) O) {Q : PUnit → sProp 𝕄} :
    iprop(Rec (F := F) m ρ K ∗ cred (tallyAt ((c : Thread nD τ), sm) () k') ∗ atPos ER ((c : Thread nD τ), sm) 0 ∅ 0 ∗ owesE (F := F) c O)
      ⊢ iprop((((bigSep (dut ((c : Thread nD τ), sm)) fun d => pay (F := F) m ρ ((c : Thread nD τ), sm) d)
          ∗ closable (F := F) m ρ ((c : Thread nD τ), sm) ∗ owesE (F := F) c O) -∗ Q ⟨⟩) -∗ WP c (Prog.lift w) Q) := by
  refine lift_step (c := c) (a := PUnit.unit) ?_
  have hM0 : Lev (F := F) ⊢ MayWait (c : Thread nD τ) sm () O := mayWait (F := F) c sm O hO
  have hM1 := @Rec_lev F _ m ρ K
  have hM : Rec (F := F) m ρ K ⊢ MayWait (c : Thread nD τ) sm () O := hM1.trans hM0
  unfold owesE closable
  iintro ⟨#HR, Hc, Hat, ⟨%W, HO⟩⟩ Hk
  iapply (Rounds.wp_wait_rest_token 𝒱₀ ER (Rd (F := F) m ρ) (c : Thread nD τ) none (κ := K (c, ci sm)) hw (Set.mem_univ _) ()
      (O := O) (W := W) (R := 0) (m := 0) (T := ∅) ((Nat.zero_add _).trans hk)) $$ [Hc HO Hat]
  · isplitr; · iapply (Rec_inv m ρ K c hu); iexact HR
    isplitl [Hc]; · iexact Hc
    isplitl [HO]; · iexact HO
    isplitr; · iapply hM; iexact HR
    iexact Hat
  iintro ⟨HO, Hat, -, Hpay⟩
  iapply Hk
  isplitl [Hpay]
  · rw [Finset.sdiff_empty]; iexact Hpay
  isplitl [Hat]
  · iexists 1
    isplitr; · ipureintro; exact fun r hr => duties_late m ρ _ r hr
    iexact Hat
  iexists _; iexact HO

/-- A cell that nothing is ever sent to has no round left. -/
theorem closable_idle (g : GSem nD τ sig) (h : dut g = ∅) : atPos ER g 0 ∅ 0 ⊢ closable (F := F) m ρ g := by
  unfold closable
  iintro H
  iexists 0
  isplitr
  · ipureintro; intro r _
    by_cases hr : r = 0
    · subst hr; exact h
    · exact duties_late m ρ g r (Nat.one_le_iff_ne_zero.mpr hr)
  iexact H

theorem close (K) (c : Dev nD) {sm : SemLoc sig} (hu : InUse sm) :
    iprop(Rec (F := F) m ρ K ∗ closable (F := F) m ρ ((c : Thread nD τ), sm)) ⊢ iprop(|={Set.univ}=> semVal ((c : Thread nD τ), sm) 0) := by
  unfold closable
  iintro ⟨#HR, ⟨%R, %h, Hat⟩⟩
  iapply (Rounds.cell_close ER (Rd (F := F) m ρ) (Set.mem_univ (K (c, ci sm))) (fun h => h) (R := R) h) $$ [Hat]
  isplitr; · iapply (Rec_inv m ρ K c hu); iexact HR
  iexact Hat

/-- A round of one duty is waited for at that duty's amount. -/
theorem expect_of (g : GSem nD τ sig) (h : dut g = {.inl 0}) : (Rd (F := F) m ρ).expect g 0 = amt g := by
  unfold Rounds.Schedule.expect Rounds.Schedule.amountOf
  rw [show (Rd (F := F) m ρ).duties g 0 = {.inl 0} from h, Finset.sum_singleton]
  rfl

/-! ## Conditionals -/

/-- A program piece that is run on a condition and then joins what follows. -/
theorem wp_cond {c : Dev nD} {b : BitVec 1} {α : Type} {X : b = 1#1 → Prog (TpuEff nD τ sig (Elt F) Λ₀ .tc) α}
    {J : Prog (TpuEff nD τ sig (Elt F) Λ₀ .tc) α} {P T : sProp 𝕄} {Q : α → sProp 𝕄}
    (hX : ∀ h, P ⊢ iprop((T -∗ WP c J Q) -∗ WP c (X h) Q)) (hE : b ≠ 1#1 → P ⊢ T) :
    P ⊢ iprop((T -∗ WP c J Q) -∗ WP c (dite (b = 1#1) X (fun _ => J)) Q) := by
  by_cases h : b = 1#1
  · rw [dif_pos h]; exact hX h
  · rw [dif_neg h]
    iintro HP Hk
    iapply Hk
    iapply (hE h); iexact HP

/-- The same, of one effect. -/
theorem wp_cond1 {c : Dev nD} {b : BitVec 1} {α : Type} {op : b = 1#1 → TpuEff nD τ sig (Elt F) Λ₀ .tc PUnit}
    {J : Prog (TpuEff nD τ sig (Elt F) Λ₀ .tc) α} {P T : sProp 𝕄} {Q : α → sProp 𝕄}
    (hX : ∀ h, ∀ Q' : PUnit → sProp 𝕄, P ⊢ iprop((T -∗ Q' ⟨⟩) -∗ WP c (Prog.lift (op h)) Q')) (hE : b ≠ 1#1 → P ⊢ T) :
    P ⊢ iprop((T -∗ WP c J Q) -∗ WP c (dite (b = 1#1) (fun h => Prog.lift (op h) >>= fun _ => J) (fun _ => J)) Q) :=
  wp_cond (fun h => by rw [WP_bind]; exact hX h (fun _ => WP c J Q)) hE

/-- A resource of every index but one. -/
def off {n : ℕ} (k b : Fin n) (P : sProp 𝕄) : sProp 𝕄 := if b = k then iprop(emp) else P
theorem off_pos {n : ℕ} {k b : Fin n} (h : b = k) (P : sProp 𝕄) : off k b P = iprop(emp) := if_pos h
theorem off_neg {n : ℕ} {k b : Fin n} (h : b ≠ k) (P : sProp 𝕄) : off k b P = P := if_neg h

/-! ## Loads and stores -/

/-- A buffer's elements `S` hold `G` wherever `P` says. -/
def upto (ℓ : Loc nD τ sig) (S : Finset (Idx ℓ)) (P : Idx ℓ → Prop) (G : Buf (Elt F) ℓ) : sProp 𝕄 :=
  iprop(∃ f, ⌜∀ i ∈ S, P i → f i = G i⌝ ∗ (ℓ ↦[S]{fullShare} f))

theorem upto_none (ℓ : Loc nD τ sig) (S P G) (h : ∀ i ∈ S, ¬ P i) (f) : (ℓ ↦[S]{fullShare} f) ⊢ upto (F := F) ℓ S P G := by
  unfold upto
  iintro H; iexists f
  isplitr; · ipureintro; exact fun i hi hp => absurd hp (h i hi)
  iexact H

theorem upto_all (ℓ : Loc nD τ sig) (S P G) (h : ∀ i ∈ S, P i) : upto (F := F) ℓ S P G ⊢ (ℓ ↦[S]{fullShare} G) := by
  unfold upto
  iintro ⟨%f, %hf, H⟩
  rw [show (ℓ ↦[S]{fullShare} G : sProp 𝕄) = (ℓ ↦[S]{fullShare} f) from (pointsTo_congr (fun i hi => hf i hi (h i hi))).symm]
  iexact H

theorem wp_ld {c : Dev nD} {cs : CoreSpace} {s : Shape} {e : EltTy} {M : Memref sig .tc cs s e} {r : LoadRect s} {hl : M.view.LoadsAt r}
    {S : Finset (Idx (M.view.loc (c : Thread nD τ)))} {f : Buf (Elt F) (M.view.loc (c : Thread nD τ))} {Q : (r.shape.Idx → Elt F e) → sProp 𝕄}
    (hS : M.view.setOn r.set ⊆ S) :
    (M.view.loc (c : Thread nD τ) ↦[S]{fullShare} f)
      ⊢ iprop(((M.view.loc (c : Thread nD τ) ↦[S]{fullShare} f) -∗ Q (M.view.readAt (Elt F) r f)) -∗ WP c (Prog.lift (.load M r hl)) Q) :=
  lift_step (wp_load 𝒱₀ (c : Thread nD τ) none Set.univ (m := M) (k := .ret) hS)

theorem wp_ld_upto {c : Dev nD} {cs : CoreSpace} {s : Shape} {e : EltTy} {M : Memref sig .tc cs s e} {r : LoadRect s} {hl : M.view.LoadsAt r}
    {S : Finset (Idx (M.view.loc (c : Thread nD τ)))} {P} {G : Buf (Elt F) (M.view.loc (c : Thread nD τ))} {Q : (r.shape.Idx → Elt F e) → sProp 𝕄}
    (hS : M.view.setOn r.set ⊆ S) :
    upto (M.view.loc (c : Thread nD τ)) S P G
      ⊢ iprop((∀ v, upto (M.view.loc (c : Thread nD τ)) S P G -∗ Q v) -∗ WP c (Prog.lift (.load M r hl)) Q) := by
  unfold upto
  iintro ⟨%f, %hf, H⟩ Hk
  iapply (wp_ld (M := M) hS) $$ H
  iintro H
  iapply Hk
  iexists f
  isplitr; · ipureintro; exact hf
  iexact H

theorem wp_st_upto {c : Dev nD} {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    {S : Finset (Idx ((M.access r).loc (c : Thread nD τ)))} {P P'} {G : Buf (Elt F) ((M.access r).loc (c : Thread nD τ))} {Q : PUnit → sProp 𝕄}
    (hS : (M.access r).set ⊆ S) (hw : ∀ x, w x = (M.access r).read (Elt F) G x) (hP : ∀ i ∈ S, P' i → i ∈ (M.access r).set ∨ P i) :
    upto ((M.access r).loc (c : Thread nD τ)) S P G
      ⊢ iprop((upto ((M.access r).loc (c : Thread nD τ)) S P' G -∗ Q ⟨⟩) -∗ WP c (Prog.lift (.store M r w Finset.univ hx hm)) Q) := by
  refine lift_step (c := c) (a := PUnit.unit) ?_
  unfold upto
  iintro ⟨%f, %hf, H⟩ Hk
  iapply (wp_store 𝒱₀ (c : Thread nD τ) none Set.univ (m := M) (r := r) (Mk := Finset.univ) (k := .ret) hS) $$ H
  iintro H
  iapply Hk
  iexists _
  isplitr
  rotate_left
  · iexact H
  · ipureintro
    intro i hi hp
    by_cases hmem : i ∈ (M.access r).set
    · exact write_agree (M.access r) f G w hw i hmem
    · rw [View.write_of_not_mem _ _ _ hmem]
      exact hf i hi ((hP i hi hp).resolve_left hmem)

end Cert.A2A
end
end
-- ==== Proof.Proto.lean ====
/-
The steps of the exchange: signals, copies and waits, with what each hands over.
-/
module

public import proofs.«01_k».proof.Proof.Steps

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores as the kernel names them -/

theorem semW (b : Fin 4) (o) (h : ∀ x, o x + S1.size x ≤ S4.size x) (ho : o = ![b.val]) :
    ((cc0_scratch5.slice (Rect.unit (s := S4) o S1.size h)).squeeze S_ squeezes_S1_S_).sem = wI b := by
  subst ho; revert b; decide
theorem semA (b : Fin 4) (o) (h : ∀ x, o x + S1.size x ≤ S4.size x) (ho : o = ![b.val]) :
    ((cc0_scratch6.slice (Rect.unit (s := S4) o S1.size h)).squeeze S_ squeezes_S1_S_).sem = aI b := by
  subst ho; revert b; decide
theorem semB (b : Fin 4) (o) (h : ∀ x, o x + S1.size x ≤ S4.size x) (ho : o = ![b.val]) :
    ((cc0_scratch7.slice (Rect.unit (s := S4) o S1.size h)).squeeze S_ squeezes_S1_S_).sem = bI b := by
  subst ho; revert b; decide
theorem semC (b : Fin 8) (o) (h : ∀ x, o x + S1.size x ≤ S8.size x) (ho : o = ![b.val]) :
    ((cc0_scratch8.slice (Rect.unit (s := S8) o S1.size h)).squeeze S_ squeezes_S1_S_).sem = cI b := by
  subst ho; revert b; decide
theorem semD (b : Fin 8) (o) (h : ∀ x, o x + S1.size x ≤ S8.size x) (ho : o = ![b.val]) :
    ((cc0_scratch9.slice (Rect.unit (s := S8) o S1.size h)).squeeze S_ squeezes_S1_S_).sem = dI b := by
  subst ho; revert b; decide

/-! ## Slots in a device's hands -/

theorem wPts_eq (c : Dev nD) (b : Fin 4) (o h) (ho : o = ![b.val, 0, 0]) (f) :
    ((wSl o h).view.loc (c : Thread nD τ) ↦[(wSl o h).view.set]{fullShare} f : sProp 𝕄) = wPts c b f := by
  unfold wPts; exact congrArg (fun S => (LW c ↦[S]{fullShare} f : sProp 𝕄)) (wSl_set b o h ho)
theorem gPts_eq (c : Dev nD) (b : Fin 4) (o h) (ho : o = ![512 * b.val, 0]) (f) :
    ((gSl o h).view.loc (c : Thread nD τ) ↦[(gSl o h).view.set]{fullShare} f : sProp 𝕄) = gPts c b f := by
  unfold gPts; exact congrArg (fun S => (LG c ↦[S]{fullShare} f : sProp 𝕄)) (gSl_set b o h ho)
theorem yPts_eq (c : Dev nD) (b : Fin 4) (o h) (ho : o = ![4 * b.val, 0, 0]) (f) :
    ((ySl o h).view.loc (c : Thread nD τ) ↦[(ySl o h).view.set]{fullShare} f : sProp 𝕄) = yPts c b f := by
  unfold yPts; exact congrArg (fun S => (LY c ↦[S]{fullShare} f : sProp 𝕄)) (ySl_set b o h ho)
theorem rPts_eq (c : Dev nD) (b : Fin 4) (o h) (ho : o = ![b.val, 0, 0, 0]) (f) :
    ((rSl o h).view.loc (c : Thread nD τ) ↦[(rSl o h).view.set]{fullShare} f : sProp 𝕄) = rPts c b f := by
  unfold rPts; exact congrArg (fun S => (LR c ↦[S]{fullShare} f : sProp 𝕄)) (rSl_set b o h ho)
theorem sPts_eq (c : Dev nD) (b : Fin 8) (o h) (ho : o = ![b.val, 0, 0, 0]) (f) :
    ((sSl o h).view.loc (c : Thread nD τ) ↦[(sSl o h).view.set]{fullShare} f : sProp 𝕄) = sPts c b f := by
  unfold sPts; exact congrArg (fun S => (LS c ↦[S]{fullShare} f : sProp 𝕄)) (sSl_set b o h ho)
theorem dPts_eq (c : Dev nD) (b : Fin 8) (o h) (ho : o = ![b.val, 0, 0, 0]) (f) :
    ((dSl o h).view.loc (c : Thread nD τ) ↦[(dSl o h).view.set]{fullShare} f : sProp 𝕄) = dPts c b f := by
  unfold dPts; exact congrArg (fun S => (LD c ↦[S]{fullShare} f : sProp 𝕄)) (dSl_set b o h ho)

/-! ## Duties -/

theorem dut_a' (c : Dev nD) {i} (h : i ≠ pl c) : dut (aCell c i) = {.inl 0} := (dut_a c i).trans (if_neg h)
theorem dut_b' (c : Dev nD) {i} (h : i ≠ pl c) : dut (bCell c i) = {.inl 0} := (dut_b c i).trans (if_neg h)
theorem dut_c' (c : Dev nD) {i} (h : i ≠ sl c) : dut (cCell c i) = {.inl 0} := (dut_c c i).trans (if_neg h)
theorem dut_d' (c : Dev nD) {i} (h : i ≠ sl c) : dut (dCell c i) = {.inl 0} := (dut_d c i).trans (if_neg h)
theorem mem_dut {g : GSem nD τ sig} (h : dut g = {.inl 0}) : (.inl 0 : Dty) ∈ (Rd (F := F) m ρ).duties g 0 := by
  rw [duties_zero, h]; exact Finset.mem_singleton_self _
theorem bigSep_dut {g : GSem nD τ sig} (h : dut g = {.inl 0}) :
    (bigSep (dut g) fun d => pay (F := F) m ρ g d) = pay (F := F) m ρ g (.inl 0) := by rw [h, bigSep_singleton]

/-- The right to signal, once, as duty `d` of a cell. -/
abbrev tok (g : GSem nD τ sig) (d : Dty) : sProp 𝕄 := dutyTok ER g 0 d

/-! ## The barrier -/

theorem ne_pA (c : Dev nD) (j : ℕ) (hj : j % 4 ≠ 0) : pA c j ≠ pl c := fun h => by
  have := congrArg Fin.val h
  have hp := (pl c).isLt
  simp only [pA] at this
  omega
theorem ne_pS (c : Dev nD) (j : ℕ) (hj : j % 8 ≠ 0) : pS c j ≠ sl c := fun h => by
  have := congrArg Fin.val h
  have hp := (sl c).isLt
  simp only [pS] at this
  omega

/-- Signalling another plane's device: the landing slot for its columns goes with it. -/
theorem sig_plane (K) (c : Dev nD) (a : Fin 4) (ha : a ≠ pl c) {n : Dev nD} (hn : n = dv a (sl c)) {O} {Q : PUnit → sProp 𝕄} :
    iprop(Rec (F := F) m ρ K ∗ owesE c (O + OB1 (dv a (sl c))) ∗ tok (barCell (dv a (sl c))) (.inl (pl c)) ∗ (∃ f, rPts (F := F) c a f))
      ⊢ iprop((owesE c O -∗ Q ⟨⟩) -∗ WP c (semSignalWord n barS 1#32) Q) := by
  subst hn
  unfold semSignalWord
  refine lift_step (c := c) (a := PUnit.unit) ?_
  unfold owesE
  iintro ⟨#HR, ⟨%W, HO⟩, Ht, Hp⟩ Hk
  iapply (Rounds.wp_signal 𝒱₀ ER (Rd (F := F) m ρ) (c : Thread nD τ) none (dst := (dv a (sl c) : Thread nD τ)) (κ := K (dv a (sl c), ci (.reg barS)))
      (d := .inl (pl c)) (by
        rw [duties_zero, dut_bar, Finset.mem_filter]
        refine ⟨Finset.mem_univ _, ?_, fun h => by cases h⟩
        rw [pl_dv]; exact fun h => ha (Sum.inl.inj h).symm)
      ((amt_bar (dv a (sl c))).trans (by decide)) () O rfl) $$ [HO Ht Hp]
  · isplitr; · iapply (Rec_inv m ρ K (dv a (sl c)) use_bar); iexact HR
    isplitl [HO]; · iexact HO
    isplitl [Ht]; · iexact Ht
    isplitl [Hp]
    · rw [show (Rd (F := F) m ρ).payload (barCell (dv a (sl c))) 0 (.inl (pl c)) = iprop(∃ f, rPts (F := F) c a f) from by
        show pay (F := F) m ρ (barCell (dv a (sl c))) (.inl (pl c)) = _
        rw [pay_bar]; unfold barPay; dsimp only; rw [sl_dv, pl_dv, dv_pl_sl]]
      iexact Hp
    · iapply (Rec_reached m ρ K (dv a (sl c)) use_bar); iexact HR
  iintro HO
  iapply Hk
  iexists _; iexact HO

/-- Signalling another place of the plane, likewise. -/
theorem sig_place (K) (c : Dev nD) (s : Fin 8) (hs : s ≠ sl c) {n : Dev nD} (hn : n = dv (pl c) s) {O} {Q : PUnit → sProp 𝕄} :
    iprop(Rec (F := F) m ρ K ∗ owesE c (O + OB1 (dv (pl c) s)) ∗ tok (barCell (dv (pl c) s)) (.inr (sl c)) ∗ (∃ f, dPts (F := F) c s f))
      ⊢ iprop((owesE c O -∗ Q ⟨⟩) -∗ WP c (semSignalWord n barS 1#32) Q) := by
  subst hn
  unfold semSignalWord
  refine lift_step (c := c) (a := PUnit.unit) ?_
  unfold owesE
  iintro ⟨#HR, ⟨%W, HO⟩, Ht, Hp⟩ Hk
  iapply (Rounds.wp_signal 𝒱₀ ER (Rd (F := F) m ρ) (c : Thread nD τ) none (dst := (dv (pl c) s : Thread nD τ)) (κ := K (dv (pl c) s, ci (.reg barS)))
      (d := .inr (sl c)) (by
        rw [duties_zero, dut_bar, Finset.mem_filter]
        refine ⟨Finset.mem_univ _, (fun h => by cases h), ?_⟩
        rw [sl_dv]; exact fun h => hs (Sum.inr.inj h).symm)
      ((amt_bar (dv (pl c) s)).trans (by decide)) () O rfl) $$ [HO Ht Hp]
  · isplitr; · iapply (Rec_inv m ρ K (dv (pl c) s) use_bar); iexact HR
    isplitl [HO]; · iexact HO
    isplitl [Ht]; · iexact Ht
    isplitl [Hp]
    · rw [show (Rd (F := F) m ρ).payload (barCell (dv (pl c) s)) 0 (.inr (sl c)) = iprop(∃ f, dPts (F := F) c s f) from by
        show pay (F := F) m ρ (barCell (dv (pl c) s)) (.inr (sl c)) = _
        rw [pay_bar]; unfold barPay; dsimp only; rw [sl_dv, pl_dv, dv_pl_sl]]
      iexact Hp
    · iapply (Rec_reached m ρ K (dv (pl c) s) use_bar); iexact HR
  iintro HO
  iapply Hk
  iexists _; iexact HO

/-- The slots the barrier hands over. -/
def barGot (c : Dev nD) : sProp 𝕄 :=
  iprop((bigSep Finset.univ fun a : Fin 4 => off (pl c) a (iprop(∃ f, rPts (F := F) (dv a (sl c)) (pl c) f)))
    ∗ (bigSep Finset.univ fun s : Fin 8 => off (sl c) s (iprop(∃ f, dPts (F := F) (dv (pl c) s) (sl c) f))))

theorem barGot_eq (c : Dev nD) : (bigSep (dut (barCell c)) fun d => pay (F := F) m ρ (barCell c) d) = barGot (F := F) c := by
  unfold barGot
  rw [dut_bar, bigSep_filter, bigSep_univ_sum]
  refine congrArg₂ BIBase.sep (bigSep_congr fun a _ => ?_) (bigSep_congr fun s _ => ?_)
  · by_cases h : a = pl c
    · rw [off_pos h, if_neg (fun hh => hh.1 (by rw [h]))]; rfl
    · rw [off_neg h, if_pos ⟨fun hh => h (Sum.inl.inj hh), fun hh => by cases hh⟩, pay_bar]; rfl
  · by_cases h : s = sl c
    · rw [off_pos h, if_neg (fun hh => hh.2 (by rw [h]))]; rfl
    · rw [off_neg h, if_pos ⟨(fun hh => by cases hh), fun hh => h (Sum.inr.inj hh)⟩, pay_bar]; rfl

theorem card_bar (c : Dev nD) : (dut (barCell c)).card = 10 := by rw [dut_bar]; revert c; decide +kernel

/-- Waiting at the barrier for the ten signals. -/
theorem wait_bar (K) (c : Dev nD) {O} (hO : Above 1 O) {Q : PUnit → sProp 𝕄} :
    iprop(Rec (F := F) m ρ K ∗ cred (tallyAt (barCell c) () 10) ∗ atPos ER (barCell c) 0 ∅ 0 ∗ owesE (F := F) c O)
      ⊢ iprop(((barGot (F := F) c ∗ closable (F := F) m ρ (barCell c) ∗ owesE (F := F) c O) -∗ Q ⟨⟩) -∗ WP c (semWaitWord barS 10#32) Q) := by
  have he : (10 : ℕ) = (Rd (F := F) m ρ).expect (barCell c) 0 := by
    unfold Rounds.Schedule.expect Rounds.Schedule.amountOf
    rw [duties_zero]
    show _ = ∑ d ∈ dut (barCell c), amt (barCell c)
    rw [Finset.sum_const, card_bar, amt_bar]; rfl
  have h := wait_all (F := F) m ρ K c (sm := .reg barS) use_bar (wpE_semWait_eq 𝒱₀ (c : Thread nD τ) none Set.univ (sem := barS) (k := 10)) he (O := O)
    (by rw [lv_bar]; exact hO) (Q := Q)
  rw [barGot_eq] at h
  exact h

/-! ## The weights -/

theorem copyw (K) (c : Dev nD) (b : Fin 4) {o h o' h'} (ho : o = ![b.val, 0, 0]) (ho' : o' = ![512 * b.val, 0]) {s : DmaSem sig} (hs : s = wI b)
    {hsrc hdst hsem} {Q : PUnit → sProp 𝕄} :
    iprop(Rec (F := F) m ρ K ∗ gPts c b (wgt m c) ∗ (∃ f, wPts (F := F) c b f) ∗ tok (wCell c b) (.inl 0))
      ⊢ iprop((cred (tallyAt (wCell c b) () NW) -∗ Q ⟨⟩)
        -∗ WP c (Prog.lift (.enqueueDma (gSl o' h') (.here (wSl o h)) (.dma s) hsrc hdst hsem)) Q) := by
  subst hs
  refine lift_step (c := c) (a := PUnit.unit) ?_
  iintro ⟨#HR, Hg, ⟨%f, Hw⟩, Ht⟩ Hk
  iapply (Rounds.wp_copy_pointsTo 𝒱₀ ER (Rd (F := F) m ρ) (c : Thread nD τ) none (κ := K (c, ci (.dma (wI b)))) (r := 0) (d := .inl 0) (fs := wgt m c) (fd := f)
      (q := fullShare) (src := gSl o' h') (dst := wSl o h)
      (mem_dut m ρ (dut_w c b)) () NW rfl (amt_w c b) (by
        show _ ⊢ pay (F := F) m ρ (wCell c b) (.inl 0)
        rw [pay_w, wPts_eq c b o h ho, gPts_eq c b o' h' ho']
        unfold wPts
        rw [pointsTo_congr (copy_w m c b o h o' h' ho ho' f)])) $$ [Hg Hw Ht]
  · isplitr; · iapply (Rec_inv m ρ K c (use_w b)); iexact HR
    isplitl [Hg]; · rw [gPts_eq c b o' h' ho']; iexact Hg
    isplitl [Hw]; · rw [wPts_eq c b o h ho]; iexact Hw
    isplitl [Ht]; · iexact Ht
    · iapply (Rec_reached m ρ K c (use_w b)); iexact HR
  iexact Hk

theorem waitw (K) (c : Dev nD) (b : Fin 4) {o h o' h'} {s : DmaSem sig} (hs : s = wI b) {O} (hO : Above 0 O)
    {hsrc hdst} {Q : PUnit → sProp 𝕄} :
    iprop(Rec (F := F) m ρ K ∗ cred (tallyAt (wCell c b) () NW) ∗ atPos ER (wCell c b) 0 ∅ 0 ∗ owesE (F := F) c O)
      ⊢ iprop(((wPts c b (WB m c) ∗ gPts c b (wgt m c)) ∗ closable (F := F) m ρ (wCell c b) ∗ owesE (F := F) c O -∗ Q ⟨⟩)
        -∗ WP c (Prog.lift (.waitDma2 s (gSl o' h') (wSl o h) hsrc hdst)) Q) := by
  subst hs
  have h := wait_all (F := F) m ρ K c (sm := .dma (wI b)) (use_w b) (k' := NW)
    (wpE_waitDma2_eq 𝒱₀ (c : Thread nD τ) none Set.univ (sem := wI b) (src := gSl o' h') (dst := wSl o h) (hsrc := hsrc) (hdst := hdst))
    ((amt_w c b).symm.trans (expect_of m ρ _ (dut_w c b)).symm) (O := O) (by rw [lv_w]; exact hO) (Q := Q)
  rw [bigSep_dut m ρ (dut_w c b), pay_w] at h
  exact h

/-! ## The first phase -/

theorem send1 (K) (c : Dev nD) (a : Fin 4) (ha : a ≠ pl c) {o h o' h'} (ho : o = ![4 * a.val, 0, 0]) (ho' : o' = ![(pl c).val, 0, 0, 0])
    {n : Dev nD} (hn : n = dv a (sl c)) {sS sR : DmaSem sig} (hS : sS = aI a) (hR : sR = bI (pl c)) {hsc hsrc hdst hsem} {O} {Q : PUnit → sProp 𝕄} :
    iprop(Rec (F := F) m ρ K ∗ yPts c a (YB m ρ c) ∗ (∃ f, rPts (F := F) (dv a (sl c)) (pl c) f)
        ∗ tok (aCell c a) (.inl 0) ∗ tok (bCell (dv a (sl c)) (pl c)) (.inl 0) ∗ owesE (F := F) c (O + O1 c a))
      ⊢ iprop((cred (tallyAt (aCell c a) () N1) ∗ owesE (F := F) c O -∗ Q ⟨⟩)
        -∗ WP c (Prog.lift (.enqueueDma (ySl o h) (.remote (Dev.tc n) (rSl o' h') (.dma sS) hsc) (.dma sR) hsrc hdst hsem)) Q) := by
  subst hn hS hR
  refine lift_step (c := c) (a := PUnit.unit) ?_
  unfold owesE
  iintro ⟨#HR, Hy, ⟨%f, Hr⟩, Ht, Ht', ⟨%W, HO⟩⟩ Hk
  iapply (Rounds.wp_send_pointsTo 𝒱₀ ER (Rd (F := F) m ρ) (c : Thread nD τ) none (c' := (dv a (sl c) : Thread nD τ)) (κ₁ := K (c, ci (.dma (aI a))))
      (κ₂ := K (dv a (sl c), ci (.dma (bI (pl c))))) (r₁ := 0) (r₂ := 0) (d₁ := .inl 0) (d₂ := .inl 0) (fs := YB m ρ c) (fd := f)
      (q := fullShare) (src := ySl o h) (dst := rSl o' h')
      (mem_dut m ρ (dut_a' c ha)) (mem_dut m ρ (dut_b' (dv a (sl c)) (by rw [pl_dv]; exact ha.symm))) () () N1 rfl
      (amt_a c a) (amt_b (dv a (sl c)) (pl c)) (O₀ := O + O1 c a) O (by unfold O1; rw [if_neg ha]) (W := W) (by
        show _ ⊢ pay (F := F) m ρ (aCell c a) (.inl 0)
        rw [pay_a, yPts_eq c a o h ho]) (by
        show _ ⊢ pay (F := F) m ρ (bCell (dv a (sl c)) (pl c)) (.inl 0)
        rw [pay_b, rPts_eq (dv a (sl c)) (pl c) o' h' ho']
        unfold rPts
        rw [pointsTo_congr (copy_r m ρ c a o' h' o h ho' ho f)])) $$ [Hy Hr Ht Ht' HO]
  · isplitr; · iapply (Rec_inv m ρ K c (use_a a)); iexact HR
    isplitr; · iapply (Rec_inv m ρ K (dv a (sl c)) (use_b (pl c))); iexact HR
    isplitl [Hy]; · rw [yPts_eq c a o h ho]; iexact Hy
    isplitl [Hr]; · rw [rPts_eq (dv a (sl c)) (pl c) o' h' ho']; iexact Hr
    isplitl [HO]; · iexact HO
    isplitl [Ht]; · iexact Ht
    isplitr; · iapply (Rec_reached m ρ K c (use_a a)); iexact HR
    isplitl [Ht']; · iexact Ht'
    · iapply (Rec_reached m ρ K (dv a (sl c)) (use_b (pl c))); iexact HR
  iintro ⟨Hc, HO⟩
  iapply Hk
  isplitl [Hc]; · iexact Hc
  iexists _; iexact HO

theorem wait_b (K) (c : Dev nD) (a : Fin 4) (ha : a ≠ pl c) {o h o' h'} {s : DmaSem sig} (hs : s = bI a) {O} (hO : Above 2 O)
    {hsrc hdst} {Q : PUnit → sProp 𝕄} :
    iprop(Rec (F := F) m ρ K ∗ cred (tallyAt (bCell c a) () N1) ∗ atPos ER (bCell c a) 0 ∅ 0 ∗ owesE (F := F) c O)
      ⊢ iprop((rPts c a (RB m ρ c) ∗ closable (F := F) m ρ (bCell c a) ∗ owesE (F := F) c O -∗ Q ⟨⟩)
        -∗ WP c (Prog.lift (.waitDma2 s (ySl o' h') (rSl o h) hsrc hdst)) Q) := by
  subst hs
  have h := wait_all (F := F) m ρ K c (sm := .dma (bI a)) (use_b a) (k' := N1)
    (wpE_waitDma2_eq 𝒱₀ (c : Thread nD τ) none Set.univ (sem := bI a) (src := ySl o' h') (dst := rSl o h) (hsrc := hsrc) (hdst := hdst))
    ((amt_b c a).symm.trans (expect_of m ρ _ (dut_b' c ha)).symm) (O := O) (by rw [lv_b]; exact hO) (Q := Q)
  rw [bigSep_dut m ρ (dut_b' c ha), pay_b] at h
  exact h

theorem lv_a (c : Dev nD) (i) : lv (aCell c i) () = 0 := by unfold lv; rw [gk_a]
theorem lv_c (c : Dev nD) (i) : lv (cCell c i) () = 0 := by unfold lv; rw [gk_c]

theorem wait_a (K) (c : Dev nD) (a : Fin 4) (ha : a ≠ pl c) {o h o' h'} {s : DmaSem sig} (hs : s = aI a)
    {hsrc hdst} {Q : PUnit → sProp 𝕄} :
    iprop(Rec (F := F) m ρ K ∗ cred (tallyAt (aCell c a) () N1) ∗ atPos ER (aCell c a) 0 ∅ 0 ∗ owesE (F := F) c 0)
      ⊢ iprop((yPts c a (YB m ρ c) ∗ closable (F := F) m ρ (aCell c a) ∗ owesE (F := F) c 0 -∗ Q ⟨⟩)
        -∗ WP c (Prog.lift (.waitDma2 s (rSl o' h') (ySl o h) hsrc hdst)) Q) := by
  subst hs
  have h := wait_all (F := F) m ρ K c (sm := .dma (aI a)) (use_a a) (k' := N1)
    (wpE_waitDma2_eq 𝒱₀ (c : Thread nD τ) none Set.univ (sem := aI a) (src := rSl o' h') (dst := ySl o h) (hsrc := hsrc) (hdst := hdst))
    ((amt_a c a).symm.trans (expect_of m ρ _ (dut_a' c ha)).symm) (O := 0) (above_zero _) (Q := Q)
  rw [bigSep_dut m ρ (dut_a' c ha), pay_a] at h
  exact h

/-! ## The second phase -/

theorem send2 (K) (c : Dev nD) (s : Fin 8) (ha : s ≠ sl c) {o h o' h'} (ho : o = ![s.val, 0, 0, 0]) (ho' : o' = ![(sl c).val, 0, 0, 0])
    {n : Dev nD} (hn : n = dv (pl c) s) {sS sR : DmaSem sig} (hS : sS = cI s) (hR : sR = dI (sl c)) {hsc hsrc hdst hsem} {O} {Q : PUnit → sProp 𝕄} :
    iprop(Rec (F := F) m ρ K ∗ sPts c s (SB m ρ c) ∗ (∃ f, dPts (F := F) (dv (pl c) s) (sl c) f)
        ∗ tok (cCell c s) (.inl 0) ∗ tok (dCell (dv (pl c) s) (sl c)) (.inl 0) ∗ owesE (F := F) c (O + O2 c s))
      ⊢ iprop((cred (tallyAt (cCell c s) () N2) ∗ owesE (F := F) c O -∗ Q ⟨⟩)
        -∗ WP c (Prog.lift (.enqueueDma (sSl o h) (.remote (Dev.tc n) (dSl o' h') (.dma sS) hsc) (.dma sR) hsrc hdst hsem)) Q) := by
  subst hn hS hR
  refine lift_step (c := c) (a := PUnit.unit) ?_
  unfold owesE
  iintro ⟨#HR, Hy, ⟨%f, Hr⟩, Ht, Ht', ⟨%W, HO⟩⟩ Hk
  iapply (Rounds.wp_send_pointsTo 𝒱₀ ER (Rd (F := F) m ρ) (c : Thread nD τ) none (c' := (dv (pl c) s : Thread nD τ)) (κ₁ := K (c, ci (.dma (cI s))))
      (κ₂ := K (dv (pl c) s, ci (.dma (dI (sl c))))) (r₁ := 0) (r₂ := 0) (d₁ := .inl 0) (d₂ := .inl 0) (fs := SB m ρ c) (fd := f)
      (q := fullShare) (src := sSl o h) (dst := dSl o' h')
      (mem_dut m ρ (dut_c' c ha)) (mem_dut m ρ (dut_d' (dv (pl c) s) (by rw [sl_dv]; exact ha.symm))) () () N2 rfl
      (amt_c c s) (amt_d (dv (pl c) s) (sl c)) (O₀ := O + O2 c s) O (by unfold O2; rw [if_neg ha]) (W := W) (by
        show _ ⊢ pay (F := F) m ρ (cCell c s) (.inl 0)
        rw [pay_c, sPts_eq c s o h ho]) (by
        show _ ⊢ pay (F := F) m ρ (dCell (dv (pl c) s) (sl c)) (.inl 0)
        rw [pay_d, dPts_eq (dv (pl c) s) (sl c) o' h' ho']
        unfold dPts
        rw [pointsTo_congr (copy_d m ρ c s o' h' o h ho' ho f)])) $$ [Hy Hr Ht Ht' HO]
  · isplitr; · iapply (Rec_inv m ρ K c (use_c s)); iexact HR
    isplitr; · iapply (Rec_inv m ρ K (dv (pl c) s) (use_d (sl c))); iexact HR
    isplitl [Hy]; · rw [sPts_eq c s o h ho]; iexact Hy
    isplitl [Hr]; · rw [dPts_eq (dv (pl c) s) (sl c) o' h' ho']; iexact Hr
    isplitl [HO]; · iexact HO
    isplitl [Ht]; · iexact Ht
    isplitr; · iapply (Rec_reached m ρ K c (use_c s)); iexact HR
    isplitl [Ht']; · iexact Ht'
    · iapply (Rec_reached m ρ K (dv (pl c) s) (use_d (sl c))); iexact HR
  iintro ⟨Hc, HO⟩
  iapply Hk
  isplitl [Hc]; · iexact Hc
  iexists _; iexact HO

theorem wait_d (K) (c : Dev nD) (a : Fin 8) (ha : a ≠ sl c) {o h o' h'} {s : DmaSem sig} (hs : s = dI a)
    {hsrc hdst} {Q : PUnit → sProp 𝕄} :
    iprop(Rec (F := F) m ρ K ∗ cred (tallyAt (dCell c a) () N2) ∗ atPos ER (dCell c a) 0 ∅ 0 ∗ owesE (F := F) c 0)
      ⊢ iprop((dPts c a (DB m ρ c) ∗ closable (F := F) m ρ (dCell c a) ∗ owesE (F := F) c 0 -∗ Q ⟨⟩)
        -∗ WP c (Prog.lift (.waitDma2 s (sSl o' h') (dSl o h) hsrc hdst)) Q) := by
  subst hs
  have h := wait_all (F := F) m ρ K c (sm := .dma (dI a)) (use_d a) (k' := N2)
    (wpE_waitDma2_eq 𝒱₀ (c : Thread nD τ) none Set.univ (sem := dI a) (src := sSl o' h') (dst := dSl o h) (hsrc := hsrc) (hdst := hdst))
    ((amt_d c a).symm.trans (expect_of m ρ _ (dut_d' c ha)).symm) (O := 0) (above_zero _) (Q := Q)
  rw [bigSep_dut m ρ (dut_d' c ha), pay_d] at h
  exact h

theorem wait_c (K) (c : Dev nD) (a : Fin 8) (ha : a ≠ sl c) {o h o' h'} {s : DmaSem sig} (hs : s = cI a)
    {hsrc hdst} {Q : PUnit → sProp 𝕄} :
    iprop(Rec (F := F) m ρ K ∗ cred (tallyAt (cCell c a) () N2) ∗ atPos ER (cCell c a) 0 ∅ 0 ∗ owesE (F := F) c 0)
      ⊢ iprop((sPts c a (SB m ρ c) ∗ closable (F := F) m ρ (cCell c a) ∗ owesE (F := F) c 0 -∗ Q ⟨⟩)
        -∗ WP c (Prog.lift (.waitDma2 s (dSl o' h') (sSl o h) hsrc hdst)) Q) := by
  subst hs
  have h := wait_all (F := F) m ρ K c (sm := .dma (cI a)) (use_c a) (k' := N2)
    (wpE_waitDma2_eq 𝒱₀ (c : Thread nD τ) none Set.univ (sem := cI a) (src := dSl o' h') (dst := sSl o h) (hsrc := hsrc) (hdst := hdst))
    ((amt_c c a).symm.trans (expect_of m ρ _ (dut_c' c ha)).symm) (O := 0) (above_zero _) (Q := Q)
  rw [bigSep_dut m ρ (dut_c' c ha), pay_c] at h
  exact h

end Cert.A2A
end
end
-- ==== Proof.Cond.lean ====
/-
The conditional sends and waits: nothing is sent to the device itself.
-/
module

public import proofs.«01_k».proof.Proof.Proto

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conditions -/

/-- A device's plane and place, as the words the program computes. -/
def w19 (c : Dev nD) : BitVec 32 := BitVec.ofNat 32 (c.val / 8)
def w20 (c : Dev nD) : BitVec 32 := BitVec.ofNat 32 (c.val % 8)

theorem is19 (c : Dev nD) (a : Fin 4) :
    Scalar.cmpi .ne (Scalar.extui (Scalar.cmpi .ne (w19 c) (BitVec.ofNat 32 a.val)) : BitVec 32) 0#32 = 1#1 ↔ a ≠ pl c := by
  revert c a; decide +kernel
theorem is20 (c : Dev nD) (s : Fin 8) :
    Scalar.cmpi .ne (Scalar.extui (Scalar.cmpi .ne (w20 c) (BitVec.ofNat 32 s.val)) : BitVec 32) 0#32 = 1#1 ↔ s ≠ sl c := by
  revert c s; decide +kernel
theorem is_c1 (c : Dev nD) : k0_cond1 c = 1#1 ↔ (0 : Fin 4) ≠ pl c := by revert c; decide +kernel
theorem is_c2 (c : Dev nD) : k0_cond2 c = 1#1 ↔ (1 : Fin 4) ≠ pl c := by revert c; decide +kernel
theorem is_c3 (c : Dev nD) : k0_cond3 c = 1#1 ↔ (2 : Fin 4) ≠ pl c := by revert c; decide +kernel
theorem is_c4 (c : Dev nD) : k0_cond4 c = 1#1 ↔ (3 : Fin 4) ≠ pl c := by revert c; decide +kernel
theorem is_c9 (c : Dev nD) : k0_cond9 c = 1#1 ↔ (0 : Fin 8) ≠ sl c := by revert c; decide +kernel
theorem is_c10 (c : Dev nD) : k0_cond10 c = 1#1 ↔ (1 : Fin 8) ≠ sl c := by revert c; decide +kernel
theorem is_c11 (c : Dev nD) : k0_cond11 c = 1#1 ↔ (2 : Fin 8) ≠ sl c := by revert c; decide +kernel
theorem is_c12 (c : Dev nD) : k0_cond12 c = 1#1 ↔ (3 : Fin 8) ≠ sl c := by revert c; decide +kernel
theorem is_c13 (c : Dev nD) : k0_cond13 c = 1#1 ↔ (4 : Fin 8) ≠ sl c := by revert c; decide +kernel
theorem is_c14 (c : Dev nD) : k0_cond14 c = 1#1 ↔ (5 : Fin 8) ≠ sl c := by revert c; decide +kernel
theorem is_c15 (c : Dev nD) : k0_cond15 c = 1#1 ↔ (6 : Fin 8) ≠ sl c := by revert c; decide +kernel
theorem is_c16 (c : Dev nD) : k0_cond16 c = 1#1 ↔ (7 : Fin 8) ≠ sl c := by revert c; decide +kernel

/-! ## Conditional sends and waits -/

theorem own_of {n : ℕ} {k b : Fin n} {x : BitVec 1} (hb : x = 1#1 ↔ b ≠ k) (h : x ≠ 1#1) : b = k :=
  Classical.byContradiction fun h' => h (hb.mpr h')

/-- A resource of one index only. -/
def onl {n : ℕ} (k b : Fin n) (P : sProp 𝕄) : sProp 𝕄 := if b = k then P else iprop(emp)
theorem onl_pos {n : ℕ} {k b : Fin n} (h : b = k) (P : sProp 𝕄) : onl k b P = P := if_pos h
theorem onl_neg {n : ℕ} {k b : Fin n} (h : b ≠ k) (P : sProp 𝕄) : onl k b P = iprop(emp) := if_neg h

/-- A column block once its send is started: at its own plane it stays, elsewhere its return is promised. -/
def sent1 (c : Dev nD) (a : Fin 4) : sProp 𝕄 :=
  if a = pl c then yPts c a (YB m ρ c) else cred (tallyAt (aCell c a) () N1)
/-- The same of the second phase. -/
def sent2 (c : Dev nD) (s : Fin 8) : sProp 𝕄 :=
  if s = sl c then iprop(∃ f, sPts (F := F) c s f) else cred (tallyAt (cCell c s) () N2)

/-- The rights to one send of the first phase, -/
def tk1 (c : Dev nD) (a : Fin 4) : sProp 𝕄 := iprop(tok (aCell c a) (.inl 0) ∗ tok (bCell (dv a (sl c)) (pl c)) (.inl 0))
/-- and of the second. -/
def tk2 (c : Dev nD) (s : Fin 8) : sProp 𝕄 := iprop(tok (cCell c s) (.inl 0) ∗ tok (dCell (dv (pl c) s) (sl c)) (.inl 0))

theorem O1_own (c : Dev nD) {a : Fin 4} (h : a = pl c) : O1 c a = 0 := if_pos h
theorem O2_own (c : Dev nD) {s : Fin 8} (h : s = sl c) : O2 c s = 0 := if_pos h

theorem csend1 (K) (c : Dev nD) (a : Fin 4) {b : BitVec 1} (hb : b = 1#1 ↔ a ≠ pl c) {o h} (ho : o = ![4 * a.val, 0, 0])
    {o' : b = 1#1 → Fin 4 → ℕ} {h' : ∀ hh x, o' hh x + S1x4x64x128.size x ≤ S4x4x64x128.size x} (ho' : ∀ hh, o' hh = ![(pl c).val, 0, 0, 0])
    {n : b = 1#1 → Dev nD} (hn : ∀ hh, n hh = dv a (sl c)) {sS : DmaSem sig} {sR : b = 1#1 → DmaSem sig} (hS : sS = aI a) (hR : ∀ hh, sR hh = bI (pl c))
    {hsc : ∀ hh : b = 1#1, _} {hsrc : ∀ hh : b = 1#1, _} {hdst : ∀ hh : b = 1#1, _} {hsem : ∀ hh : b = 1#1, _} {O}
    {α : Type} {J : Prog (TpuEff nD τ sig (Elt F) Λ₀ .tc) α} {Q : α → sProp 𝕄} :
    iprop(Rec (F := F) m ρ K ∗ yPts c a (YB m ρ c) ∗ off (pl c) a (iprop(∃ f, rPts (F := F) (dv a (sl c)) (pl c) f))
        ∗ tk1 c a ∗ owesE (F := F) c (O + O1 c a))
      ⊢ iprop((sent1 m ρ c a ∗ owesE (F := F) c O -∗ WP c J Q)
        -∗ WP c (dite (b = 1#1) (fun hh => Prog.lift (.enqueueDma (ySl o h) (.remote (Dev.tc (n hh)) (rSl (o' hh) (h' hh)) (.dma sS) (hsc hh)) (.dma (sR hh)) (hsrc hh) (hdst hh) (hsem hh)) >>= fun _ => J) (fun _ => J)) Q) := by
  refine wp_cond1 (fun hh Q' => ?_) (fun hh => ?_)
  · have ha := hb.mp hh
    unfold sent1 tk1
    rw [off_neg ha, if_neg ha]
    iintro ⟨#HR, Hy, Hr, ⟨Ht, Ht'⟩, HO⟩ Hk
    iapply (send1 m ρ K c a ha ho (ho' hh) (hn hh) hS (hR hh)) $$ [Hy Hr Ht Ht' HO]
    · iframe; iexact HR
    iexact Hk
  · have ha := own_of hb hh
    unfold sent1 tk1
    rw [if_pos ha, O1_own c ha, add_zero]
    iintro ⟨#HR, Hy, -, -, HO⟩
    iframe

theorem cwait_b (K) (c : Dev nD) (a : Fin 4) {b : BitVec 1} (hb : b = 1#1 ↔ a ≠ pl c) {o h o' h'} {s : DmaSem sig} (hs : s = bI a) {O} (hO : Above 2 O)
    {hsrc hdst} {α : Type} {J : Prog (TpuEff nD τ sig (Elt F) Λ₀ .tc) α} {Q : α → sProp 𝕄} :
    iprop(Rec (F := F) m ρ K ∗ off (pl c) a (cred (tallyAt (bCell c a) () N1)) ∗ atPos ER (bCell c a) 0 ∅ 0 ∗ owesE (F := F) c O)
      ⊢ iprop((off (pl c) a (rPts c a (RB m ρ c)) ∗ closable (F := F) m ρ (bCell c a) ∗ owesE (F := F) c O -∗ WP c J Q)
        -∗ WP c (dite (b = 1#1) (fun _ => Prog.lift (.waitDma2 s (ySl o' h') (rSl o h) hsrc hdst) >>= fun _ => J) (fun _ => J)) Q) := by
  refine wp_cond1 (fun hh Q' => ?_) (fun hh => ?_)
  · have ha := hb.mp hh
    rw [off_neg ha, off_neg ha]
    exact wait_b m ρ K c a ha hs hO
  · have ha := own_of hb hh
    rw [off_pos ha, off_pos ha]
    have hc := closable_idle (F := F) m ρ (bCell c a) ((dut_b c a).trans (if_pos ha))
    iintro ⟨#HR, -, Hat, HO⟩
    isplitr; · iempintro
    isplitl [Hat]; · iapply hc; iexact Hat
    iexact HO

theorem cwait_a (K) (c : Dev nD) (a : Fin 4) {b : BitVec 1} (hb : b = 1#1 ↔ a ≠ pl c) {o h o' h'} {s : DmaSem sig} (hs : s = aI a)
    {hsrc hdst} {α : Type} {J : Prog (TpuEff nD τ sig (Elt F) Λ₀ .tc) α} {Q : α → sProp 𝕄} :
    iprop(Rec (F := F) m ρ K ∗ sent1 m ρ c a ∗ atPos ER (aCell c a) 0 ∅ 0 ∗ owesE (F := F) c 0)
      ⊢ iprop((yPts c a (YB m ρ c) ∗ closable (F := F) m ρ (aCell c a) ∗ owesE (F := F) c 0 -∗ WP c J Q)
        -∗ WP c (dite (b = 1#1) (fun _ => Prog.lift (.waitDma2 s (rSl o' h') (ySl o h) hsrc hdst) >>= fun _ => J) (fun _ => J)) Q) := by
  refine wp_cond1 (fun hh Q' => ?_) (fun hh => ?_)
  · have ha := hb.mp hh
    unfold sent1; rw [if_neg ha]
    exact wait_a m ρ K c a ha hs
  · have ha := own_of hb hh
    unfold sent1; rw [if_pos ha]
    have hc := closable_idle (F := F) m ρ (aCell c a) ((dut_a c a).trans (if_pos ha))
    iintro ⟨#HR, Hy, Hat, HO⟩
    isplitl [Hy]; · iexact Hy
    isplitl [Hat]; · iapply hc; iexact Hat
    iexact HO

theorem cwait_c (K) (c : Dev nD) (a : Fin 8) {b : BitVec 1} (hb : b = 1#1 ↔ a ≠ sl c) {o h o' h'} {s : DmaSem sig} (hs : s = cI a)
    {hsrc hdst} {α : Type} {J : Prog (TpuEff nD τ sig (Elt F) Λ₀ .tc) α} {Q : α → sProp 𝕄} :
    iprop(Rec (F := F) m ρ K ∗ sent2 c a ∗ atPos ER (cCell c a) 0 ∅ 0 ∗ owesE (F := F) c 0)
      ⊢ iprop(((∃ f, sPts (F := F) c a f) ∗ closable (F := F) m ρ (cCell c a) ∗ owesE (F := F) c 0 -∗ WP c J Q)
        -∗ WP c (dite (b = 1#1) (fun _ => Prog.lift (.waitDma2 s (dSl o' h') (sSl o h) hsrc hdst) >>= fun _ => J) (fun _ => J)) Q) := by
  refine wp_cond1 (fun hh Q' => ?_) (fun hh => ?_)
  · have ha := hb.mp hh
    unfold sent2; rw [if_neg ha]
    iintro H Hk
    iapply (wait_c m ρ K c a ha hs) $$ H
    iintro ⟨Hs, Hc, HO⟩
    iapply Hk
    isplitl [Hs]; · iexists _; iexact Hs
    iframe
  · have ha := own_of hb hh
    unfold sent2; rw [if_pos ha]
    have hc := closable_idle (F := F) m ρ (cCell c a) ((dut_c c a).trans (if_pos ha))
    iintro ⟨#HR, Hy, Hat, HO⟩
    isplitl [Hy]; · iexact Hy
    isplitl [Hat]; · iapply hc; iexact Hat
    iexact HO

end Cert.A2A
end
end
-- ==== Proof.Vals.lean ====
/-
What the loads read and the stores write.
-/
module

public import proofs.«01_k».proof.Proof.Cond

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Elements under an access -/

theorem setOn_access {cs : CoreSpace} {s : Shape} {e : EltTy} (M : Memref sig .tc cs s e) (r : Rect s) :
    M.view.setOn r.toLoadRect.set = (M.access r).set := (View.set_slice M.view r).symm

theorem upto_imp {ℓ : Loc nD τ sig} {S : Finset (Idx ℓ)} {P P' : Idx ℓ → Prop} {G : Buf (Elt F) ℓ} (h : ∀ i ∈ S, P' i → P i) :
    upto ℓ S P G ⊢ upto (F := F) ℓ S P' G := by
  unfold upto
  iintro ⟨%f, %hf, H⟩
  iexists f
  isplitr; · ipureintro; exact fun i hi hp => hf i hi (h i hi hp)
  iexact H

theorem acc_y (k : ℕ) (o h) (ho : o = ![k, 0, 0]) (i : S16x64x128.Idx) :
    i ∈ (yM.access (Rect.unit (s := S16x64x128) o S1x64x128.size h)).set ↔ (i 0).val = k := by
  subst ho
  rw [show (yM.access (Rect.unit (s := S16x64x128) ![k, 0, 0] S1x64x128.size h)).set = _ from View.set_slice_whole _ _]
  refine Rect.mem_set_unit.trans ⟨fun H => ?_, fun H a => ?_⟩
  · have := H 0; simp at this; omega
  · have h1 : (i 1).val < 64 := (i 1).isLt
    have h2 : (i 2).val < 128 := (i 2).isLt
    fin_cases a <;> simp <;> omega
theorem acc_y4 (a : Fin 4) (o h) (ho : o = ![4 * a.val, 0, 0]) : (yM.access (Rect.unit (s := S16x64x128) o S4x64x128.size h)).set = ySet a :=
  ySl_set a o h ho
theorem acc_r (b : Fin 4) (o h) (ho : o = ![b.val, 0, 0, 0]) (i : S4x4x64x128.Idx) :
    i ∈ (rM.access (Rect.unit (s := S4x4x64x128) o S1x4x64x128.size h)).set ↔ i ∈ rSet b := by
  subst ho
  rw [show (rM.access (Rect.unit (s := S4x4x64x128) ![b.val, 0, 0, 0] S1x4x64x128.size h)).set = _ from View.set_slice_whole _ _]
  unfold rSet
  rw [Finset.mem_filter]
  refine Rect.mem_set_unit.trans ⟨fun H => ⟨Finset.mem_univ _, ?_⟩, fun H a => ?_⟩
  · have := H 0; simp at this; omega
  · have h0 := H.2
    have h1 : (i 1).val < 4 := (i 1).isLt
    have h2 : (i 2).val < 64 := (i 2).isLt
    have h3 : (i 3).val < 128 := (i 3).isLt
    fin_cases a <;> simp <;> omega
theorem acc_s (b : Fin 8) (k : Fin 2) (o h) (ho : o = ![b.val, k.val, 0, 0]) (i : S8x2x64x128.Idx) :
    i ∈ (sM.access (Rect.unit (s := S8x2x64x128) o S1x1x64x128.size h)).set ↔ (i 0).val = b.val ∧ (i 1).val = k.val := by
  subst ho
  rw [show (sM.access (Rect.unit (s := S8x2x64x128) ![b.val, k.val, 0, 0] S1x1x64x128.size h)).set = _ from View.set_slice_whole _ _]
  refine Rect.mem_set_unit.trans ⟨fun H => ?_, fun H a => ?_⟩
  · have := H 0; have h1 := H 1; simp at this h1; omega
  · have h2 : (i 2).val < 64 := (i 2).isLt
    have h3 : (i 3).val < 128 := (i 3).isLt
    fin_cases a <;> simp <;> omega
theorem acc_o (k : ℕ) (o h) (ho : o = ![k, 0]) (i : S2048x64.Idx) :
    i ∈ (oM.access (Rect.unit (s := S2048x64) o S64x64.size h)).set ↔ k ≤ (i 0).val ∧ (i 0).val < k + 64 := by
  subst ho
  rw [show (oM.access (Rect.unit (s := S2048x64) ![k, 0] S64x64.size h)).set = _ from View.set_slice_whole _ _]
  refine Rect.mem_set_unit.trans ⟨fun H => ?_, fun H a => ?_⟩
  · have := H 0; simp at this; omega
  · have h1 : (i 1).val < 64 := (i 1).isLt
    fin_cases a <;> simp <;> omega

/-! ## Loads -/

def rrow (c : Dev nD) (k j : Fin 4) : Vec F S1x64x128 .bf16 := fun i => RB m ρ c (ix4 k j (i 1) (i 2))
def drow (c : Dev nD) (s : Fin 8) (k : Fin 2) : Vec F S1x64x128 .bf16 := fun i => DB m ρ c (ix4 s k (i 1) (i 2))
set_option backward.proofsInPublic true in
def yrows (c : Dev nD) (a : Fin 4) : Vec F S4x64x128 .bf16 :=
  fun i => YB m ρ c (ix3 ⟨4 * a.val + (i 0).val, by have h0 : (i 0).val < 4 := (i 0).isLt; omega⟩ (i 1) (i 2))

theorem ld_x (c : Dev nD) (o h) (ho : o = ![0, 0]) :
    xM.view.readAt (Elt F) (Rect.unit (s := S64x2048) o S64x2048.size h).toLoadRect (xstg m ρ c) = xstg m ρ c := by
  subst ho
  funext i
  show xstg m ρ c ((Rect.unit (s := S64x2048) ![0, 0] S64x2048.size h).emb i) = _
  refine congrArg (xstg m ρ c) (funext fun a => Fin.ext ?_)
  refine (ValueKit.rect_emb_unit_val _ _ _ _ _).trans ?_
  fin_cases a <;> simp

theorem ld_w (c : Dev nD) (b : Fin 4) (o h) (ho : o = ![b.val, 0, 0]) :
    wM.view.readAt (Elt F) (Rect.unit (s := S4x512x2048) o S1x512x2048.size h).toLoadRect (WB m c) = WL m c b := by
  subst ho
  funext i
  show WB m c ((Rect.unit (s := S4x512x2048) ![b.val, 0, 0] S1x512x2048.size h).emb i) = _
  refine congrArg (WB m c) (funext fun a => Fin.ext ?_)
  refine (ValueKit.rect_emb_unit_val _ _ _ _ _).trans ?_
  have h0 : (i 0).val < 1 := (i 0).isLt
  fin_cases a <;> simp

theorem ld_wc (c : Dev nD) (b : Fin 4) (o h) (ho : o = ![3, 0, 512 * b.val]) :
    wM.view.readAt (Elt F) (Rect.unit (s := S4x512x2048) o S1x512x512.size h).toLoadRect (WB m c) = WC m c b := by
  subst ho
  funext i
  show WB m c ((Rect.unit (s := S4x512x2048) ![3, 0, 512 * b.val] S1x512x512.size h).emb i) = _
  refine congrArg (WB m c) (funext fun a => Fin.ext ?_)
  refine (ValueKit.rect_emb_unit_val _ _ _ _ _).trans ?_
  have h0 : (i 0).val < 1 := (i 0).isLt
  fin_cases a <;> simp

theorem ld_y (c : Dev nD) (a : Fin 4) (o h) (ho : o = ![4 * a.val, 0, 0]) :
    yM.view.readAt (Elt F) (Rect.unit (s := S16x64x128) o S4x64x128.size h).toLoadRect (YB m ρ c) = yrows m ρ c a := by
  subst ho
  funext i
  show YB m ρ c ((Rect.unit (s := S16x64x128) ![4 * a.val, 0, 0] S4x64x128.size h).emb i) = _
  refine congrArg (YB m ρ c) (funext fun a => Fin.ext ?_)
  refine (ValueKit.rect_emb_unit_val _ _ _ _ _).trans ?_
  fin_cases a <;> simp

theorem ld_r (c : Dev nD) (k j : Fin 4) (o h) (ho : o = ![k.val, 0, 0, 0]) (oj hj) (hoj : oj = ![j.val, 0, 0]) :
    (rSl o h).view.readAt (Elt F) (Rect.unit (s := S4x64x128) oj S1x64x128.size hj).toLoadRect (RB m ρ c) = rrow m ρ c k j := by
  subst hoj
  funext i
  show RB m ρ c ((rSl o h).view.emb ((Rect.unit (s := S4x64x128) ![j.val, 0, 0] S1x64x128.size hj).emb i)) = _
  rw [rSl_emb k o h ho]
  refine congrArg (RB m ρ c) (funext fun a => Fin.ext ?_)
  have h0 : (i 0).val < 1 := (i 0).isLt
  fin_cases a
  · rfl
  · refine (ValueKit.rect_emb_unit_val _ _ _ _ 0).trans ?_; simp
  · refine (ValueKit.rect_emb_unit_val _ _ _ _ 1).trans ?_; simp
  · refine (ValueKit.rect_emb_unit_val _ _ _ _ 2).trans ?_; simp

theorem ld_d (c : Dev nD) (s : Fin 8) (k : Fin 2) (o h) (ho : o = ![s.val, 0, 0, 0]) (oj hj) (hoj : oj = ![k.val, 0, 0]) :
    (dSl o h).view.readAt (Elt F) (Rect.unit (s := S2x64x128) oj S1x64x128.size hj).toLoadRect (DB m ρ c) = drow m ρ c s k := by
  subst hoj
  funext i
  show DB m ρ c ((dSl o h).view.emb ((Rect.unit (s := S2x64x128) ![k.val, 0, 0] S1x64x128.size hj).emb i)) = _
  rw [dSl_emb s o h ho]
  refine congrArg (DB m ρ c) (funext fun a => Fin.ext ?_)
  have h0 : (i 0).val < 1 := (i 0).isLt
  fin_cases a
  · rfl
  · refine (ValueKit.rect_emb_unit_val _ _ _ _ 0).trans ?_; simp
  · refine (ValueKit.rect_emb_unit_val _ _ _ _ 1).trans ?_; simp
  · refine (ValueKit.rect_emb_unit_val _ _ _ _ 2).trans ?_; simp

/-! ## Stores -/

/-- A 128-column piece of an activated block is what the sixteen-block buffer holds. -/
theorem st_y (c : Dev nD) (a j : Fin 4) {X : FVec F S64x512 .bf16} (hX : X = YV m ρ c a) {e : ℕ} (he : e = 128 * j.val) {hs hc} {o h} (ho : o = ![4 * a.val + j.val, 0, 0])
    (x : S1x64x128.Idx) :
    shapeCast S1x64x128 (extractStridedSlice S64x128 ![0, e] X hs) hc x
      = (yM.access (Rect.unit (s := S16x64x128) o S1x64x128.size h)).read (Elt F) (YB m ρ c) x := by
  subst hX he ho
  have ex := eq_ix3 x
  rw [ex]
  have hj := j.isLt
  have h2 : (x 2).val < 128 := (x 2).isLt
  refine (shapeCast_ab_1ab_apply _ _ _ _ _).trans ?_
  refine (slice2_axis1_apply (128 * j.val) _ _ (x 1) (x 2) ⟨128 * j.val + (x 2).val, by omega⟩ rfl).trans ?_
  rw [← ex]
  show _ = YB m ρ c ((Rect.unit (s := S16x64x128) ![4 * a.val + j.val, 0, 0] S1x64x128.size h).emb x)
  have h0 : (x 0).val < 1 := (x 0).isLt
  have e0 : ((Rect.unit (s := S16x64x128) ![4 * a.val + j.val, 0, 0] S1x64x128.size h).emb x 0).val = 4 * a.val + j.val := by
    refine (ValueKit.rect_emb_unit_val _ _ _ _ 0).trans ?_; simp
  have e1 : ((Rect.unit (s := S16x64x128) ![4 * a.val + j.val, 0, 0] S1x64x128.size h).emb x 1).val = (x 1).val := by
    refine (ValueKit.rect_emb_unit_val _ _ _ _ 1).trans ?_; simp
  have e2 : ((Rect.unit (s := S16x64x128) ![4 * a.val + j.val, 0, 0] S1x64x128.size h).emb x 2).val = (x 2).val := by
    refine (ValueKit.rect_emb_unit_val _ _ _ _ 2).trans ?_; simp
  unfold YB
  refine congrArg₂ (YV m ρ c) (Fin.ext ?_) (funext fun b => Fin.ext ?_)
  · show a.val = _ / 4
    rw [e0]; omega
  · fin_cases b
    · exact e1.symm
    · show _ = 128 * (_ % 4) + _
      rw [e0, e2]
      show 128 * j.val + (x 2).val = _
      omega

theorem st_r (c : Dev nD) {hc hc'} {o h} (ho : o = ![(pl c).val, 0, 0, 0]) (x : S1x4x64x128.Idx) :
    shapeCast S1x4x64x128 (shapeCast S1x4x64x128 (yrows m ρ c (pl c)) hc) hc' x
      = (rM.access (Rect.unit (s := S4x4x64x128) o S1x4x64x128.size h)).read (Elt F) (RB m ρ c) x := by
  subst ho
  rw [show shapeCast S1x4x64x128 (shapeCast S1x4x64x128 (yrows m ρ c (pl c)) hc) hc' x = shapeCast S1x4x64x128 (yrows m ρ c (pl c)) hc x from
    shapeCast_apply _ _ _ _ rfl]
  have ex := eq_ix4 x
  rw [ex]
  refine (shapeCast_abc_1abc_apply _ _ _ _ _ _).trans ?_
  rw [← ex]
  show _ = RB m ρ c ((Rect.unit (s := S4x4x64x128) ![(pl c).val, 0, 0, 0] S1x4x64x128.size h).emb x)
  have h0 : (x 0).val < 1 := (x 0).isLt
  have e : (Rect.unit (s := S4x4x64x128) ![(pl c).val, 0, 0, 0] S1x4x64x128.size h).emb x = ix4 (pl c) (x 1) (x 2) (x 3) := by
    funext a
    refine Fin.ext ((ValueKit.rect_emb_unit_val _ _ _ _ _).trans ?_)
    fin_cases a <;> simp
  rw [e]
  show _ = YB m ρ (dv (pl c) (sl c)) _
  rw [dv_pl_sl]
  rfl

/-- Half of what is sent to place `s`. -/
def HV (c : Dev nD) (s : Fin 8) (k : Fin 2) : FVec F S64x128 .bf16 := fun i => SB m ρ c (ix4 s k (i 0) (i 1))

theorem st_s (c : Dev nD) (s : Fin 8) (k : Fin 2) {hc} {o h} (ho : o = ![s.val, k.val, 0, 0]) (x : S1x1x64x128.Idx) :
    shapeCast S1x1x64x128 (HV m ρ c s k) hc x
      = (sM.access (Rect.unit (s := S8x2x64x128) o S1x1x64x128.size h)).read (Elt F) (SB m ρ c) x := by
  subst ho
  have h0 : (x 0).val < 1 := (x 0).isLt
  have h1 : (x 1).val < 1 := (x 1).isLt
  have e : (Rect.unit (s := S8x2x64x128) ![s.val, k.val, 0, 0] S1x1x64x128.size h).emb x = ix4 s k (x 2) (x 3) := by
    funext a
    refine Fin.ext ((ValueKit.rect_emb_unit_val _ _ _ _ _).trans ?_)
    fin_cases a <;> simp <;> omega
  show _ = SB m ρ c ((Rect.unit (s := S8x2x64x128) ![s.val, k.val, 0, 0] S1x1x64x128.size h).emb x)
  rw [e]
  refine (shapeCast_apply (HV m ρ c s k) hc x (ix2 (x 2) (x 3)) ?_).trans rfl
  rw [Shape.rowMajor_val_two, Shape.rowMajor_val_four]
  show (x 2).val * 128 + (x 3).val = (((x 0).val * 1 + (x 1).val) * 64 + (x 2).val) * 128 + (x 3).val
  omega

theorem cat_half (c : Dev nD) (s : Fin 8) (k : Fin 2) (j k0 k1 : Fin 4) (hj : j.val = s.val / 2) (hk0 : k0.val = 2 * k.val) (hk1 : k1.val = 2 * k.val + 1)
    {e : ℕ} (he : e = 64 * (s.val % 2)) {hc hc' hs hs' hcc} :
    concatenate S64x128 1 [⟨S64x64, extractStridedSlice S64x64 ![0, e] (shapeCast S64x128 (rrow m ρ c k0 j) hc) hs⟩,
      ⟨S64x64, extractStridedSlice S64x64 ![0, e] (shapeCast S64x128 (rrow m ρ c k1 j) hc') hs'⟩] hcc = HV m ρ c s k := by
  subst he
  have hs2 : s.val % 2 < 2 := Nat.mod_lt _ (by decide)
  funext i
  have ei := eq_ix2 i
  have hi1 : (i 1).val < 128 := (i 1).isLt
  have key : ∀ (q : Fin 4) (hc) (hs) (r : Fin 64) (l : Fin 64),
      extractStridedSlice S64x64 ![0, 64 * (s.val % 2)] (shapeCast S64x128 (rrow m ρ c q j) hc) hs (ix2 r l)
        = RB m ρ c (ix4 q j r ⟨64 * (s.val % 2) + l.val, by omega⟩) := fun q hc hs r l => by
    refine (slice2_axis1_apply (64 * (s.val % 2)) _ _ r l ⟨64 * (s.val % 2) + l.val, by omega⟩ rfl).trans ?_
    exact (shapeCast_1ab_ab_apply _ _ _ _).trans rfl
  by_cases hlt : (i 1).val < 64
  · refine (concatenate_pair_apply_left (t := S64x128) 1 _ _ hcc i rfl (ix2 (i 0) ⟨(i 1).val, hlt⟩ : S64x64.Idx) (fun b => by fin_cases b <;> rfl)).trans ?_
    refine (key k0 hc hs (i 0) ⟨(i 1).val, hlt⟩).trans ?_
    unfold HV SB
    refine congrArg (RB m ρ c) (funext fun a => Fin.ext ?_)
    fin_cases a
    · show k0.val = 2 * k.val + (i 1).val / 64; omega
    · show j.val = s.val / 2; omega
    · rfl
    · show 64 * (s.val % 2) + (i 1).val = 64 * (s.val % 2) + (i 1).val % 64; omega
  · refine (concatenate_pair_apply_right (t := S64x128) 1 _ _ hcc i rfl rfl (ix2 (i 0) ⟨(i 1).val - 64, by omega⟩ : S64x64.Idx)
      (fun b hb => by
        fin_cases b
        · rfl
        · exact absurd rfl hb) (by show (i 1).val - 64 + 64 = (i 1).val; omega)).trans ?_
    refine (key k1 hc' hs' (i 0) ⟨(i 1).val - 64, by omega⟩).trans ?_
    unfold HV SB
    refine congrArg (RB m ρ c) (funext fun a => Fin.ext ?_)
    fin_cases a
    · show k1.val = 2 * k.val + (i 1).val / 64; omega
    · show j.val = s.val / 2; omega
    · rfl
    · show 64 * (s.val % 2) + ((i 1).val - 64) = 64 * (s.val % 2) + (i 1).val % 64; omega

set_option backward.proofsInPublic true in
/-- The 64 result rows from device `dv a s`. -/
def outv (c : Dev nD) (a : Fin 4) (s : Fin 8) : FVec F S64x64 .f32 :=
  fun i => OB m ρ c (ix2 ⟨512 * a.val + 64 * s.val + (i 0).val, by have h0 : (i 0).val < 64 := (i 0).isLt; omega⟩ (i 1))

theorem st_o (c : Dev nD) (a : Fin 4) (s : Fin 8) {o h} (ho : o = ![512 * a.val + 64 * s.val, 0]) (x : S64x64.Idx) :
    outv m ρ c a s x = (oM.access (Rect.unit (s := S2048x64) o S64x64.size h)).read (Elt F) (OB m ρ c) x := by
  subst ho
  show _ = OB m ρ c ((Rect.unit (s := S2048x64) ![512 * a.val + 64 * s.val, 0] S64x64.size h).emb x)
  refine congrArg (OB m ρ c) (funext fun b => Fin.ext ?_)
  refine Eq.trans ?_ (ValueKit.rect_emb_unit_val _ _ _ _ _).symm
  fin_cases b <;> simp

/-- A result row, from the activated rows of the device it comes from. -/
theorem outv_apply (c : Dev nD) (a : Fin 4) (s : Fin 8) (r l : Fin 64) :
    outv m ρ c a s (ix2 r l) = FloatOps.extf .f32 (by decide) (YB m ρ (dv a s)
      (ix3 ⟨4 * (pl c).val + (sl c).val / 2, by have := (pl c).isLt; have := (sl c).isLt; omega⟩ r
        ⟨64 * ((sl c).val % 2) + l.val, by have := l.isLt; omega⟩)) := by
  unfold outv OB
  have hs := s.isLt
  have hr := r.isLt
  refine congrArg (FloatOps.extf .f32 _) (congrArg₂ (YB m ρ) (Fin.ext ?_) (funext fun b => Fin.ext ?_))
  · show (512 * a.val + 64 * s.val + r.val) / 64 = 8 * a.val + s.val
    omega
  · fin_cases b
    · rfl
    · show (512 * a.val + 64 * s.val + r.val) % 64 = r.val
      omega
    · rfl

theorem ext_d (c : Dev nD) (s : Fin 8) (k : Fin 2) (a : Fin 4) (e : ℕ) (he : e < 2) (ha : a.val = 2 * k.val + e) {o : ℕ} (ho : o = 64 * e) {hc hs hb} :
    extf .f32 (extractStridedSlice S64x64 ![0, o] (shapeCast S64x128 (drow m ρ c s k) hc) hs) hb = outv m ρ c a s := by
  subst ho
  funext i
  rw [eq_ix2 i]
  have hl : (i 1).val < 64 := (i 1).isLt
  refine Eq.trans ?_ (outv_apply m ρ c a s (i 0) (i 1)).symm
  refine congrArg (FloatOps.extf .f32 _) ?_
  refine (slice2_axis1_apply (64 * e) _ _ (i 0) (i 1) ⟨64 * e + (i 1).val, by omega⟩ rfl).trans ?_
  refine (shapeCast_1ab_ab_apply _ _ _ _).trans ?_
  show YB m ρ (dv _ (sl (dv (pl c) s))) _ = _
  rw [sl_dv]
  refine congrArg₂ (YB m ρ) (congrArg (fun q => dv q s) (Fin.ext ?_)) (funext fun b => Fin.ext ?_)
  · show 2 * k.val + (64 * e + (i 1).val) / 64 = a.val
    omega
  · fin_cases b
    · show 4 * (pl (dv (pl c) s)).val + _ = _
      rw [pl_dv]
    · rfl
    · show 64 * ((sl c).val % 2) + (64 * e + (i 1).val) % 64 = 64 * ((sl c).val % 2) + (i 1).val
      omega

theorem par20 (c : Dev nD) : Scalar.cmpi .eq (Scalar.remsi (w20 c) 2#32) 0#32 = if (sl c).val % 2 = 0 then 1#1 else 0#1 := by
  revert c; decide +kernel

theorem ext_own (c : Dev nD) (a j : Fin 4) (hj : j.val = (sl c).val / 2) {b : BitVec 1} (hbb : b = if (sl c).val % 2 = 0 then 1#1 else 0#1) {hc hs hs' hb} :
    extf .f32 (Scalar.select b (extractStridedSlice S64x64 ![0, 0] (shapeCast S64x128 (rrow m ρ c a j) hc) hs)
      (extractStridedSlice S64x64 ![0, 64] (shapeCast S64x128 (rrow m ρ c a j) hc) hs')) hb = outv m ρ c a (sl c) := by
  have key : ∀ (e : ℕ) (he : e = 64 * ((sl c).val % 2)) (hs) (i : S64x64.Idx),
      FloatOps.extf .f32 hb (extractStridedSlice S64x64 ![0, e] (shapeCast S64x128 (rrow m ρ c a j) hc) hs i) = outv m ρ c a (sl c) i := fun e he hs i => by
    rw [eq_ix2 i]
    have hl : (i 1).val < 64 := (i 1).isLt
    refine Eq.trans ?_ (outv_apply m ρ c a (sl c) (i 0) (i 1)).symm
    refine congrArg (FloatOps.extf .f32 _) ?_
    refine (slice2_axis1_apply e _ _ (i 0) (i 1) ⟨e + (i 1).val, by omega⟩ rfl).trans ?_
    refine (shapeCast_1ab_ab_apply _ _ _ _).trans ?_
    show YB m ρ (dv a (sl c)) _ = _
    refine congrArg (YB m ρ _) (funext fun b => Fin.ext ?_)
    fin_cases b
    · show 4 * (pl c).val + j.val = _
      rw [hj]
    · rfl
    · show e + (i 1).val = 64 * ((sl c).val % 2) + (i 1).val
      omega
  funext i
  rw [hbb]
  by_cases hp : (sl c).val % 2 = 0
  · rw [if_pos hp]; exact key 0 (by omega) hs i
  · rw [if_neg hp]; exact key 64 (by omega) hs' i

end Cert.A2A
end
end
-- ==== Proof.Blocks.lean ====
/-
The pieces of a device's program: stores of the activated product, of what is sent on, and of the result.
-/
module

public import proofs.«01_k».proof.Proof.Vals

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Column blocks of the activated product -/

/-- A column block of which the first `n` pieces are stored. -/
def Yu (c : Dev nD) (a : Fin 4) (n : ℕ) : sProp 𝕄 := upto (LY c) (ySet a) (fun i => ((i : S16x64x128.Idx) 0).val < 4 * a.val + n) (YB m ρ c)

theorem Yu_zero (c : Dev nD) (a : Fin 4) : (∃ f, yPts (F := F) c a f) ⊢ Yu m ρ c a 0 := by
  unfold Yu yPts
  iintro ⟨%f, H⟩
  iapply (upto_none (LY c) (ySet a) _ _ (fun i hi hp => by
    have := (Finset.mem_filter.mp hi).2
    have hp' : ((i : S16x64x128.Idx) 0).val < 4 * a.val + 0 := hp
    omega) f)
  iexact H
theorem Yu_four (c : Dev nD) (a : Fin 4) : Yu m ρ c a 4 ⊢ yPts c a (YB m ρ c) := by
  unfold Yu yPts
  exact upto_all (LY c) (ySet a) _ _ (fun i hi => by
    have := (Finset.mem_filter.mp hi).2
    show ((i : S16x64x128.Idx) 0).val < 4 * a.val + 4
    omega)

theorem sub_y (a j : Fin 4) (o h) (ho : o = ![4 * a.val + j.val, 0, 0]) :
    (yM.access (Rect.unit (s := S16x64x128) o S1x64x128.size h)).set ⊆ ySet a := fun i hi => by
  have hj := j.isLt
  have := (acc_y _ o h ho i).mp hi
  exact Finset.mem_filter.mpr ⟨Finset.mem_univ _, by omega⟩

theorem yld (c : Dev nD) (a j : Fin 4) {n : ℕ} {o h} (ho : o = ![4 * a.val + j.val, 0, 0]) {hl} {Q : Vec F S1x64x128 .bf16 → sProp 𝕄} :
    Yu m ρ c a n ⊢ iprop((∀ v, Yu m ρ c a n -∗ Q v)
      -∗ WP c (Prog.lift (.load yM (Rect.unit (s := S16x64x128) o S1x64x128.size h).toLoadRect hl)) Q) := by
  unfold Yu
  exact wp_ld_upto (F := F) (c := c) (M := yM) (r := (Rect.unit (s := S16x64x128) o S1x64x128.size h).toLoadRect) (S := ySet a) (by rw [setOn_access]; exact sub_y a j o h ho)

theorem yst (c : Dev nD) (a j : Fin 4) (n n' : ℕ) (hn : n = j.val) (hn' : n' = n + 1) {o h} (ho : o = ![4 * a.val + j.val, 0, 0]) {X : FVec F S64x512 .bf16} (hX : X = YV m ρ c a)
    {e : ℕ} (he : e = 128 * j.val) {hs hc} {w : FVec F S1x64x128 .bf16}
    (hw : w = shapeCast S1x64x128 (extractStridedSlice S64x128 ![0, e] X hs) hc) {hx hm} {Q : PUnit → sProp 𝕄} :
    Yu m ρ c a n ⊢ iprop((Yu m ρ c a n' -∗ Q ⟨⟩)
      -∗ WP c (Prog.lift (.store yM (Rect.unit (s := S16x64x128) o S1x64x128.size h) w Finset.univ hx hm)) Q) := by
  subst hn'
  unfold Yu
  exact wp_st_upto (F := F) (c := c) (M := yM) (r := Rect.unit (s := S16x64x128) o S1x64x128.size h) (S := ySet a) (sub_y a j o h ho) (fun x => by rw [hw]; exact st_y m ρ c a j hX he ho x)
    (fun i hi hp => by
      have hp' : ((i : S16x64x128.Idx) 0).val < 4 * a.val + (n + 1) := hp
      by_cases h1 : ((i : S16x64x128.Idx) 0).val = 4 * a.val + j.val
      · exact Or.inl ((acc_y _ o h ho i).mpr h1)
      · exact Or.inr (show ((i : S16x64x128.Idx) 0).val < 4 * a.val + n by omega))

/-- A piece's load and store. -/
theorem ystep (c : Dev nD) (a j : Fin 4) (n n' : ℕ) (hn : n = j.val) (hn' : n' = n + 1) {o h} (ho : o = ![4 * a.val + j.val, 0, 0]) {X : FVec F S64x512 .bf16} (hX : X = YV m ρ c a)
    {e : ℕ} (he : e = 128 * j.val) {hs hc} {w : FVec F S1x64x128 .bf16}
    (hw : w = shapeCast S1x64x128 (extractStridedSlice S64x128 ![0, e] X hs) hc) {hl hx hm}
    {α : Type} {J : Prog (TpuEff nD τ sig (Elt F) Λ₀ .tc) α} {Q : α → sProp 𝕄} :
    Yu m ρ c a n ⊢ iprop((Yu m ρ c a n' -∗ WP c J Q)
      -∗ WP c (Prog.lift (.load yM (Rect.unit (s := S16x64x128) o S1x64x128.size h).toLoadRect hl) >>= fun _ =>
        Prog.lift (.store yM (Rect.unit (s := S16x64x128) o S1x64x128.size h) w Finset.univ hx hm) >>= fun _ => J) Q) := by
  rw [WP_bind]
  iintro H Hk
  iapply (yld m ρ c a j ho) $$ H
  iintro %v H
  rw [WP_bind]
  iapply (yst m ρ c a j n n' hn hn' ho hX he hw) $$ H
  iexact Hk

/-! ## The result's rows -/

/-- The result buffer, the rows `P` stored. -/
def Ou (c : Dev nD) (P : ℕ → Prop) : sProp 𝕄 := upto (LO c) Finset.univ (fun i => P ((i : S2048x64.Idx) 0).val) (OB m ρ c)

theorem Ou_imp (c : Dev nD) {P P' : ℕ → Prop} (h : ∀ n < 2048, P' n → P n) : Ou m ρ c P ⊢ Ou m ρ c P' := by
  unfold Ou
  exact upto_imp (fun i _ hp => h _ ((i : S2048x64.Idx) 0).isLt hp)

theorem ostep (c : Dev nD) (a : Fin 4) (s : Fin 8) {o h} (ho : o = ![512 * a.val + 64 * s.val, 0]) {w : FVec F S64x64 .f32}
    (hw : w = outv m ρ c a s) {P P' : ℕ → Prop} (hP : ∀ n < 2048, P' n → (512 * a.val + 64 * s.val ≤ n ∧ n < 512 * a.val + 64 * s.val + 64) ∨ P n)
    {hl hx hm} {α : Type} {J : Prog (TpuEff nD τ sig (Elt F) Λ₀ .tc) α} {Q : α → sProp 𝕄} :
    Ou m ρ c P ⊢ iprop((Ou m ρ c P' -∗ WP c J Q)
      -∗ WP c (Prog.lift (.load oM (Rect.unit (s := S2048x64) o S64x64.size h).toLoadRect hl) >>= fun _ =>
        Prog.lift (.store oM (Rect.unit (s := S2048x64) o S64x64.size h) w Finset.univ hx hm) >>= fun _ => J) Q) := by
  rw [WP_bind]
  unfold Ou
  iintro H Hk
  iapply (wp_ld_upto (M := oM) (S := Finset.univ) (Finset.subset_univ _)) $$ H
  iintro %v H
  rw [WP_bind]
  iapply (wp_st_upto (F := F) (c := c) (M := oM) (r := Rect.unit (s := S2048x64) o S64x64.size h) (S := Finset.univ) (Finset.subset_univ _) (fun x => by rw [hw]; exact st_o m ρ c a s ho x)
    (fun i hi hp => (hP _ ((i : S2048x64.Idx) 0).isLt hp).imp_left (fun h1 => (acc_o _ o h ho i).mpr h1))) $$ H
  iexact Hk

/-! ## Loads of slots -/

theorem rld (c : Dev nD) (k j : Fin 4) {o h} (ho : o = ![k.val, 0, 0, 0]) {oj hj} (hoj : oj = ![j.val, 0, 0]) {hl} {Q : Vec F S1x64x128 .bf16 → sProp 𝕄} :
    (LR c ↦{fullShare} RB m ρ c) ⊢ iprop(((LR c ↦{fullShare} RB m ρ c) -∗ Q (rrow m ρ c k j))
      -∗ WP c (Prog.lift (.load (rSl o h) (Rect.unit (s := S4x64x128) oj S1x64x128.size hj).toLoadRect hl)) Q) := by
  have := wp_ld (F := F) (c := c) (M := rSl o h) (r := (Rect.unit (s := S4x64x128) oj S1x64x128.size hj).toLoadRect) (hl := hl) (S := Finset.univ)
    (f := RB m ρ c) (Q := Q) (Finset.subset_univ _)
  rw [ld_r m ρ c k j o h ho oj hj hoj] at this
  exact this

theorem dld (c : Dev nD) (s : Fin 8) (k : Fin 2) {o h} (ho : o = ![s.val, 0, 0, 0]) {oj hj} (hoj : oj = ![k.val, 0, 0]) {hl} {Q : Vec F S1x64x128 .bf16 → sProp 𝕄} :
    dPts c s (DB m ρ c) ⊢ iprop((dPts c s (DB m ρ c) -∗ Q (drow m ρ c s k))
      -∗ WP c (Prog.lift (.load (dSl o h) (Rect.unit (s := S2x64x128) oj S1x64x128.size hj).toLoadRect hl)) Q) := by
  have := wp_ld (F := F) (c := c) (M := dSl o h) (r := (Rect.unit (s := S2x64x128) oj S1x64x128.size hj).toLoadRect) (hl := hl) (S := sSet s)
    (f := DB m ρ c) (Q := Q) (by rw [← dSl_set s o h ho]; exact View.setOn_subset_set _ _)
  rw [ld_d m ρ c s k o h ho oj hj hoj] at this
  unfold dPts
  exact this

/-! ## The second phase's sends -/

/-- The block for place `s`, its first `n` halves stored. -/
def Su (c : Dev nD) (s : Fin 8) (n : ℕ) : sProp 𝕄 := upto (LS c) (sSet s) (fun i => ((i : S8x2x64x128.Idx) 1).val < n) (SB m ρ c)

theorem Su_zero (c : Dev nD) (s : Fin 8) : (∃ f, sPts (F := F) c s f) ⊢ Su m ρ c s 0 := by
  unfold Su sPts
  iintro ⟨%f, H⟩
  iapply (upto_none (LS c) (sSet s) _ _ (fun i hi hp => Nat.not_lt_zero _ hp) f)
  iexact H
theorem Su_two (c : Dev nD) (s : Fin 8) : Su m ρ c s 2 ⊢ sPts c s (SB m ρ c) := by
  unfold Su sPts
  exact upto_all (LS c) (sSet s) _ _ (fun i hi => ((i : S8x2x64x128.Idx) 1).isLt)

theorem sub_s (s : Fin 8) (k : Fin 2) (o h) (ho : o = ![s.val, k.val, 0, 0]) :
    (sM.access (Rect.unit (s := S8x2x64x128) o S1x1x64x128.size h)).set ⊆ sSet s := fun i hi =>
  Finset.mem_filter.mpr ⟨Finset.mem_univ _, ((acc_s s k o h ho i).mp hi).1⟩

theorem sstep (c : Dev nD) (s : Fin 8) (k : Fin 2) (n n' : ℕ) (hn : n = k.val) (hn' : n' = n + 1) {o h} (ho : o = ![s.val, k.val, 0, 0]) {w : FVec F S1x1x64x128 .bf16} {hc}
    (hw : w = shapeCast S1x1x64x128 (HV m ρ c s k) hc) {hl hx hm}
    {α : Type} {J : Prog (TpuEff nD τ sig (Elt F) Λ₀ .tc) α} {Q : α → sProp 𝕄} :
    Su m ρ c s n ⊢ iprop((Su m ρ c s n' -∗ WP c J Q)
      -∗ WP c (Prog.lift (.load sM (Rect.unit (s := S8x2x64x128) o S1x1x64x128.size h).toLoadRect hl) >>= fun _ =>
        Prog.lift (.store sM (Rect.unit (s := S8x2x64x128) o S1x1x64x128.size h) w Finset.univ hx hm) >>= fun _ => J) Q) := by
  subst hn'
  rw [WP_bind]
  unfold Su
  iintro H Hk
  iapply (wp_ld_upto (M := sM) (S := sSet s) (by rw [setOn_access]; exact sub_s s k o h ho)) $$ H
  iintro %v H
  rw [WP_bind]
  iapply (wp_st_upto (F := F) (c := c) (M := sM) (r := Rect.unit (s := S8x2x64x128) o S1x1x64x128.size h) (S := sSet s) (sub_s s k o h ho) (fun x => by rw [hw]; exact st_s m ρ c s k ho x)
    (P' := fun i => ((i : S8x2x64x128.Idx) 1).val < n + 1) (fun i hi hp => by
      by_cases h1 : ((i : S8x2x64x128.Idx) 1).val = k.val
      · exact Or.inl ((acc_s s k o h ho i).mpr ⟨(Finset.mem_filter.mp hi).2, h1⟩)
      · exact Or.inr (show ((i : S8x2x64x128.Idx) 1).val < n by have hp' : ((i : S8x2x64x128.Idx) 1).val < n + 1 := hp; omega))) $$ H
  iexact Hk

/-- Assembling what goes to place `s`: the first half stored, the second returned. -/
theorem s2p_spec (c : Dev nD) (s : Fin 8) (j : Fin 4) {o0 h0 o1 h1 o2 h2 o3 h3} (ho0 : o0 = ![0, 0, 0, 0]) (ho1 : o1 = ![1, 0, 0, 0])
    (ho2 : o2 = ![2, 0, 0, 0]) (ho3 : o3 = ![3, 0, 0, 0]) {oj hj} (hoj : oj = ![j.val, 0, 0]) {o h} (ho : o = ![s.val, 0, 0, 0])
    {f1 : Vec F S1x64x128 .bf16 → Vec F S1x64x128 .bf16 → FVec F S1x1x64x128 .bf16} {f2 : Vec F S1x64x128 .bf16 → Vec F S1x64x128 .bf16 → FVec F S64x128 .bf16} {hc}
    (hf1 : f1 (rrow m ρ c 0 j) (rrow m ρ c 1 j) = shapeCast S1x1x64x128 (HV m ρ c s 0) hc) (hf2 : f2 (rrow m ρ c 2 j) (rrow m ρ c 3 j) = HV m ρ c s 1)
    {hl0 hl1 hl2 hl3 hl hx hm} {Q : FVec F S64x128 .bf16 → sProp 𝕄} :
    iprop((LR c ↦{fullShare} RB m ρ c) ∗ Su m ρ c s 0) ⊢ iprop(((LR c ↦{fullShare} RB m ρ c) ∗ Su m ρ c s 1 -∗ Q (HV m ρ c s 1))
      -∗ WP c (Prog.lift (.load (rSl o0 h0) (Rect.unit (s := S4x64x128) oj S1x64x128.size hj).toLoadRect hl0) >>= fun v0 =>
        Prog.lift (.load (rSl o1 h1) (Rect.unit (s := S4x64x128) oj S1x64x128.size hj).toLoadRect hl1) >>= fun v1 =>
        Prog.lift (.load sM (Rect.unit (s := S8x2x64x128) o S1x1x64x128.size h).toLoadRect hl) >>= fun _ =>
        Prog.lift (.store sM (Rect.unit (s := S8x2x64x128) o S1x1x64x128.size h) (f1 v0 v1) Finset.univ hx hm) >>= fun _ =>
        Prog.lift (.load (rSl o2 h2) (Rect.unit (s := S4x64x128) oj S1x64x128.size hj).toLoadRect hl2) >>= fun v2 =>
        Prog.lift (.load (rSl o3 h3) (Rect.unit (s := S4x64x128) oj S1x64x128.size hj).toLoadRect hl3) >>= fun v3 =>
        .ret (f2 v2 v3)) Q) := by
  iintro ⟨HR, HS⟩ Hk
  rw [WP_bind]
  iapply (rld m ρ c 0 j ho0 hoj) $$ HR
  iintro HR
  rw [WP_bind]
  iapply (rld m ρ c 1 j ho1 hoj) $$ HR
  iintro HR
  iapply (sstep m ρ c s 0 0 1 rfl rfl ho hf1) $$ HS
  iintro HS
  rw [WP_bind]
  iapply (rld m ρ c 2 j ho2 hoj) $$ HR
  iintro HR
  rw [WP_bind]
  iapply (rld m ρ c 3 j ho3 hoj) $$ HR
  iintro HR
  rw [hf2, WP_ret]
  imodintro
  iapply Hk
  iframe

theorem s2block (K) (c : Dev nD) (s : Fin 8) {b : BitVec 1} (hb : b = 1#1 ↔ s ≠ sl c) {p1 : Prog (TpuEff nD τ sig (Elt F) Λ₀ .tc) (FVec F S64x128 .bf16)}
    (hp1 : ∀ Q' : FVec F S64x128 .bf16 → sProp 𝕄, iprop((LR c ↦{fullShare} RB m ρ c) ∗ Su m ρ c s 0)
      ⊢ iprop(((LR c ↦{fullShare} RB m ρ c) ∗ Su m ρ c s 1 -∗ Q' (HV m ρ c s 1)) -∗ WP c p1 Q'))
    {o1 h1} (ho1 : o1 = ![s.val, 1, 0, 0]) {f : FVec F S64x128 .bf16 → FVec F S1x1x64x128 .bf16} {hc} (hf : f (HV m ρ c s 1) = shapeCast S1x1x64x128 (HV m ρ c s 1) hc)
    {o h} (ho : o = ![s.val, 0, 0, 0])
    {o' : b = 1#1 → Fin 4 → ℕ} {h' : ∀ hh x, o' hh x + S1x2x64x128.size x ≤ S8x2x64x128.size x} (ho' : ∀ hh, o' hh = ![(sl c).val, 0, 0, 0])
    {n : b = 1#1 → Dev nD} (hn : ∀ hh, n hh = dv (pl c) s) {sS : DmaSem sig} {sR : b = 1#1 → DmaSem sig} (hS : sS = cI s) (hR : ∀ hh, sR hh = dI (sl c))
    {hl hx hm} {hsc : ∀ hh : b = 1#1, _} {hsrc : ∀ hh : b = 1#1, _} {hdst : ∀ hh : b = 1#1, _} {hsem : ∀ hh : b = 1#1, _} {O}
    {α : Type} {J : Prog (TpuEff nD τ sig (Elt F) Λ₀ .tc) α} {Q : α → sProp 𝕄} :
    iprop(Rec (F := F) m ρ K ∗ (LR c ↦{fullShare} RB m ρ c) ∗ (∃ f, sPts (F := F) c s f) ∗ off (sl c) s (iprop(∃ f, dPts (F := F) (dv (pl c) s) (sl c) f))
        ∗ tk2 c s ∗ owesE (F := F) c (O + O2 c s))
      ⊢ iprop(((LR c ↦{fullShare} RB m ρ c) ∗ sent2 c s ∗ owesE (F := F) c O -∗ WP c J Q)
        -∗ WP c (dite (b = 1#1) (fun hh => p1 >>= fun v =>
            Prog.lift (.load sM (Rect.unit (s := S8x2x64x128) o1 S1x1x64x128.size h1).toLoadRect hl) >>= fun _ =>
            Prog.lift (.store sM (Rect.unit (s := S8x2x64x128) o1 S1x1x64x128.size h1) (f v) Finset.univ hx hm) >>= fun _ =>
            Prog.lift (.enqueueDma (sSl o h) (.remote (Dev.tc (n hh)) (dSl (o' hh) (h' hh)) (.dma sS) (hsc hh)) (.dma (sR hh)) (hsrc hh) (hdst hh) (hsem hh)) >>= fun _ => J)
          (fun _ => J)) Q) := by
  refine wp_cond (fun hh => ?_) (fun hh => ?_)
  · have ha := hb.mp hh
    unfold sent2 tk2
    rw [off_neg ha, if_neg ha]
    iintro ⟨#HR, HB, Hs, Hd, ⟨Ht, Ht'⟩, HO⟩ Hk
    ihave Hs := (Su_zero m ρ c s) $$ Hs
    rw [WP_bind]
    iapply (hp1 _) $$ [HB Hs]
    · iframe
    iintro ⟨HB, Hs⟩
    iapply (sstep m ρ c s 1 1 2 rfl rfl ho1 hf) $$ Hs
    iintro Hs
    ihave Hs := (Su_two m ρ c s) $$ Hs
    rw [WP_bind]
    iapply (send2 m ρ K c s ha ho (ho' hh) (hn hh) hS (hR hh)) $$ [Hs Hd Ht Ht' HO]
    · iframe; iexact HR
    iintro ⟨Hc, HO⟩
    iapply Hk
    iframe
  · have ha := own_of hb hh
    unfold sent2 tk2
    rw [if_pos ha, O2_own c ha, add_zero]
    iintro ⟨#HR, HB, Hs, -, -, HO⟩
    iframe

/-! ## The second phase's arrivals -/

/-- The rows stored before place `n`'s arrive: the device's own place, and the places before `n`. -/
def PR (q n : ℕ) (r : ℕ) : Prop := r / 64 % 8 = q ∨ r / 64 % 8 < n
def PE (q n e : ℕ) (r : ℕ) : Prop := PR q n r ∨ (r / 64 % 8 = n ∧ r / 512 < e)

theorem rp_spec (K) (c : Dev nD) (s : Fin 8) (hs : s ≠ sl c) {o' h' o h} (ho : o = ![s.val, 0, 0, 0])
    {sm : DmaSem sig} (hsm : sm = dI s) {oj hj oj1 hj1} (hoj : oj = ![0, 0, 0]) (hoj1 : oj1 = ![1, 0, 0])
    {a0 b0 a1 b1} (ha0 : a0 = ![64 * s.val, 0]) (ha1 : a1 = ![512 + 64 * s.val, 0])
    {f0 f1 f3 : Vec F S1x64x128 .bf16 → FVec F S64x64 .f32} {f2 : Vec F S1x64x128 .bf16 → FVec F S64x128 .bf16}
    (hf0 : f0 (drow m ρ c s 0) = outv m ρ c 0 s) (hf1 : f1 (drow m ρ c s 0) = outv m ρ c 1 s)
    {hsrc hdst hl hl' hl0 hx0 hm0 hl1 hx1 hm1} {Q : (Σ' (v : FVec F S64x128 .bf16), FVec F S64x64 .f32) → sProp 𝕄} :
    iprop(Rec (F := F) m ρ K ∗ cred (tallyAt (dCell c s) () N2) ∗ atPos ER (dCell c s) 0 ∅ 0 ∗ owesE (F := F) c 0 ∗ Ou m ρ c (PR (sl c).val s.val))
      ⊢ iprop((dPts c s (DB m ρ c) ∗ closable (F := F) m ρ (dCell c s) ∗ owesE (F := F) c 0 ∗ Ou m ρ c (PE (sl c).val s.val 2)
            -∗ Q ⟨f2 (drow m ρ c s 1), f3 (drow m ρ c s 1)⟩)
        -∗ WP c (Prog.lift (.waitDma2 sm (sSl o' h') (dSl o h) hsrc hdst) >>= fun _ =>
          Prog.lift (.load (dSl o h) (Rect.unit (s := S2x64x128) oj S1x64x128.size hj).toLoadRect hl) >>= fun v =>
          Prog.lift (.load oM (Rect.unit (s := S2048x64) a0 S64x64.size b0).toLoadRect hl0) >>= fun _ =>
          Prog.lift (.store oM (Rect.unit (s := S2048x64) a0 S64x64.size b0) (f0 v) Finset.univ hx0 hm0) >>= fun _ =>
          Prog.lift (.load oM (Rect.unit (s := S2048x64) a1 S64x64.size b1).toLoadRect hl1) >>= fun _ =>
          Prog.lift (.store oM (Rect.unit (s := S2048x64) a1 S64x64.size b1) (f1 v) Finset.univ hx1 hm1) >>= fun _ =>
          Prog.lift (.load (dSl o h) (Rect.unit (s := S2x64x128) oj1 S1x64x128.size hj1).toLoadRect hl') >>= fun v' =>
          .ret ⟨f2 v', f3 v'⟩) Q) := by
  have hs8 := s.isLt
  iintro ⟨#HR, Hc, Hat, HO, Ho⟩ Hk
  rw [WP_bind]
  iapply (wait_d m ρ K c s hs hsm) $$ [Hc Hat HO]
  · iframe; iexact HR
  iintro ⟨Hd, Hcl, HO⟩
  rw [WP_bind]
  iapply (dld m ρ c s 0 ho hoj) $$ Hd
  iintro Hd
  iapply (ostep m ρ c 0 s (P' := PE (sl c).val s.val 1) (ho := by rw [ha0]; simp) hf0 (by intro n hn hp; unfold PE PR at hp; unfold PR; simp only [Fin.val_zero]; omega)) $$ Ho
  iintro Ho
  iapply (ostep m ρ c 1 s (P' := PE (sl c).val s.val 2) (ho := by rw [ha1]; rfl) hf1 (by intro n hn hp; unfold PE PR at hp ⊢; simp only [Fin.val_one]; omega)) $$ Ho
  iintro Ho
  rw [WP_bind]
  iapply (dld m ρ c s 1 ho hoj1) $$ Hd
  iintro Hd
  rw [WP_ret]
  imodintro
  iapply Hk
  iframe

theorem rblock (K) (c : Dev nD) (s : Fin 8) {b : BitVec 1} (hb : b = 1#1 ↔ s ≠ sl c)
    {p1 : Prog (TpuEff nD τ sig (Elt F) Λ₀ .tc) (Σ' (v : FVec F S64x128 .bf16), FVec F S64x64 .f32)} {X : FVec F S64x128 .bf16}
    (hp1 : s ≠ sl c → ∀ Q' : (Σ' (v : FVec F S64x128 .bf16), FVec F S64x64 .f32) → sProp 𝕄,
      iprop(Rec (F := F) m ρ K ∗ cred (tallyAt (dCell c s) () N2) ∗ atPos ER (dCell c s) 0 ∅ 0 ∗ owesE (F := F) c 0 ∗ Ou m ρ c (PR (sl c).val s.val))
      ⊢ iprop((dPts c s (DB m ρ c) ∗ closable (F := F) m ρ (dCell c s) ∗ owesE (F := F) c 0 ∗ Ou m ρ c (PE (sl c).val s.val 2)
            -∗ Q' ⟨X, outv m ρ c 2 s⟩) -∗ WP c p1 Q'))
    {a2 b2 a3 b3} (ha2 : a2 = ![1024 + 64 * s.val, 0]) (ha3 : a3 = ![1536 + 64 * s.val, 0])
    {f : FVec F S64x128 .bf16 → FVec F S64x64 .f32} (hf : f X = outv m ρ c 3 s)
    {hl2 hx2 hm2 hl3 hx3 hm3} {α : Type} {J : Prog (TpuEff nD τ sig (Elt F) Λ₀ .tc) α} {Q : α → sProp 𝕄} :
    iprop(Rec (F := F) m ρ K ∗ off (sl c) s (cred (tallyAt (dCell c s) () N2)) ∗ onl (sl c) s (iprop(∃ f, dPts (F := F) c s f))
        ∗ atPos ER (dCell c s) 0 ∅ 0 ∗ owesE (F := F) c 0 ∗ Ou m ρ c (PR (sl c).val s.val))
      ⊢ iprop(((∃ f, dPts (F := F) c s f) ∗ closable (F := F) m ρ (dCell c s) ∗ owesE (F := F) c 0 ∗ Ou m ρ c (PR (sl c).val (s.val + 1)) -∗ WP c J Q)
        -∗ WP c (dite (b = 1#1) (fun _ => p1 >>= fun x => match x with
          | ⟨v, w⟩ =>
            Prog.lift (.load oM (Rect.unit (s := S2048x64) a2 S64x64.size b2).toLoadRect hl2) >>= fun _ =>
            Prog.lift (.store oM (Rect.unit (s := S2048x64) a2 S64x64.size b2) w Finset.univ hx2 hm2) >>= fun _ =>
            Prog.lift (.load oM (Rect.unit (s := S2048x64) a3 S64x64.size b3).toLoadRect hl3) >>= fun _ =>
            Prog.lift (.store oM (Rect.unit (s := S2048x64) a3 S64x64.size b3) (f v) Finset.univ hx3 hm3) >>= fun _ => J) (fun _ => J)) Q) := by
  have hs8 := s.isLt
  refine wp_cond (fun hh => ?_) (fun hh => ?_)
  · have ha := hb.mp hh
    rw [off_neg ha, onl_neg ha]
    iintro ⟨#HR, Hc, -, Hat, HO, Ho⟩ Hk
    rw [WP_bind]
    iapply (hp1 ha _) $$ [Hc Hat HO Ho]
    · iframe; iexact HR
    iintro ⟨Hd, Hcl, HO, Ho⟩
    iapply (ostep m ρ c 2 s (P' := PE (sl c).val s.val 3) (ho := by rw [ha2]; rfl) rfl
      (by intro n hn hp; unfold PE PR at hp ⊢; simp only [Fin.val_two]; omega)) $$ Ho
    iintro Ho
    iapply (ostep m ρ c 3 s (P' := PR (sl c).val (s.val + 1)) (ho := by rw [ha3]; rfl) hf
      (by intro n hn hp; unfold PE; unfold PR at hp ⊢; show (512 * 3 + 64 * s.val ≤ n ∧ n < 512 * 3 + 64 * s.val + 64) ∨ _; omega)) $$ Ho
    iintro Ho
    iapply Hk
    isplitl [Hd]; · iexists _; iexact Hd
    iframe
  · have ha := own_of hb hh
    rw [off_pos ha, onl_pos ha]
    have hc := closable_idle (F := F) m ρ (dCell c s) ((dut_d c s).trans (if_pos ha))
    have ho := Ou_imp (F := F) m ρ c (P := PR (sl c).val s.val) (P' := PR (sl c).val (s.val + 1))
      (by intro n hn hp; unfold PR at hp ⊢; have := congrArg Fin.val ha; omega)
    iintro ⟨#HR, -, Hd, Hat, HO, Ho⟩
    isplitl [Hd]; · iexact Hd
    isplitl [Hat]; · iapply hc; iexact Hat
    isplitl [HO]; · iexact HO
    iapply ho; iexact Ho

end Cert.A2A
end
end
-- ==== Proof.Parts1.lean ====
/-
The parts of the body up to the last activated block.
-/
module

public import proofs.«01_k».proof.Proof.Blocks

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads of the weights -/

theorem sub_w (b : Fin 4) (o h) (ho : o = ![b.val, 0, 0]) :
    (wM.access (Rect.unit (s := S4x512x2048) o S1x512x2048.size h)).set ⊆ wSet b := fun i hi => by
  subst ho
  rw [show (wM.access (Rect.unit (s := S4x512x2048) ![b.val, 0, 0] S1x512x2048.size h)).set = _ from View.set_slice_whole _ _] at hi
  have := Rect.mem_set_unit.mp hi 0
  refine Finset.mem_filter.mpr ⟨Finset.mem_univ _, ?_⟩
  simp at this; omega

theorem sub_wc (k : ℕ) (o h) (ho : o = ![3, 0, k]) :
    (wM.access (Rect.unit (s := S4x512x2048) o S1x512x512.size h)).set ⊆ wSet 3 := fun i hi => by
  subst ho
  rw [show (wM.access (Rect.unit (s := S4x512x2048) ![3, 0, k] S1x512x512.size h)).set = _ from View.set_slice_whole _ _] at hi
  have := Rect.mem_set_unit.mp hi 0
  refine Finset.mem_filter.mpr ⟨Finset.mem_univ _, ?_⟩
  simp at this
  show (i 0).val = 3
  omega

theorem wld (c : Dev nD) (b : Fin 4) {o h} (ho : o = ![b.val, 0, 0]) {hl} {Q : Vec F S1x512x2048 .f32 → sProp 𝕄} :
    wPts c b (WB m c) ⊢ iprop((wPts c b (WB m c) -∗ Q (WL m c b))
      -∗ WP c (Prog.lift (.load wM (Rect.unit (s := S4x512x2048) o S1x512x2048.size h).toLoadRect hl)) Q) := by
  have := wp_ld (F := F) (c := c) (M := wM) (r := (Rect.unit (s := S4x512x2048) o S1x512x2048.size h).toLoadRect) (hl := hl) (S := wSet b)
    (f := WB m c) (Q := Q) (by rw [setOn_access]; exact sub_w b o h ho)
  rw [ld_w m c b o h ho] at this
  unfold wPts
  exact this

theorem wcld (c : Dev nD) (a : Fin 4) {o h} (ho : o = ![3, 0, 512 * a.val]) {hl} {Q : Vec F S1x512x512 .f32 → sProp 𝕄} :
    wPts c 3 (WB m c) ⊢ iprop((wPts c 3 (WB m c) -∗ Q (WC m c a))
      -∗ WP c (Prog.lift (.load wM (Rect.unit (s := S4x512x2048) o S1x512x512.size h).toLoadRect hl)) Q) := by
  have := wp_ld (F := F) (c := c) (M := wM) (r := (Rect.unit (s := S4x512x2048) o S1x512x512.size h).toLoadRect) (hl := hl) (S := wSet 3)
    (f := WB m c) (Q := Q) (by rw [setOn_access]; exact sub_wc _ o h ho)
  rw [ld_wc m c a o h ho] at this
  unfold wPts
  exact this

theorem xld (c : Dev nD) {o h} (ho : o = ![0, 0]) {hl} {Q : Vec F S64x2048 .f32 → sProp 𝕄} :
    (LX c ↦{fullShare} xstg m ρ c) ⊢ iprop(((LX c ↦{fullShare} xstg m ρ c) -∗ Q (xstg m ρ c))
      -∗ WP c (Prog.lift (.load xM (Rect.unit (s := S64x2048) o S64x2048.size h).toLoadRect hl)) Q) := by
  have := wp_ld (F := F) (c := c) (M := xM) (r := (Rect.unit (s := S64x2048) o S64x2048.size h).toLoadRect) (hl := hl) (S := Finset.univ)
    (f := xstg m ρ c) (Q := Q) (Finset.subset_univ _)
  rw [ld_x m ρ c o h ho] at this
  exact this

theorem WP_done {α : Type} {c : Dev nD} (a : α) {Q : α → sProp 𝕄} : Q a ⊢ WP (F := F) c (pure a) Q := by
  show _ ⊢ WP c (.ret a) Q
  rw [WP_ret]
  iintro H; imodintro; iexact H

theorem WP_dev {c : Dev nD} {Q : Dev nD → sProp 𝕄} : Q c ⊢ WP (F := F) c (Prog.lift .deviceId) Q := by
  unfold Prog.lift
  rw [WP, wp_deviceId]
  show _ ⊢ WP c (.ret c) Q
  rw [WP_ret]
  iintro H; imodintro; iexact H

/-! ## The signals -/

/-- What a barrier signal to a plane costs, -/
def sigA (c : Dev nD) (j : ℕ) : sProp 𝕄 :=
  iprop(tok (barCell (dv (pA c j) (sl c))) (.inl (pl c)) ∗ (∃ f, rPts (F := F) c (pA c j) f))
/-- and to a place. -/
def sigS (c : Dev nD) (j : ℕ) : sProp 𝕄 :=
  iprop(tok (barCell (dv (pl c) (pS c j))) (.inr (sl c)) ∗ (∃ f, dPts (F := F) c (pS c j) f))
/-- The debt of the same. -/
abbrev DA (c : Dev nD) (j : ℕ) : CellTallies nD τ sig Unit := OB1 (dv (pA c j) (sl c))
abbrev DS (c : Dev nD) (j : ℕ) : CellTallies nD τ sig Unit := OB1 (dv (pl c) (pS c j))

theorem sA (K) (c : Dev nD) (j : ℕ) (hj : j % 4 ≠ 0) {n : Dev nD} (hn : n = dv (pA c j) (sl c)) {O} {Q : PUnit → sProp 𝕄} :
    iprop(Rec (F := F) m ρ K ∗ owesE c (O + DA c j) ∗ sigA (F := F) c j)
      ⊢ iprop((owesE c O -∗ Q ⟨⟩) -∗ WP c (semSignalWord n barS 1#32) Q) := sig_plane m ρ K c (pA c j) (ne_pA c j hj) hn

theorem sS (K) (c : Dev nD) (j : ℕ) (hj : j % 8 ≠ 0) {n : Dev nD} (hn : n = dv (pl c) (pS c j)) {O} {Q : PUnit → sProp 𝕄} :
    iprop(Rec (F := F) m ρ K ∗ owesE c (O + DS c j) ∗ sigS (F := F) c j)
      ⊢ iprop((owesE c O -∗ Q ⟨⟩) -∗ WP c (semSignalWord n barS 1#32) Q) := sig_place m ρ K c (pS c j) (ne_pS c j hj) hn

theorem dev_1 (c : Dev nD) : (⟨k0_dev1 c, k0_dev1_lt c⟩ : Dev nD) = dv (pA c 1) (sl c) := by revert c; decide +kernel
theorem dev_2 (c : Dev nD) : (⟨k0_dev2 c, k0_dev2_lt c⟩ : Dev nD) = dv (pA c 2) (sl c) := by revert c; decide +kernel
theorem dev_3 (c : Dev nD) : (⟨k0_dev3 c, k0_dev3_lt c⟩ : Dev nD) = dv (pA c 3) (sl c) := by revert c; decide +kernel
theorem dev_4 (c : Dev nD) : (⟨k0_dev4 c, k0_dev4_lt c⟩ : Dev nD) = dv (pl c) (pS c 1) := by revert c; decide +kernel
theorem dev_5 (c : Dev nD) : (⟨k0_dev5 c, k0_dev5_lt c⟩ : Dev nD) = dv (pl c) (pS c 2) := by revert c; decide +kernel
theorem dev_6 (c : Dev nD) : (⟨k0_dev6 c, k0_dev6_lt c⟩ : Dev nD) = dv (pl c) (pS c 3) := by revert c; decide +kernel
theorem dev_7 (c : Dev nD) : (⟨k0_dev7 c, k0_dev7_lt c⟩ : Dev nD) = dv (pl c) (pS c 4) := by revert c; decide +kernel
theorem dev_8 (c : Dev nD) : (⟨k0_dev8 c, k0_dev8_lt c⟩ : Dev nD) = dv (pl c) (pS c 5) := by revert c; decide +kernel
theorem dev_9 (c : Dev nD) : (⟨k0_dev9 c, k0_dev9_lt c⟩ : Dev nD) = dv (pl c) (pS c 6) := by revert c; decide +kernel
theorem dev_10 (c : Dev nD) : (⟨k0_dev10 c, k0_dev10_lt c⟩ : Dev nD) = dv (pl c) (pS c 7) := by revert c; decide +kernel

/-- A weight block before its copy starts, -/
def wres (c : Dev nD) (b : Fin 4) : sProp 𝕄 := iprop(gPts c b (wgt m c) ∗ (∃ f, wPts (F := F) c b f) ∗ tok (wCell c b) (.inl 0))
/-- its copy under way, -/
def wgo (c : Dev nD) (b : Fin 4) : sProp 𝕄 := iprop(cred (tallyAt (wCell c b) () NW) ∗ atPos ER (wCell c b) 0 ∅ 0)
/-- and arrived. -/
def wgot (c : Dev nD) (b : Fin 4) : sProp 𝕄 := iprop((wPts c b (WB m c) ∗ gPts c b (wgt m c)) ∗ closable (F := F) m ρ (wCell c b))

theorem copyw' (K) (c : Dev nD) (b : Fin 4) {o h o' h'} (ho : o = ![b.val, 0, 0]) (ho' : o' = ![512 * b.val, 0]) {s : DmaSem sig} (hs : s = wI b)
    {hsrc hdst hsem} {Q : PUnit → sProp 𝕄} :
    iprop(Rec (F := F) m ρ K ∗ wres m c b)
      ⊢ iprop((cred (tallyAt (wCell c b) () NW) -∗ Q ⟨⟩)
        -∗ WP c (Prog.lift (.enqueueDma (gSl o' h') (.here (wSl o h)) (.dma s) hsrc hdst hsem)) Q) :=
  copyw m ρ K c b ho ho' hs

theorem waitw' (K) (c : Dev nD) (b : Fin 4) {o h o' h'} {s : DmaSem sig} (hs : s = wI b) {O} (hO : Above 0 O)
    {hsrc hdst} {Q : PUnit → sProp 𝕄} :
    iprop(Rec (F := F) m ρ K ∗ wgo (F := F) c b ∗ owesE (F := F) c O)
      ⊢ iprop((wgot m ρ c b ∗ owesE (F := F) c O -∗ Q ⟨⟩)
        -∗ WP c (Prog.lift (.waitDma2 s (gSl o' h') (wSl o h) hsrc hdst)) Q) := by
  unfold wgo
  iintro ⟨#HR, ⟨Hc, Ha⟩, HO⟩ Hk
  iapply (waitw m ρ K c b hs hO) $$ [Hc Ha HO]
  · iframe; iexact HR
  iintro ⟨H, Hc, HO⟩
  iapply Hk
  unfold wgot
  iframe

theorem part17_spec (K) (c : Dev nD) {O} {Q} :
    iprop(Rec (F := F) m ρ K ∗ sigA (F := F) c 1 ∗ sigA (F := F) c 2 ∗ owesE c (O + DA c 2 + DA c 1))
      ⊢ iprop((owesE c O -∗ Q ⟨c, w19 c, w20 c, SemArray.scalar (sig.barrier 0 rfl), 3#32⟩) -∗ WP c (k0_part17 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part17_eq_skeleton]
  unfold k0_part17_skel
  iintro ⟨#HR, H1, H2, HO⟩ Hk
  rw [WP_bind]
  iapply WP_dev
  extract_lets v0 v1 v2 v3 v4 v5 v6 v7 v8 v9 v10 v11 v12 v13 v14 v15 v16 v17 v18 v19 v20 v21
  rw [WP_bind]
  iapply (sA m ρ K c 1 (by decide) (dev_1 c)) $$ [H1 HO]
  · iframe; iexact HR
  iintro HO
  rw [WP_bind]
  iapply (sA m ρ K c 2 (by decide) (dev_2 c)) $$ [H2 HO]
  · iframe; iexact HR
  iintro HO
  iapply WP_done
  have e19 : v19 = w19 c := by subst_vars; revert c; decide +kernel
  have e20 : v15 = w20 c := by subst_vars; revert c; decide +kernel
  rw [e19, e20]
  iapply Hk; iexact HO

theorem part18_spec (K) (c : Dev nD) {O} {Q} :
    iprop(Rec (F := F) m ρ K ∗ sigA (F := F) c 3 ∗ sigS (F := F) c 1 ∗ sigS (F := F) c 2 ∗ sigS (F := F) c 3
        ∗ owesE c (O + DS c 3 + DS c 2 + DS c 1 + DA c 3))
      ⊢ iprop((∀ v w, owesE c O -∗ Q ⟨v, w⟩)
        -∗ WP c (k0_part18 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) (SemArray.scalar (sig.barrier 0 rfl)) 3#32) Q) := by
  rw [k0_part18_eq_skeleton]
  unfold k0_part18_skel
  iintro ⟨#HR, H3, H4, H5, H6, HO⟩ Hk
  rw [WP_bind]
  iapply (sA m ρ K c 3 (by decide) (dev_3 c)) $$ [H3 HO]
  · iframe; iexact HR
  iintro HO
  rw [WP_bind]
  iapply (sS m ρ K c 1 (by decide) (dev_4 c)) $$ [H4 HO]
  · iframe; iexact HR
  iintro HO
  rw [WP_bind]
  iapply (sS m ρ K c 2 (by decide) (dev_5 c)) $$ [H5 HO]
  · iframe; iexact HR
  iintro HO
  rw [WP_bind]
  iapply (sS m ρ K c 3 (by decide) (dev_6 c)) $$ [H6 HO]
  · iframe; iexact HR
  iintro HO
  extract_lets v58 v59 v60 v61
  iapply WP_done
  iapply Hk; iexact HO

theorem part19_spec (K) (c : Dev nD) (v61 c1 : BitVec 32) {O} {Q} :
    iprop(Rec (F := F) m ρ K ∗ sigS (F := F) c 4 ∗ sigS (F := F) c 5 ∗ sigS (F := F) c 6 ∗ sigS (F := F) c 7
        ∗ wres m c 0 ∗ owesE c (O + DS c 7 + DS c 6 + DS c 5 + DS c 4))
      ⊢ iprop((cred (tallyAt (wCell c 0) () NW) ∗ owesE c O -∗ Q ⟨⟩)
        -∗ WP c (k0_part19 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) (SemArray.scalar (sig.barrier 0 rfl)) v61 c1) Q) := by
  rw [k0_part19_eq_skeleton]
  unfold k0_part19_skel
  iintro ⟨#HR, H3, H4, H5, H6, Hw, HO⟩ Hk
  rw [WP_bind]
  iapply (sS m ρ K c 4 (by decide) (dev_7 c)) $$ [H3 HO]
  · iframe; iexact HR
  iintro HO
  rw [WP_bind]
  iapply (sS m ρ K c 5 (by decide) (dev_8 c)) $$ [H4 HO]
  · iframe; iexact HR
  iintro HO
  rw [WP_bind]
  iapply (sS m ρ K c 6 (by decide) (dev_9 c)) $$ [H5 HO]
  · iframe; iexact HR
  iintro HO
  rw [WP_bind]
  iapply (sS m ρ K c 7 (by decide) (dev_10 c)) $$ [H6 HO]
  · iframe; iexact HR
  iintro HO
  extract_lets
  rw [WP_bind]
  iapply (copyw' m ρ K c 0 rfl rfl (semW 0 _ _ rfl)) $$ [Hw]
  · iframe; iexact HR
  iintro Hc
  iapply WP_done
  iapply Hk
  iframe

theorem part20_spec (K) (c : Dev nD) {O} (hO : Above 0 O) {Q} :
    iprop(Rec (F := F) m ρ K ∗ wres m c 1 ∗ wres m c 2 ∗ wres m c 3 ∗ wgo (F := F) c 0 ∗ (LX c ↦{fullShare} xstg m ρ c) ∗ owesE c O)
      ⊢ iprop((cred (tallyAt (wCell c 1) () NW) ∗ cred (tallyAt (wCell c 2) () NW) ∗ cred (tallyAt (wCell c 3) () NW)
            ∗ wgot m ρ c 0 ∗ (LX c ↦{fullShare} xstg m ρ c) ∗ owesE c O -∗ Q ⟨V103 m ρ c, V112 m ρ c⟩)
        -∗ WP c (k0_part20 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part20_eq_skeleton]
  unfold k0_part20_skel V103 V112
  iintro ⟨#HR, Hw1, Hw2, Hw3, Hg0, HX, HO⟩ Hk
  extract_lets
  rw [WP_bind]
  iapply (copyw' m ρ K c 1 rfl rfl (semW 1 _ _ rfl)) $$ [Hw1]
  · iframe; iexact HR
  iintro Hc1
  extract_lets
  rw [WP_bind]
  iapply (copyw' m ρ K c 2 rfl rfl (semW 2 _ _ rfl)) $$ [Hw2]
  · iframe; iexact HR
  iintro Hc2
  extract_lets
  rw [WP_bind]
  iapply (copyw' m ρ K c 3 rfl rfl (semW 3 _ _ rfl)) $$ [Hw3]
  · iframe; iexact HR
  iintro Hc3
  rw [WP_bind]
  iapply (xld m ρ c rfl) $$ HX
  iintro HX
  extract_lets
  rw [WP_bind]
  iapply (waitw' m ρ K c 0 (semW 0 _ _ rfl) hO) $$ [Hg0 HO]
  · iframe; iexact HR
  unfold wgot
  iintro ⟨⟨⟨Hw0, Hx0⟩, Hl0⟩, HO⟩
  rw [WP_bind]
  iapply (wld m c 0 rfl) $$ Hw0
  iintro Hw0
  iapply WP_done
  iapply Hk
  iframe

theorem part21_spec (K) (c : Dev nD) {O} (hO : Above 0 O) (hO' : Above 1 O) {Q} :
    iprop(Rec (F := F) m ρ K ∗ wgo (F := F) c 1 ∗ wgo (F := F) c 2 ∗ wgo (F := F) c 3
        ∗ cred (tallyAt (barCell c) () 10) ∗ atPos ER (barCell c) 0 ∅ 0 ∗ owesE c O)
      ⊢ iprop((wgot m ρ c 1 ∗ wgot m ρ c 2 ∗ wgot m ρ c 3 ∗ barGot (F := F) c ∗ closable (F := F) m ρ (barCell c) ∗ owesE c O
            -∗ Q ⟨V132 m ρ c, V138 m ρ c, V140 m c, V141 m ρ c, constant S64x512 .f32 0x00000000#32⟩)
        -∗ WP c (k0_part21 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 (SemArray.scalar (sig.barrier 0 rfl)) (V103 m ρ c) (V112 m ρ c)) Q) := by
  rw [k0_part21_eq_skeleton]
  unfold k0_part21_skel V132 V138 V140 V141
  dsimp only
  iintro ⟨#HR, Hg1, Hg2, Hg3, Hb, Hp, HO⟩ Hk
  rw [WP_bind]
  iapply (waitw' m ρ K c 1 (semW 1 _ _ rfl) hO) $$ [Hg1 HO]
  · iframe; iexact HR
  unfold wgot
  iintro ⟨⟨⟨Hw1, Hx1⟩, Hl1⟩, HO⟩
  rw [WP_bind]
  iapply (wld m c 1 rfl) $$ Hw1
  iintro Hw1
  rw [WP_bind]
  iapply (waitw' m ρ K c 2 (semW 2 _ _ rfl) hO) $$ [Hg2 HO]
  · iframe; iexact HR
  unfold wgot
  iintro ⟨⟨⟨Hw2, Hx2⟩, Hl2⟩, HO⟩
  rw [WP_bind]
  iapply (wld m c 2 rfl) $$ Hw2
  iintro Hw2
  rw [WP_bind]
  iapply (waitw' m ρ K c 3 (semW 3 _ _ rfl) hO) $$ [Hg3 HO]
  · iframe; iexact HR
  unfold wgot
  iintro ⟨⟨⟨Hw3, Hx3⟩, Hl3⟩, HO⟩
  rw [WP_bind]
  iapply (wait_bar m ρ K c hO') $$ [Hb Hp HO]
  · iframe; iexact HR
  iintro ⟨HB, Hl, HO⟩
  rw [WP_bind]
  iapply (wcld m c 0 rfl) $$ Hw3
  iintro Hw3
  iapply WP_done
  iapply Hk
  iframe
theorem off2_pl (c : Dev nD) (hh : k0_cond1 c = 1#1) : k0_off2 c = ![(pl c).val, 0, 0, 0] := by revert c; decide +kernel
theorem off1_pl (c : Dev nD) (hh : k0_cond1 c = 1#1) : k0_off1 c = ![(pl c).val] := by revert c; decide +kernel
theorem dev_11 (c : Dev nD) (hh : k0_cond1 c = 1#1) : (⟨k0_dev11 c, k0_dev11_lt c hh⟩ : Dev nD) = dv 0 (sl c) := by revert c; decide +kernel
theorem off4_pl (c : Dev nD) (hh : k0_cond2 c = 1#1) : k0_off4 c = ![(pl c).val, 0, 0, 0] := by revert c; decide +kernel
theorem off3_pl (c : Dev nD) (hh : k0_cond2 c = 1#1) : k0_off3 c = ![(pl c).val] := by revert c; decide +kernel
theorem dev_12 (c : Dev nD) (hh : k0_cond2 c = 1#1) : (⟨k0_dev12 c, k0_dev12_lt c hh⟩ : Dev nD) = dv 1 (sl c) := by revert c; decide +kernel
theorem off6_pl (c : Dev nD) (hh : k0_cond3 c = 1#1) : k0_off6 c = ![(pl c).val, 0, 0, 0] := by revert c; decide +kernel
theorem off5_pl (c : Dev nD) (hh : k0_cond3 c = 1#1) : k0_off5 c = ![(pl c).val] := by revert c; decide +kernel
theorem dev_13 (c : Dev nD) (hh : k0_cond3 c = 1#1) : (⟨k0_dev13 c, k0_dev13_lt c hh⟩ : Dev nD) = dv 2 (sl c) := by revert c; decide +kernel
theorem off8_pl (c : Dev nD) (hh : k0_cond4 c = 1#1) : k0_off8 c = ![(pl c).val, 0, 0, 0] := by revert c; decide +kernel
theorem off7_pl (c : Dev nD) (hh : k0_cond4 c = 1#1) : k0_off7 c = ![(pl c).val] := by revert c; decide +kernel
theorem dev_14 (c : Dev nD) (hh : k0_cond4 c = 1#1) : (⟨k0_dev14 c, k0_dev14_lt c hh⟩ : Dev nD) = dv 3 (sl c) := by revert c; decide +kernel

/-- What the send of one column block costs. -/
def go1 (c : Dev nD) (a : Fin 4) : sProp 𝕄 := iprop(off (pl c) a (iprop(∃ f, rPts (F := F) (dv a (sl c)) (pl c) f)) ∗ tk1 (F := F) c a)

theorem part22_spec (K) (c : Dev nD) {O} {Q} :
    iprop(Rec (F := F) m ρ K ∗ Yu m ρ c 0 0 ∗ go1 (F := F) c 0 ∗ owesE c (O + O1 c 0))
      ⊢ iprop((sent1 m ρ c 0 ∗ owesE c O -∗ Q ⟨⟩)
        -∗ WP c (k0_part22 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) (V138 m ρ c) (V140 m c) (V141 m ρ c) (constant S64x512 .f32 0x00000000#32)) Q) := by
  rw [k0_part22_eq_skeleton]
  unfold k0_part22_skel go1
  iintro ⟨#HR, HY, ⟨Hr, Ht⟩, HO⟩ Hk
  iapply (ystep m ρ c 0 0 0 1 rfl rfl rfl rfl (he := rfl) (hw := rfl)) $$ HY
  iintro HY
  iapply (ystep m ρ c 0 1 1 2 rfl rfl rfl rfl (he := rfl) (hw := rfl)) $$ HY
  iintro HY
  iapply (ystep m ρ c 0 2 2 3 rfl rfl rfl rfl (he := rfl) (hw := rfl)) $$ HY
  iintro HY
  iapply (ystep m ρ c 0 3 3 4 rfl rfl rfl rfl (he := rfl) (hw := rfl)) $$ HY
  iintro HY
  ihave HY := (Yu_four m ρ c 0) $$ HY
  extract_lets J
  iapply (csend1 m ρ K c 0 (is_c1 c) rfl (off2_pl c) (dev_11 c) (semA 0 _ _ rfl) (fun hh => semB (pl c) _ _ (off1_pl c hh))) $$ [HY Hr Ht HO]
  · iframe; iexact HR
  iintro ⟨Hs, HO⟩
  subst J
  iapply WP_done
  iapply Hk
  iframe

theorem part23_spec (c : Dev nD) {Q} :
    iprop(Yu m ρ c 1 0 ∗ wPts c 3 (WB m c))
      ⊢ iprop((∀ v, Yu m ρ c 1 4 ∗ wPts c 3 (WB m c) -∗ Q v)
        -∗ WP c (k0_part23 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 (w19 c) (V132 m ρ c) (V138 m ρ c)) Q) := by
  rw [k0_part23_eq_skeleton]
  unfold k0_part23_skel
  iintro ⟨HY, HW⟩ Hk
  rw [WP_bind]
  iapply (wcld m c 1 rfl) $$ HW
  iintro HW
  iapply (ystep m ρ c 1 0 0 1 rfl rfl rfl rfl (he := rfl) (hw := rfl)) $$ HY
  iintro HY
  iapply (ystep m ρ c 1 1 1 2 rfl rfl rfl rfl (he := rfl) (hw := rfl)) $$ HY
  iintro HY
  iapply (ystep m ρ c 1 2 2 3 rfl rfl rfl rfl (he := rfl) (hw := rfl)) $$ HY
  iintro HY
  iapply (ystep m ρ c 1 3 3 4 rfl rfl rfl rfl (he := rfl) (hw := rfl)) $$ HY
  iintro HY
  extract_lets
  iapply WP_done
  iapply Hk
  iframe

theorem part24_spec (K) (c : Dev nD) (v213 : BitVec 32) {O} {Q} :
    iprop(Rec (F := F) m ρ K ∗ Yu m ρ c 1 4 ∗ Yu m ρ c 2 0 ∗ wPts c 3 (WB m c) ∗ go1 (F := F) c 1 ∗ owesE c (O + O1 c 1))
      ⊢ iprop((sent1 m ρ c 1 ∗ Yu m ρ c 2 3 ∗ wPts c 3 (WB m c) ∗ owesE c O -∗ Q (k0_pay77 (V132 m ρ c) (V138 m ρ c) (WC m c 2)))
        -∗ WP c (k0_part24 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w20 c) (V132 m ρ c) (V138 m ρ c) v213) Q) := by
  rw [k0_part24_eq_skeleton]
  unfold k0_part24_skel go1
  iintro ⟨#HR, HY, HY2, HW, ⟨Hr, Ht⟩, HO⟩ Hk
  ihave HY := (Yu_four m ρ c 1) $$ HY
  extract_lets J
  iapply (csend1 m ρ K c 1 (is_c2 c) rfl (off4_pl c) (dev_12 c) (semA 1 _ _ rfl) (fun hh => semB (pl c) _ _ (off3_pl c hh))) $$ [HY Hr Ht HO]
  · iframe; iexact HR
  iintro ⟨Hs, HO⟩
  subst J
  rw [WP_bind]
  iapply (wcld m c 2 rfl) $$ HW
  iintro HW
  irename HY2 => HY
  iapply (ystep m ρ c 2 0 0 1 rfl rfl rfl rfl (he := rfl) (hw := rfl)) $$ HY
  iintro HY
  iapply (ystep m ρ c 2 1 1 2 rfl rfl rfl rfl (he := rfl) (hw := rfl)) $$ HY
  iintro HY
  iapply (ystep m ρ c 2 2 2 3 rfl rfl rfl rfl (he := rfl) (hw := rfl)) $$ HY
  iintro HY
  rw [WP_bind]
  iapply (yld m ρ c 2 3 rfl) $$ HY
  iintro %_ HY
  iapply WP_done
  iapply Hk
  iframe

theorem part25_spec (K) (c : Dev nD) {O} {Q} :
    iprop(Rec (F := F) m ρ K ∗ Yu m ρ c 2 3 ∗ Yu m ρ c 3 0 ∗ wPts c 3 (WB m c) ∗ go1 (F := F) c 2 ∗ owesE c (O + O1 c 2))
      ⊢ iprop((sent1 m ρ c 2 ∗ Yu m ρ c 3 3 ∗ wPts c 3 (WB m c) ∗ owesE c O -∗ Q (k0_pay83 (V132 m ρ c) (V138 m ρ c) (WC m c 3)))
        -∗ WP c (k0_part25 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) (V132 m ρ c) (V138 m ρ c) (k0_pay77 (V132 m ρ c) (V138 m ρ c) (WC m c 2))) Q) := by
  rw [k0_part25_eq_skeleton]
  unfold k0_part25_skel go1
  iintro ⟨#HR, HY, HY2, HW, ⟨Hr, Ht⟩, HO⟩ Hk
  rw [WP_bind]
  iapply (yst m ρ c 2 3 3 4 rfl rfl rfl rfl (he := rfl) (hs := slices_S64x512_o0_384_S64x128) (hc := shapeCasts_S64x128_S1x64x128) (hw := rfl)) $$ HY
  iintro HY
  ihave HY := (Yu_four m ρ c 2) $$ HY
  extract_lets J
  iapply (csend1 m ρ K c 2 (is_c3 c) rfl (off6_pl c) (dev_13 c) (semA 2 _ _ rfl) (fun hh => semB (pl c) _ _ (off5_pl c hh))) $$ [HY Hr Ht HO]
  · iframe; iexact HR
  iintro ⟨Hs, HO⟩
  subst J
  rw [WP_bind]
  iapply (wcld m c 3 rfl) $$ HW
  iintro HW
  irename HY2 => HY
  iapply (ystep m ρ c 3 0 0 1 rfl rfl rfl rfl (he := rfl) (hw := rfl)) $$ HY
  iintro HY
  iapply (ystep m ρ c 3 1 1 2 rfl rfl rfl rfl (he := rfl) (hw := rfl)) $$ HY
  iintro HY
  iapply (ystep m ρ c 3 2 2 3 rfl rfl rfl rfl (he := rfl) (hw := rfl)) $$ HY
  iintro HY
  iapply WP_done
  iapply Hk
  iframe

end Cert.A2A
end
end
-- ==== Proof.Parts2.lean ====
/-
The second phase's pieces: one place's block regrouped, and one arrival stored.
-/
module

public import proofs.«01_k».proof.Proof.Parts1

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of the second phase -/

theorem part1_spec (c : Dev nD) (Q : FVec F S64x128 .bf16 → sProp 𝕄) :
    iprop((LR c ↦{fullShare} RB m ρ c) ∗ Su m ρ c 0 0)
      ⊢ iprop(((LR c ↦{fullShare} RB m ρ c) ∗ Su m ρ c 0 1 -∗ Q (HV m ρ c 0 1)) -∗ WP c (k0_part1 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part1_eq_skeleton]
  exact s2p_spec m ρ c 0 0 rfl rfl rfl rfl rfl rfl (f1 := k0_pay1) (f2 := k0_pay2) (hc := shapeCasts_S64x128_S1x1x64x128)
    (congrArg (fun x => shapeCast S1x1x64x128 x shapeCasts_S64x128_S1x1x64x128) (cat_half m ρ c 0 0 0 0 1 rfl rfl rfl rfl (hcc := concatenates_S64x64_S64x64_S64x128_d1)))
    (cat_half m ρ c 0 1 0 2 3 rfl rfl rfl rfl (hcc := concatenates_S64x64_S64x64_S64x128_d1))

theorem part2_spec (c : Dev nD) (Q : FVec F S64x128 .bf16 → sProp 𝕄) :
    iprop((LR c ↦{fullShare} RB m ρ c) ∗ Su m ρ c 1 0)
      ⊢ iprop(((LR c ↦{fullShare} RB m ρ c) ∗ Su m ρ c 1 1 -∗ Q (HV m ρ c 1 1)) -∗ WP c (k0_part2 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part2_eq_skeleton]
  exact s2p_spec m ρ c 1 0 rfl rfl rfl rfl rfl rfl (f1 := k0_pay3) (f2 := k0_pay4) (hc := shapeCasts_S64x128_S1x1x64x128)
    (congrArg (fun x => shapeCast S1x1x64x128 x shapeCasts_S64x128_S1x1x64x128) (cat_half m ρ c 1 0 0 0 1 rfl rfl rfl rfl (hcc := concatenates_S64x64_S64x64_S64x128_d1)))
    (cat_half m ρ c 1 1 0 2 3 rfl rfl rfl rfl (hcc := concatenates_S64x64_S64x64_S64x128_d1))

theorem part3_spec (c : Dev nD) (Q : FVec F S64x128 .bf16 → sProp 𝕄) :
    iprop((LR c ↦{fullShare} RB m ρ c) ∗ Su m ρ c 2 0)
      ⊢ iprop(((LR c ↦{fullShare} RB m ρ c) ∗ Su m ρ c 2 1 -∗ Q (HV m ρ c 2 1)) -∗ WP c (k0_part3 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part3_eq_skeleton]
  exact s2p_spec m ρ c 2 1 rfl rfl rfl rfl rfl rfl (f1 := k0_pay5) (f2 := k0_pay6) (hc := shapeCasts_S64x128_S1x1x64x128)
    (congrArg (fun x => shapeCast S1x1x64x128 x shapeCasts_S64x128_S1x1x64x128) (cat_half m ρ c 2 0 1 0 1 rfl rfl rfl rfl (hcc := concatenates_S64x64_S64x64_S64x128_d1)))
    (cat_half m ρ c 2 1 1 2 3 rfl rfl rfl rfl (hcc := concatenates_S64x64_S64x64_S64x128_d1))

theorem part4_spec (c : Dev nD) (Q : FVec F S64x128 .bf16 → sProp 𝕄) :
    iprop((LR c ↦{fullShare} RB m ρ c) ∗ Su m ρ c 3 0)
      ⊢ iprop(((LR c ↦{fullShare} RB m ρ c) ∗ Su m ρ c 3 1 -∗ Q (HV m ρ c 3 1)) -∗ WP c (k0_part4 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part4_eq_skeleton]
  exact s2p_spec m ρ c 3 1 rfl rfl rfl rfl rfl rfl (f1 := k0_pay7) (f2 := k0_pay8) (hc := shapeCasts_S64x128_S1x1x64x128)
    (congrArg (fun x => shapeCast S1x1x64x128 x shapeCasts_S64x128_S1x1x64x128) (cat_half m ρ c 3 0 1 0 1 rfl rfl rfl rfl (hcc := concatenates_S64x64_S64x64_S64x128_d1)))
    (cat_half m ρ c 3 1 1 2 3 rfl rfl rfl rfl (hcc := concatenates_S64x64_S64x64_S64x128_d1))

theorem part5_spec (c : Dev nD) (Q : FVec F S64x128 .bf16 → sProp 𝕄) :
    iprop((LR c ↦{fullShare} RB m ρ c) ∗ Su m ρ c 4 0)
      ⊢ iprop(((LR c ↦{fullShare} RB m ρ c) ∗ Su m ρ c 4 1 -∗ Q (HV m ρ c 4 1)) -∗ WP c (k0_part5 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part5_eq_skeleton]
  exact s2p_spec m ρ c 4 2 rfl rfl rfl rfl rfl rfl (f1 := k0_pay9) (f2 := k0_pay10) (hc := shapeCasts_S64x128_S1x1x64x128)
    (congrArg (fun x => shapeCast S1x1x64x128 x shapeCasts_S64x128_S1x1x64x128) (cat_half m ρ c 4 0 2 0 1 rfl rfl rfl rfl (hcc := concatenates_S64x64_S64x64_S64x128_d1)))
    (cat_half m ρ c 4 1 2 2 3 rfl rfl rfl rfl (hcc := concatenates_S64x64_S64x64_S64x128_d1))

theorem part6_spec (c : Dev nD) (Q : FVec F S64x128 .bf16 → sProp 𝕄) :
    iprop((LR c ↦{fullShare} RB m ρ c) ∗ Su m ρ c 5 0)
      ⊢ iprop(((LR c ↦{fullShare} RB m ρ c) ∗ Su m ρ c 5 1 -∗ Q (HV m ρ c 5 1)) -∗ WP c (k0_part6 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part6_eq_skeleton]
  exact s2p_spec m ρ c 5 2 rfl rfl rfl rfl rfl rfl (f1 := k0_pay11) (f2 := k0_pay12) (hc := shapeCasts_S64x128_S1x1x64x128)
    (congrArg (fun x => shapeCast S1x1x64x128 x shapeCasts_S64x128_S1x1x64x128) (cat_half m ρ c 5 0 2 0 1 rfl rfl rfl rfl (hcc := concatenates_S64x64_S64x64_S64x128_d1)))
    (cat_half m ρ c 5 1 2 2 3 rfl rfl rfl rfl (hcc := concatenates_S64x64_S64x64_S64x128_d1))

theorem part7_spec (c : Dev nD) (Q : FVec F S64x128 .bf16 → sProp 𝕄) :
    iprop((LR c ↦{fullShare} RB m ρ c) ∗ Su m ρ c 6 0)
      ⊢ iprop(((LR c ↦{fullShare} RB m ρ c) ∗ Su m ρ c 6 1 -∗ Q (HV m ρ c 6 1)) -∗ WP c (k0_part7 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part7_eq_skeleton]
  exact s2p_spec m ρ c 6 3 rfl rfl rfl rfl rfl rfl (f1 := k0_pay13) (f2 := k0_pay14) (hc := shapeCasts_S64x128_S1x1x64x128)
    (congrArg (fun x => shapeCast S1x1x64x128 x shapeCasts_S64x128_S1x1x64x128) (cat_half m ρ c 6 0 3 0 1 rfl rfl rfl rfl (hcc := concatenates_S64x64_S64x64_S64x128_d1)))
    (cat_half m ρ c 6 1 3 2 3 rfl rfl rfl rfl (hcc := concatenates_S64x64_S64x64_S64x128_d1))

theorem part8_spec (c : Dev nD) (Q : FVec F S64x128 .bf16 → sProp 𝕄) :
    iprop((LR c ↦{fullShare} RB m ρ c) ∗ Su m ρ c 7 0)
      ⊢ iprop(((LR c ↦{fullShare} RB m ρ c) ∗ Su m ρ c 7 1 -∗ Q (HV m ρ c 7 1)) -∗ WP c (k0_part8 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part8_eq_skeleton]
  exact s2p_spec m ρ c 7 3 rfl rfl rfl rfl rfl rfl (f1 := k0_pay15) (f2 := k0_pay16) (hc := shapeCasts_S64x128_S1x1x64x128)
    (congrArg (fun x => shapeCast S1x1x64x128 x shapeCasts_S64x128_S1x1x64x128) (cat_half m ρ c 7 0 3 0 1 rfl rfl rfl rfl (hcc := concatenates_S64x64_S64x64_S64x128_d1)))
    (cat_half m ρ c 7 1 3 2 3 rfl rfl rfl rfl (hcc := concatenates_S64x64_S64x64_S64x128_d1))

theorem part9_spec (K) (c : Dev nD) (hs : 0 ≠ sl c) (Q : (Σ' (v : FVec F S64x128 .bf16), FVec F S64x64 .f32) → sProp 𝕄) :
    iprop(Rec (F := F) m ρ K ∗ cred (tallyAt (dCell c 0) () N2) ∗ atPos ER (dCell c 0) 0 ∅ 0 ∗ owesE (F := F) c 0 ∗ Ou m ρ c (PR (sl c).val ((0 : Fin 8)).val))
      ⊢ iprop((dPts c 0 (DB m ρ c) ∗ closable (F := F) m ρ (dCell c 0) ∗ owesE (F := F) c 0 ∗ Ou m ρ c (PE (sl c).val ((0 : Fin 8)).val 2)
            -∗ Q ⟨k0_pay20 (drow m ρ c 0 1), outv m ρ c 2 0⟩) -∗ WP c (k0_part9 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part9_eq_skeleton, show outv m ρ c 2 0 = k0_pay21 (drow m ρ c 0 1) from (ext_d m ρ c 0 1 2 0 (by decide) rfl rfl).symm]
  exact rp_spec m ρ K c 0 hs rfl (semD 0 _ _ rfl) rfl rfl rfl rfl (f0 := k0_pay18) (f1 := k0_pay19) (f2 := k0_pay20) (f3 := k0_pay21)
    (ext_d m ρ c 0 0 0 0 (by decide) rfl rfl) (ext_d m ρ c 0 0 1 1 (by decide) rfl rfl)

theorem part10_spec (K) (c : Dev nD) (hs : 1 ≠ sl c) (Q : (Σ' (v : FVec F S64x128 .bf16), FVec F S64x64 .f32) → sProp 𝕄) :
    iprop(Rec (F := F) m ρ K ∗ cred (tallyAt (dCell c 1) () N2) ∗ atPos ER (dCell c 1) 0 ∅ 0 ∗ owesE (F := F) c 0 ∗ Ou m ρ c (PR (sl c).val ((1 : Fin 8)).val))
      ⊢ iprop((dPts c 1 (DB m ρ c) ∗ closable (F := F) m ρ (dCell c 1) ∗ owesE (F := F) c 0 ∗ Ou m ρ c (PE (sl c).val ((1 : Fin 8)).val 2)
            -∗ Q ⟨k0_pay25 (drow m ρ c 1 1), outv m ρ c 2 1⟩) -∗ WP c (k0_part10 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part10_eq_skeleton, show outv m ρ c 2 1 = k0_pay26 (drow m ρ c 1 1) from (ext_d m ρ c 1 1 2 0 (by decide) rfl rfl).symm]
  exact rp_spec m ρ K c 1 hs rfl (semD 1 _ _ rfl) rfl rfl rfl rfl (f0 := k0_pay23) (f1 := k0_pay24) (f2 := k0_pay25) (f3 := k0_pay26)
    (ext_d m ρ c 1 0 0 0 (by decide) rfl rfl) (ext_d m ρ c 1 0 1 1 (by decide) rfl rfl)

theorem part11_spec (K) (c : Dev nD) (hs : 2 ≠ sl c) (Q : (Σ' (v : FVec F S64x128 .bf16), FVec F S64x64 .f32) → sProp 𝕄) :
    iprop(Rec (F := F) m ρ K ∗ cred (tallyAt (dCell c 2) () N2) ∗ atPos ER (dCell c 2) 0 ∅ 0 ∗ owesE (F := F) c 0 ∗ Ou m ρ c (PR (sl c).val ((2 : Fin 8)).val))
      ⊢ iprop((dPts c 2 (DB m ρ c) ∗ closable (F := F) m ρ (dCell c 2) ∗ owesE (F := F) c 0 ∗ Ou m ρ c (PE (sl c).val ((2 : Fin 8)).val 2)
            -∗ Q ⟨k0_pay30 (drow m ρ c 2 1), outv m ρ c 2 2⟩) -∗ WP c (k0_part11 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part11_eq_skeleton, show outv m ρ c 2 2 = k0_pay31 (drow m ρ c 2 1) from (ext_d m ρ c 2 1 2 0 (by decide) rfl rfl).symm]
  exact rp_spec m ρ K c 2 hs rfl (semD 2 _ _ rfl) rfl rfl rfl rfl (f0 := k0_pay28) (f1 := k0_pay29) (f2 := k0_pay30) (f3 := k0_pay31)
    (ext_d m ρ c 2 0 0 0 (by decide) rfl rfl) (ext_d m ρ c 2 0 1 1 (by decide) rfl rfl)

theorem part12_spec (K) (c : Dev nD) (hs : 3 ≠ sl c) (Q : (Σ' (v : FVec F S64x128 .bf16), FVec F S64x64 .f32) → sProp 𝕄) :
    iprop(Rec (F := F) m ρ K ∗ cred (tallyAt (dCell c 3) () N2) ∗ atPos ER (dCell c 3) 0 ∅ 0 ∗ owesE (F := F) c 0 ∗ Ou m ρ c (PR (sl c).val ((3 : Fin 8)).val))
      ⊢ iprop((dPts c 3 (DB m ρ c) ∗ closable (F := F) m ρ (dCell c 3) ∗ owesE (F := F) c 0 ∗ Ou m ρ c (PE (sl c).val ((3 : Fin 8)).val 2)
            -∗ Q ⟨k0_pay35 (drow m ρ c 3 1), outv m ρ c 2 3⟩) -∗ WP c (k0_part12 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part12_eq_skeleton, show outv m ρ c 2 3 = k0_pay36 (drow m ρ c 3 1) from (ext_d m ρ c 3 1 2 0 (by decide) rfl rfl).symm]
  exact rp_spec m ρ K c 3 hs rfl (semD 3 _ _ rfl) rfl rfl rfl rfl (f0 := k0_pay33) (f1 := k0_pay34) (f2 := k0_pay35) (f3 := k0_pay36)
    (ext_d m ρ c 3 0 0 0 (by decide) rfl rfl) (ext_d m ρ c 3 0 1 1 (by decide) rfl rfl)

theorem part13_spec (K) (c : Dev nD) (hs : 4 ≠ sl c) (Q : (Σ' (v : FVec F S64x128 .bf16), FVec F S64x64 .f32) → sProp 𝕄) :
    iprop(Rec (F := F) m ρ K ∗ cred (tallyAt (dCell c 4) () N2) ∗ atPos ER (dCell c 4) 0 ∅ 0 ∗ owesE (F := F) c 0 ∗ Ou m ρ c (PR (sl c).val ((4 : Fin 8)).val))
      ⊢ iprop((dPts c 4 (DB m ρ c) ∗ closable (F := F) m ρ (dCell c 4) ∗ owesE (F := F) c 0 ∗ Ou m ρ c (PE (sl c).val ((4 : Fin 8)).val 2)
            -∗ Q ⟨k0_pay40 (drow m ρ c 4 1), outv m ρ c 2 4⟩) -∗ WP c (k0_part13 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part13_eq_skeleton, show outv m ρ c 2 4 = k0_pay41 (drow m ρ c 4 1) from (ext_d m ρ c 4 1 2 0 (by decide) rfl rfl).symm]
  exact rp_spec m ρ K c 4 hs rfl (semD 4 _ _ rfl) rfl rfl rfl rfl (f0 := k0_pay38) (f1 := k0_pay39) (f2 := k0_pay40) (f3 := k0_pay41)
    (ext_d m ρ c 4 0 0 0 (by decide) rfl rfl) (ext_d m ρ c 4 0 1 1 (by decide) rfl rfl)

theorem part14_spec (K) (c : Dev nD) (hs : 5 ≠ sl c) (Q : (Σ' (v : FVec F S64x128 .bf16), FVec F S64x64 .f32) → sProp 𝕄) :
    iprop(Rec (F := F) m ρ K ∗ cred (tallyAt (dCell c 5) () N2) ∗ atPos ER (dCell c 5) 0 ∅ 0 ∗ owesE (F := F) c 0 ∗ Ou m ρ c (PR (sl c).val ((5 : Fin 8)).val))
      ⊢ iprop((dPts c 5 (DB m ρ c) ∗ closable (F := F) m ρ (dCell c 5) ∗ owesE (F := F) c 0 ∗ Ou m ρ c (PE (sl c).val ((5 : Fin 8)).val 2)
            -∗ Q ⟨k0_pay45 (drow m ρ c 5 1), outv m ρ c 2 5⟩) -∗ WP c (k0_part14 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part14_eq_skeleton, show outv m ρ c 2 5 = k0_pay46 (drow m ρ c 5 1) from (ext_d m ρ c 5 1 2 0 (by decide) rfl rfl).symm]
  exact rp_spec m ρ K c 5 hs rfl (semD 5 _ _ rfl) rfl rfl rfl rfl (f0 := k0_pay43) (f1 := k0_pay44) (f2 := k0_pay45) (f3 := k0_pay46)
    (ext_d m ρ c 5 0 0 0 (by decide) rfl rfl) (ext_d m ρ c 5 0 1 1 (by decide) rfl rfl)

theorem part15_spec (K) (c : Dev nD) (hs : 6 ≠ sl c) (Q : (Σ' (v : FVec F S64x128 .bf16), FVec F S64x64 .f32) → sProp 𝕄) :
    iprop(Rec (F := F) m ρ K ∗ cred (tallyAt (dCell c 6) () N2) ∗ atPos ER (dCell c 6) 0 ∅ 0 ∗ owesE (F := F) c 0 ∗ Ou m ρ c (PR (sl c).val ((6 : Fin 8)).val))
      ⊢ iprop((dPts c 6 (DB m ρ c) ∗ closable (F := F) m ρ (dCell c 6) ∗ owesE (F := F) c 0 ∗ Ou m ρ c (PE (sl c).val ((6 : Fin 8)).val 2)
            -∗ Q ⟨k0_pay50 (drow m ρ c 6 1), outv m ρ c 2 6⟩) -∗ WP c (k0_part15 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part15_eq_skeleton, show outv m ρ c 2 6 = k0_pay51 (drow m ρ c 6 1) from (ext_d m ρ c 6 1 2 0 (by decide) rfl rfl).symm]
  exact rp_spec m ρ K c 6 hs rfl (semD 6 _ _ rfl) rfl rfl rfl rfl (f0 := k0_pay48) (f1 := k0_pay49) (f2 := k0_pay50) (f3 := k0_pay51)
    (ext_d m ρ c 6 0 0 0 (by decide) rfl rfl) (ext_d m ρ c 6 0 1 1 (by decide) rfl rfl)

theorem part16_spec (K) (c : Dev nD) (hs : 7 ≠ sl c) (Q : (Σ' (v : FVec F S64x128 .bf16), FVec F S64x64 .f32) → sProp 𝕄) :
    iprop(Rec (F := F) m ρ K ∗ cred (tallyAt (dCell c 7) () N2) ∗ atPos ER (dCell c 7) 0 ∅ 0 ∗ owesE (F := F) c 0 ∗ Ou m ρ c (PR (sl c).val ((7 : Fin 8)).val))
      ⊢ iprop((dPts c 7 (DB m ρ c) ∗ closable (F := F) m ρ (dCell c 7) ∗ owesE (F := F) c 0 ∗ Ou m ρ c (PE (sl c).val ((7 : Fin 8)).val 2)
            -∗ Q ⟨k0_pay55 (drow m ρ c 7 1), outv m ρ c 2 7⟩) -∗ WP c (k0_part16 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part16_eq_skeleton, show outv m ρ c 2 7 = k0_pay56 (drow m ρ c 7 1) from (ext_d m ρ c 7 1 2 0 (by decide) rfl rfl).symm]
  exact rp_spec m ρ K c 7 hs rfl (semD 7 _ _ rfl) rfl rfl rfl rfl (f0 := k0_pay53) (f1 := k0_pay54) (f2 := k0_pay55) (f3 := k0_pay56)
    (ext_d m ρ c 7 0 0 0 (by decide) rfl rfl) (ext_d m ρ c 7 0 1 1 (by decide) rfl rfl)

end Cert.A2A
end
end
-- ==== Proof.Gather.lean ====
/-
The first phase's results gathered in the row buffer, and what each later step takes and leaves.
-/
module

public import proofs.«01_k».proof.Proof.Parts2
public import Idealize.ShloMosaic.Lib.Ring

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first phase's results -/

theorem split4 {k : Fin 4} (P : Fin 4 → sProp 𝕄) :
    iprop(off k 0 (P 0) ∗ off k 1 (P 1) ∗ off k 2 (P 2) ∗ off k 3 (P 3) ∗ P k) ⊢ bigSep Finset.univ P := by
  rw [bigSep_univ_eq_bigSepL [0, 1, 2, 3] (by decide) (by decide) P]
  show _ ⊢ iprop(P 0 ∗ P 1 ∗ P 2 ∗ P 3)
  match k with
  | 0 => rw [off_pos rfl, off_neg (by decide), off_neg (by decide), off_neg (by decide)]; iintro ⟨-, H1, H2, H3, H⟩; iframe
  | 1 => rw [off_neg (by decide), off_pos rfl, off_neg (by decide), off_neg (by decide)]; iintro ⟨H1, -, H2, H3, H⟩; iframe
  | 2 => rw [off_neg (by decide), off_neg (by decide), off_pos rfl, off_neg (by decide)]; iintro ⟨H1, H2, -, H3, H⟩; iframe
  | 3 => rw [off_neg (by decide), off_neg (by decide), off_neg (by decide), off_pos rfl]; iintro ⟨H1, H2, H3, -, H⟩; iframe

theorem rSet_disj (a b : Fin 4) (h : a ≠ b) : Disjoint (rSet a) (rSet b) :=
  Finset.disjoint_left.mpr fun i hi hj => h (Fin.ext ((Finset.mem_filter.mp hi).2.symm.trans (Finset.mem_filter.mp hj).2))
theorem rSet_all : Finset.univ.biUnion rSet = Finset.univ :=
  Finset.ext fun i => ⟨fun _ => Finset.mem_univ _, fun _ => Finset.mem_biUnion.mpr ⟨i 0, Finset.mem_univ _, Finset.mem_filter.mpr ⟨Finset.mem_univ _, rfl⟩⟩⟩

theorem r_join (c : Dev nD) :
    iprop(off (pl c) 0 (rPts c 0 (RB m ρ c)) ∗ off (pl c) 1 (rPts c 1 (RB m ρ c)) ∗ off (pl c) 2 (rPts c 2 (RB m ρ c)) ∗ off (pl c) 3 (rPts c 3 (RB m ρ c))
        ∗ rPts c (pl c) (RB m ρ c)) ⊢ (LR c ↦{fullShare} RB m ρ c) := by
  refine (split4 (fun a => rPts c a (RB m ρ c))).trans ?_
  rw [Idealize.ShloMosaic.Ring.pointsTo_blocks (ℓ := LR c) rSet rSet_disj rSet_all (RB m ρ c)]
  exact .rfl

/-- The device's own column block, out of the four in whatever state. -/
theorem own_y (c : Dev nD) :
    iprop(sent1 m ρ c 0 ∗ sent1 m ρ c 1 ∗ sent1 m ρ c 2 ∗ sent1 m ρ c 3)
      ⊢ iprop(yPts c (pl c) (YB m ρ c) ∗ (yPts c (pl c) (YB m ρ c) -∗ sent1 m ρ c 0 ∗ sent1 m ρ c 1 ∗ sent1 m ρ c 2 ∗ sent1 m ρ c 3)) := by
  have e (a : Fin 4) (h : a = pl c) : sent1 m ρ c a = yPts c (pl c) (YB m ρ c) := by unfold sent1; rw [if_pos h, h]
  have h4 : 0 = pl c ∨ 1 = pl c ∨ 2 = pl c ∨ 3 = pl c := by
    generalize pl c = k
    revert k
    decide
  rcases h4 with h | h | h | h
  · rw [e 0 h]; iintro ⟨H0, H1, H2, H3⟩; isplitl [H0]; · iexact H0
    iintro H; iframe
  · rw [e 1 h]; iintro ⟨H0, H1, H2, H3⟩; isplitl [H1]; · iexact H1
    iintro H; iframe
  · rw [e 2 h]; iintro ⟨H0, H1, H2, H3⟩; isplitl [H2]; · iexact H2
    iintro H; iframe
  · rw [e 3 h]; iintro ⟨H0, H1, H2, H3⟩; isplitl [H3]; · iexact H3
    iintro H; iframe

/-- A device keeps its own column block by a copy of its own. -/
theorem rown (c : Dev nD) {o h o' h'} (ho : o = ![4 * (pl c).val, 0, 0]) (ho' : o' = ![(pl c).val, 0, 0, 0])
    {hl hl' hx hm} {α : Type} {J : Prog (TpuEff nD τ sig (Elt F) Λ₀ .tc) α} {Q : α → sProp 𝕄} :
    iprop(yPts c (pl c) (YB m ρ c) ∗ (∃ f, rPts (F := F) c (pl c) f))
      ⊢ iprop((yPts c (pl c) (YB m ρ c) ∗ rPts c (pl c) (RB m ρ c) -∗ WP c J Q)
        -∗ WP c (Prog.lift (.load yM (Rect.unit (s := S16x64x128) o S4x64x128.size h).toLoadRect hl) >>= fun v =>
          Prog.lift (.load rM (Rect.unit (s := S4x4x64x128) o' S1x4x64x128.size h').toLoadRect hl') >>= fun _ =>
          Prog.lift (.store rM (Rect.unit (s := S4x4x64x128) o' S1x4x64x128.size h') (k0_pay85 v) Finset.univ hx hm) >>= fun _ => J) Q) := by
  have hy := fun Q => wp_ld (F := F) (c := c) (M := yM) (r := (Rect.unit (s := S16x64x128) o S4x64x128.size h).toLoadRect) (hl := hl) (S := ySet (pl c))
    (f := YB m ρ c) (Q := Q) (by rw [setOn_access, acc_y4 (pl c) o h ho])
  rw [ld_y m ρ c (pl c) o h ho] at hy
  have hS : (rM.access (Rect.unit (s := S4x4x64x128) o' S1x4x64x128.size h')).set ⊆ rSet (pl c) := fun i hi => (acc_r (pl c) o' h' ho' i).mp hi
  unfold yPts rPts
  iintro ⟨Hy, ⟨%f, Hr⟩⟩ Hk
  rw [WP_bind]
  iapply (hy _) $$ Hy
  iintro Hy
  ihave Hr := (upto_none (LR c) (rSet (pl c)) (fun _ => False) (RB m ρ c) (fun _ _ hh => hh) f) $$ Hr
  rw [WP_bind]
  iapply (wp_ld_upto (F := F) (c := c) (M := rM) (r := (Rect.unit (s := S4x4x64x128) o' S1x4x64x128.size h').toLoadRect) (S := rSet (pl c)) (P := fun _ => False) (G := RB m ρ c)
    (by rw [setOn_access]; exact hS)) $$ Hr
  iintro %_ Hr
  rw [WP_bind]
  iapply (wp_st_upto (F := F) (c := c) (M := rM) (r := Rect.unit (s := S4x4x64x128) o' S1x4x64x128.size h') (S := rSet (pl c)) (P := fun _ => False) (P' := fun _ => True) (G := RB m ρ c)
    hS (fun x => st_r m ρ c ho' x) (fun i hi _ => .inl ((acc_r (pl c) o' h' ho' i).mpr hi))) $$ Hr
  iintro Hr
  iapply Hk
  isplitl [Hy]; · iexact Hy
  iapply (upto_all (LR c) (rSet (pl c)) (fun _ => True) (RB m ρ c) (fun _ _ => trivial)); iexact Hr

theorem off9_pl (c : Dev nD) : k0_off9 c = ![4 * (pl c).val, 0, 0] := by revert c; decide +kernel
theorem off10_pl (c : Dev nD) : k0_off10 c = ![(pl c).val, 0, 0, 0] := by revert c; decide +kernel
theorem off27_sl (c : Dev nD) : k0_off27 c = ![(sl c).val / 2, 0, 0] := by revert c; decide +kernel
theorem off11_sl (c : Dev nD) (hh : k0_cond9 c = 1#1) : k0_off11 c = ![(sl c).val] := k0_off11_eq c
theorem off12_sl (c : Dev nD) (hh : k0_cond9 c = 1#1) : k0_off12 c = ![(sl c).val, 0, 0, 0] := k0_off12_eq c
theorem dev_15 (c : Dev nD) (hh : k0_cond9 c = 1#1) : (⟨k0_dev15 c, k0_dev15_lt c hh⟩ : Dev nD) = dv (pl c) 0 := by revert c; decide +kernel
theorem off13_sl (c : Dev nD) (hh : k0_cond10 c = 1#1) : k0_off13 c = ![(sl c).val] := k0_off13_eq c
theorem off14_sl (c : Dev nD) (hh : k0_cond10 c = 1#1) : k0_off14 c = ![(sl c).val, 0, 0, 0] := k0_off14_eq c
theorem dev_16 (c : Dev nD) (hh : k0_cond10 c = 1#1) : (⟨k0_dev16 c, k0_dev16_lt c hh⟩ : Dev nD) = dv (pl c) 1 := by revert c; decide +kernel
theorem off15_sl (c : Dev nD) (hh : k0_cond11 c = 1#1) : k0_off15 c = ![(sl c).val] := k0_off15_eq c
theorem off16_sl (c : Dev nD) (hh : k0_cond11 c = 1#1) : k0_off16 c = ![(sl c).val, 0, 0, 0] := k0_off16_eq c
theorem dev_17 (c : Dev nD) (hh : k0_cond11 c = 1#1) : (⟨k0_dev17 c, k0_dev17_lt c hh⟩ : Dev nD) = dv (pl c) 2 := by revert c; decide +kernel
theorem off17_sl (c : Dev nD) (hh : k0_cond12 c = 1#1) : k0_off17 c = ![(sl c).val] := k0_off17_eq c
theorem off18_sl (c : Dev nD) (hh : k0_cond12 c = 1#1) : k0_off18 c = ![(sl c).val, 0, 0, 0] := k0_off18_eq c
theorem dev_18 (c : Dev nD) (hh : k0_cond12 c = 1#1) : (⟨k0_dev18 c, k0_dev18_lt c hh⟩ : Dev nD) = dv (pl c) 3 := by revert c; decide +kernel
theorem off19_sl (c : Dev nD) (hh : k0_cond13 c = 1#1) : k0_off19 c = ![(sl c).val] := k0_off19_eq c
theorem off20_sl (c : Dev nD) (hh : k0_cond13 c = 1#1) : k0_off20 c = ![(sl c).val, 0, 0, 0] := k0_off20_eq c
theorem dev_19 (c : Dev nD) (hh : k0_cond13 c = 1#1) : (⟨k0_dev19 c, k0_dev19_lt c hh⟩ : Dev nD) = dv (pl c) 4 := by revert c; decide +kernel
theorem off21_sl (c : Dev nD) (hh : k0_cond14 c = 1#1) : k0_off21 c = ![(sl c).val] := k0_off21_eq c
theorem off22_sl (c : Dev nD) (hh : k0_cond14 c = 1#1) : k0_off22 c = ![(sl c).val, 0, 0, 0] := k0_off22_eq c
theorem dev_20 (c : Dev nD) (hh : k0_cond14 c = 1#1) : (⟨k0_dev20 c, k0_dev20_lt c hh⟩ : Dev nD) = dv (pl c) 5 := by revert c; decide +kernel
theorem off23_sl (c : Dev nD) (hh : k0_cond15 c = 1#1) : k0_off23 c = ![(sl c).val] := k0_off23_eq c
theorem off24_sl (c : Dev nD) (hh : k0_cond15 c = 1#1) : k0_off24 c = ![(sl c).val, 0, 0, 0] := k0_off24_eq c
theorem dev_21 (c : Dev nD) (hh : k0_cond15 c = 1#1) : (⟨k0_dev21 c, k0_dev21_lt c hh⟩ : Dev nD) = dv (pl c) 6 := by revert c; decide +kernel
theorem off25_sl (c : Dev nD) (hh : k0_cond16 c = 1#1) : k0_off25 c = ![(sl c).val] := k0_off25_eq c
theorem off26_sl (c : Dev nD) (hh : k0_cond16 c = 1#1) : k0_off26 c = ![(sl c).val, 0, 0, 0] := k0_off26_eq c
theorem dev_22 (c : Dev nD) (hh : k0_cond16 c = 1#1) : (⟨k0_dev22 c, k0_dev22_lt c hh⟩ : Dev nD) = dv (pl c) 7 := by revert c; decide +kernel

/-- A wait of the first phase, before it, -/
def wtb (c : Dev nD) (a : Fin 4) : sProp 𝕄 := iprop(off (pl c) a (cred (tallyAt (bCell c a) () N1)) ∗ atPos ER (bCell c a) 0 ∅ 0)
/-- a send of the second phase, before it, -/
def go2 (c : Dev nD) (s : Fin 8) : sProp 𝕄 :=
  iprop((∃ f, sPts (F := F) c s f) ∗ off (sl c) s (iprop(∃ f, dPts (F := F) (dv (pl c) s) (sl c) f)) ∗ tk2 (F := F) c s)
/-- an arrival of the second phase, before it, -/
def wtd (c : Dev nD) (s : Fin 8) : sProp 𝕄 :=
  iprop(off (sl c) s (cred (tallyAt (dCell c s) () N2)) ∗ onl (sl c) s (iprop(∃ f, dPts (F := F) c s f)) ∗ atPos ER (dCell c s) 0 ∅ 0)
/-- and after it. -/
def gotd (c : Dev nD) (s : Fin 8) : sProp 𝕄 := iprop((∃ f, dPts (F := F) c s f) ∗ closable (F := F) m ρ (dCell c s))
/-- A returned send of the first phase, -/
def gota (c : Dev nD) (a : Fin 4) : sProp 𝕄 := iprop(yPts c a (YB m ρ c) ∗ closable (F := F) m ρ (aCell c a))
/-- and of the second. -/
def gotc (c : Dev nD) (s : Fin 8) : sProp 𝕄 := iprop((∃ f, sPts (F := F) c s f) ∗ closable (F := F) m ρ (cCell c s))

theorem blockd (K) (c : Dev nD) (s : Fin 8) {b : BitVec 1} (hb : b = 1#1 ↔ s ≠ sl c)
    {p1 : Prog (TpuEff nD τ sig (Elt F) Λ₀ .tc) (Σ' (v : FVec F S64x128 .bf16), FVec F S64x64 .f32)} {X : FVec F S64x128 .bf16}
    (hp1 : s ≠ sl c → ∀ Q' : (Σ' (v : FVec F S64x128 .bf16), FVec F S64x64 .f32) → sProp 𝕄,
      iprop(Rec (F := F) m ρ K ∗ cred (tallyAt (dCell c s) () N2) ∗ atPos ER (dCell c s) 0 ∅ 0 ∗ owesE (F := F) c 0 ∗ Ou m ρ c (PR (sl c).val s.val))
      ⊢ iprop((dPts c s (DB m ρ c) ∗ closable (F := F) m ρ (dCell c s) ∗ owesE (F := F) c 0 ∗ Ou m ρ c (PE (sl c).val s.val 2)
            -∗ Q' ⟨X, outv m ρ c 2 s⟩) -∗ WP c p1 Q'))
    {a2 b2 a3 b3} (ha2 : a2 = ![1024 + 64 * s.val, 0]) (ha3 : a3 = ![1536 + 64 * s.val, 0])
    {f : FVec F S64x128 .bf16 → FVec F S64x64 .f32} (hf : f X = outv m ρ c 3 s) (n n' : ℕ) (hn : n = s.val) (hn' : n' = n + 1)
    {hl2 hx2 hm2 hl3 hx3 hm3} {α : Type} {J : Prog (TpuEff nD τ sig (Elt F) Λ₀ .tc) α} {Q : α → sProp 𝕄} :
    iprop(Rec (F := F) m ρ K ∗ wtd (F := F) c s ∗ owesE (F := F) c 0 ∗ Ou m ρ c (PR (sl c).val n))
      ⊢ iprop((gotd m ρ c s ∗ owesE (F := F) c 0 ∗ Ou m ρ c (PR (sl c).val n') -∗ WP c J Q)
        -∗ WP c (dite (b = 1#1) (fun _ => p1 >>= fun x => match x with
          | ⟨v, w⟩ =>
            Prog.lift (.load oM (Rect.unit (s := S2048x64) a2 S64x64.size b2).toLoadRect hl2) >>= fun _ =>
            Prog.lift (.store oM (Rect.unit (s := S2048x64) a2 S64x64.size b2) w Finset.univ hx2 hm2) >>= fun _ =>
            Prog.lift (.load oM (Rect.unit (s := S2048x64) a3 S64x64.size b3).toLoadRect hl3) >>= fun _ =>
            Prog.lift (.store oM (Rect.unit (s := S2048x64) a3 S64x64.size b3) (f v) Finset.univ hx3 hm3) >>= fun _ => J) (fun _ => J)) Q) := by
  subst hn hn'
  unfold wtd gotd
  iintro ⟨#HR, ⟨H1, H2, H3⟩, HO, Ho⟩ Hk
  iapply (rblock m ρ K c s hb hp1 ha2 ha3 hf) $$ [H1 H2 H3 HO Ho]
  · iframe; iexact HR
  iintro ⟨Hd, Hcl, HO, Ho⟩
  iapply Hk
  iframe

end Cert.A2A
end
end
-- ==== Proof.Parts3.lean ====
/-
The first phase waited for, and the second phase's sends.
-/
module

public import proofs.«01_k».proof.Proof.Gather

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
theorem part26_spec (K) (c : Dev nD) {O} (hO : Above 2 (O + O2 c 0)) {Q} :
    iprop(Rec (F := F) m ρ K ∗ Yu m ρ c 3 3 ∗ go1 (F := F) c 3 ∗ (sent1 m ρ c 0 ∗ sent1 m ρ c 1 ∗ sent1 m ρ c 2) ∗ (∃ f, rPts (F := F) c (pl c) f)
        ∗ (wtb (F := F) c 0 ∗ wtb (F := F) c 1 ∗ wtb (F := F) c 2 ∗ wtb (F := F) c 3) ∗ go2 (F := F) c 0 ∗ owesE c (O + O2 c 0 + O1 c 3))
      ⊢ iprop((∀ v, (sent1 m ρ c 0 ∗ sent1 m ρ c 1 ∗ sent1 m ρ c 2 ∗ sent1 m ρ c 3)
            ∗ (closable (F := F) m ρ (bCell c 0) ∗ closable (F := F) m ρ (bCell c 1) ∗ closable (F := F) m ρ (bCell c 2) ∗ closable (F := F) m ρ (bCell c 3))
            ∗ (LR c ↦{fullShare} RB m ρ c) ∗ sent2 (F := F) c 0 ∗ owesE c O -∗ Q v)
        -∗ WP c (k0_part26 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) (k0_pay83 (V132 m ρ c) (V138 m ρ c) (WC m c 3))) Q) := by
  rw [k0_part26_eq_skeleton]
  unfold k0_part26_skel go1 wtb go2
  iintro ⟨#HR, HY, ⟨Hr, Ht⟩, ⟨Hs0, Hs1, Hs2⟩, Hw, ⟨⟨Hc0, Ha0⟩, ⟨Hc1, Ha1⟩, ⟨Hc2, Ha2⟩, ⟨Hc3, Ha3⟩⟩, ⟨Hp, Hd0, Ht0⟩, HO⟩ Hk
  iapply (ystep m ρ c 3 3 3 4 rfl rfl rfl rfl (he := rfl) (hs := slices_S64x512_o0_384_S64x128) (hc := shapeCasts_S64x128_S1x64x128) (hw := rfl)) $$ HY
  iintro HY
  ihave HY := (Yu_four m ρ c 3) $$ HY
  extract_lets -underBinder -merge -useContext J
  iapply (csend1 m ρ K c 3 (is_c4 c) rfl (off8_pl c) (dev_14 c) (semA 3 _ _ rfl) (fun hh => semB (pl c) _ _ (off7_pl c hh))) $$ [HY Hr Ht HO]
  · iframe; iexact HR
  iintro ⟨Hs3, HO⟩
  subst J
  beta_reduce
  ihave Hy := (own_y m ρ c) $$ [Hs0 Hs1 Hs2 Hs3]
  · iframe
  icases Hy with ⟨Hy, Hback⟩
  iapply (rown m ρ c (off9_pl c) (off10_pl c)) $$ [Hy Hw]
  · iframe
  iintro ⟨Hy, Hw⟩
  ihave Hall := Hback $$ Hy
  extract_lets -underBinder -merge -useContext v1 v2 v3 J
  iapply (cwait_b m ρ K c 0 (is19 c 0) (semB 0 _ _ rfl) hO) $$ [Hc0 Ha0 HO]
  · iframe; iexact HR
  iintro ⟨HB0, Hl0, HO⟩
  subst J
  beta_reduce
  extract_lets -underBinder -merge -useContext v1 v2 v3 J
  iapply (cwait_b m ρ K c 1 (is19 c 1) (semB 1 _ _ rfl) hO) $$ [Hc1 Ha1 HO]
  · iframe; iexact HR
  iintro ⟨HB1, Hl1, HO⟩
  subst J
  beta_reduce
  extract_lets -underBinder -merge -useContext v1 v2 v3 J
  iapply (cwait_b m ρ K c 2 (is19 c 2) (semB 2 _ _ rfl) hO) $$ [Hc2 Ha2 HO]
  · iframe; iexact HR
  iintro ⟨HB2, Hl2, HO⟩
  subst J
  beta_reduce
  extract_lets -underBinder -merge -useContext v1 v2 v3 J
  iapply (cwait_b m ρ K c 3 (is19 c 3) (semB 3 _ _ rfl) hO) $$ [Hc3 Ha3 HO]
  · iframe; iexact HR
  iintro ⟨HB3, Hl3, HO⟩
  subst J
  beta_reduce
  ihave HB := (r_join m ρ c) $$ [HB0 HB1 HB2 HB3 Hw]
  · iframe
  extract_lets -underBinder -merge -useContext J
  iapply (s2block m ρ K c 0 (is_c9 c) (part1_spec m ρ c) rfl (hc := shapeCasts_S64x128_S1x1x64x128) rfl rfl (fun hh => off12_sl c hh) (fun hh => dev_15 c hh) (semC 0 _ _ rfl) (fun hh => semD (sl c) _ _ (off11_sl c hh))) $$ [HB Hp Hd0 Ht0 HO]
  · iframe; iexact HR
  iintro ⟨HB, Hq0, HO⟩
  subst J
  beta_reduce
  extract_lets
  iapply WP_done
  iapply Hk
  iframe

set_option maxHeartbeats 4000000 in
theorem part27_spec (K) (c : Dev nD) (v314 : BitVec 1) {O} {Q} :
    iprop(Rec (F := F) m ρ K ∗ (LR c ↦{fullShare} RB m ρ c)
        ∗ (go2 (F := F) c 1 ∗ go2 (F := F) c 2 ∗ go2 (F := F) c 3 ∗ go2 (F := F) c 4 ∗ go2 (F := F) c 5 ∗ go2 (F := F) c 6 ∗ go2 (F := F) c 7)
        ∗ owesE c (O + O2 c 7 + O2 c 6 + O2 c 5 + O2 c 4 + O2 c 3 + O2 c 2 + O2 c 1))
      ⊢ iprop((∀ v, (LR c ↦{fullShare} RB m ρ c)
            ∗ (sent2 (F := F) c 1 ∗ sent2 (F := F) c 2 ∗ sent2 (F := F) c 3 ∗ sent2 (F := F) c 4 ∗ sent2 (F := F) c 5 ∗ sent2 (F := F) c 6 ∗ sent2 (F := F) c 7)
            ∗ owesE c O -∗ Q v)
        -∗ WP c (k0_part27 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w19 c) (w20 c) v314) Q) := by
  rw [k0_part27_eq_skeleton]
  unfold k0_part27_skel go2
  iintro ⟨#HR, HB, ⟨⟨Hs1, Hd1, Ht1⟩, ⟨Hs2, Hd2, Ht2⟩, ⟨Hs3, Hd3, Ht3⟩, ⟨Hs4, Hd4, Ht4⟩, ⟨Hs5, Hd5, Ht5⟩, ⟨Hs6, Hd6, Ht6⟩, ⟨Hs7, Hd7, Ht7⟩⟩, HO⟩ Hk
  extract_lets -underBinder -merge -useContext J
  iapply (s2block m ρ K c 1 (is_c10 c) (part2_spec m ρ c) rfl (hc := shapeCasts_S64x128_S1x1x64x128) rfl rfl (fun hh => off14_sl c hh) (fun hh => dev_16 c hh) (semC 1 _ _ rfl) (fun hh => semD (sl c) _ _ (off13_sl c hh))) $$ [HB Hs1 Hd1 Ht1 HO]
  · iframe; iexact HR
  iintro ⟨HB, Hq1, HO⟩
  subst J
  beta_reduce
  extract_lets -underBinder -merge -useContext J
  iapply (s2block m ρ K c 2 (is_c11 c) (part3_spec m ρ c) rfl (hc := shapeCasts_S64x128_S1x1x64x128) rfl rfl (fun hh => off16_sl c hh) (fun hh => dev_17 c hh) (semC 2 _ _ rfl) (fun hh => semD (sl c) _ _ (off15_sl c hh))) $$ [HB Hs2 Hd2 Ht2 HO]
  · iframe; iexact HR
  iintro ⟨HB, Hq2, HO⟩
  subst J
  beta_reduce
  extract_lets -underBinder -merge -useContext J
  iapply (s2block m ρ K c 3 (is_c12 c) (part4_spec m ρ c) rfl (hc := shapeCasts_S64x128_S1x1x64x128) rfl rfl (fun hh => off18_sl c hh) (fun hh => dev_18 c hh) (semC 3 _ _ rfl) (fun hh => semD (sl c) _ _ (off17_sl c hh))) $$ [HB Hs3 Hd3 Ht3 HO]
  · iframe; iexact HR
  iintro ⟨HB, Hq3, HO⟩
  subst J
  beta_reduce
  extract_lets -underBinder -merge -useContext J
  iapply (s2block m ρ K c 4 (is_c13 c) (part5_spec m ρ c) rfl (hc := shapeCasts_S64x128_S1x1x64x128) rfl rfl (fun hh => off20_sl c hh) (fun hh => dev_19 c hh) (semC 4 _ _ rfl) (fun hh => semD (sl c) _ _ (off19_sl c hh))) $$ [HB Hs4 Hd4 Ht4 HO]
  · iframe; iexact HR
  iintro ⟨HB, Hq4, HO⟩
  subst J
  beta_reduce
  extract_lets -underBinder -merge -useContext J
  iapply (s2block m ρ K c 5 (is_c14 c) (part6_spec m ρ c) rfl (hc := shapeCasts_S64x128_S1x1x64x128) rfl rfl (fun hh => off22_sl c hh) (fun hh => dev_20 c hh) (semC 5 _ _ rfl) (fun hh => semD (sl c) _ _ (off21_sl c hh))) $$ [HB Hs5 Hd5 Ht5 HO]
  · iframe; iexact HR
  iintro ⟨HB, Hq5, HO⟩
  subst J
  beta_reduce
  extract_lets -underBinder -merge -useContext J
  iapply (s2block m ρ K c 6 (is_c15 c) (part7_spec m ρ c) rfl (hc := shapeCasts_S64x128_S1x1x64x128) rfl rfl (fun hh => off24_sl c hh) (fun hh => dev_21 c hh) (semC 6 _ _ rfl) (fun hh => semD (sl c) _ _ (off23_sl c hh))) $$ [HB Hs6 Hd6 Ht6 HO]
  · iframe; iexact HR
  iintro ⟨HB, Hq6, HO⟩
  subst J
  beta_reduce
  extract_lets -underBinder -merge -useContext J
  iapply (s2block m ρ K c 7 (is_c16 c) (part8_spec m ρ c) rfl (hc := shapeCasts_S64x128_S1x1x64x128) rfl rfl (fun hh => off26_sl c hh) (fun hh => dev_22 c hh) (semC 7 _ _ rfl) (fun hh => semD (sl c) _ _ (off25_sl c hh))) $$ [HB Hs7 Hd7 Ht7 HO]
  · iframe; iexact HR
  iintro ⟨HB, Hq7, HO⟩
  subst J
  beta_reduce
  extract_lets
  iapply WP_done
  iapply Hk
  iframe

end Cert.A2A
end
end
-- ==== Proof.Parts4.lean ====
/-
The rows of the result, and the first phase's sends returned.
-/
module

public import proofs.«01_k».proof.Proof.Gather

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- The rows of the device's own place, of the first `n` planes. -/
def PO (q n : ℕ) (r : ℕ) : Prop := r / 64 % 8 = q ∧ r / 512 < n

/-- One plane's rows of the device's own place. -/
theorem oown (c : Dev nD) (a : Fin 4) (n n' : ℕ) (hn : n = a.val) (hn' : n' = n + 1) {o h} (ho : o = ![a.val, 0, 0, 0]) {oj hj} (hoj : oj = ![(sl c).val / 2, 0, 0])
    {o' h'} (ho' : o' = ![512 * a.val + 64 * (sl c).val, 0]) {f : Vec F S1x64x128 .bf16 → FVec F S64x64 .f32}
    (hf : ∀ j : Fin 4, j.val = (sl c).val / 2 → f (rrow m ρ c a j) = outv m ρ c a (sl c))
    {hl0 hl hx hm} {α : Type} {J : Prog (TpuEff nD τ sig (Elt F) Λ₀ .tc) α} {Q : α → sProp 𝕄} :
    iprop((LR c ↦{fullShare} RB m ρ c) ∗ Ou m ρ c (PO (sl c).val n))
      ⊢ iprop(((LR c ↦{fullShare} RB m ρ c) ∗ Ou m ρ c (PO (sl c).val n') -∗ WP c J Q)
      -∗ WP c (Prog.lift (.load (rSl o h) (Rect.unit (s := S4x64x128) oj S1x64x128.size hj).toLoadRect hl0) >>= fun v =>
        Prog.lift (.load oM (Rect.unit (s := S2048x64) o' S64x64.size h').toLoadRect hl) >>= fun _ =>
        Prog.lift (.store oM (Rect.unit (s := S2048x64) o' S64x64.size h') (f v) Finset.univ hx hm) >>= fun _ => J) Q) := by
  subst hn hn'
  have hs := (sl c).isLt
  have ha := a.isLt
  have hj4 : (sl c).val / 2 < 4 := by omega
  iintro ⟨HB, Ho⟩ Hk
  rw [WP_bind]
  iapply (rld m ρ c a ⟨(sl c).val / 2, hj4⟩ ho hoj) $$ HB
  iintro HB
  iapply (ostep m ρ c a (sl c) (P' := PO (sl c).val (a.val + 1)) ho' (hf ⟨(sl c).val / 2, hj4⟩ rfl)
    (by intro n hn hp; unfold PO at hp ⊢; omega)) $$ Ho
  iintro Ho
  iapply Hk
  iframe

theorem part28_spec (c : Dev nD) (v335 : BitVec 32) (v346 v348 : BitVec 1) {Q} :
    iprop((LR c ↦{fullShare} RB m ρ c) ∗ Ou m ρ c (PO (sl c).val 0))
      ⊢ iprop((∀ v, (LR c ↦{fullShare} RB m ρ c) ∗ Ou m ρ c (PO (sl c).val 2) -∗ Q ⟨v, Scalar.remsi (w20 c) 2#32⟩)
        -∗ WP c (k0_part28 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w20 c) v335 v346 v348) Q) := by
  rw [k0_part28_eq_skeleton]
  unfold k0_part28_skel
  iintro ⟨HB, Ho⟩ Hk
  extract_lets -underBinder -merge -useContext v349 v350 v351 v352 v353 v354
  iapply (oown m ρ c 0 0 1 rfl rfl rfl (off27_sl c) (k0_off28_eq c 0) (f := k0_pay94 (w20 c)) (fun j hj => ext_own m ρ c 0 j hj (par20 c))) $$ [HB Ho]
  · iframe
  iintro ⟨HB, Ho⟩
  extract_lets -underBinder -merge -useContext v367 v368
  iapply (oown m ρ c 1 1 2 rfl rfl rfl (off27_sl c) (k0_off28_eq c 1) (f := k0_pay95 (w20 c)) (fun j hj => ext_own m ρ c 1 j hj (par20 c))) $$ [HB Ho]
  · iframe
  iintro ⟨HB, Ho⟩
  iapply WP_done
  iapply Hk
  iframe

set_option maxHeartbeats 4000000 in
theorem part29_spec (K) (c : Dev nD) (v351 : BitVec 32) {Q} :
    iprop(Rec (F := F) m ρ K ∗ (LR c ↦{fullShare} RB m ρ c) ∗ Ou m ρ c (PO (sl c).val 2) ∗ (wtd (F := F) c 0 ∗ wtd (F := F) c 1) ∗ owesE (F := F) c 0)
      ⊢ iprop(((LR c ↦{fullShare} RB m ρ c) ∗ Ou m ρ c (PR (sl c).val 2) ∗ (gotd m ρ c 0 ∗ gotd m ρ c 1) ∗ owesE (F := F) c 0 -∗ Q (Scalar.cmpi .ne (w20 c) 2#32))
        -∗ WP c (k0_part29 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 c (w20 c) v351 (Scalar.remsi (w20 c) 2#32)) Q) := by
  rw [k0_part29_eq_skeleton]
  unfold k0_part29_skel
  iintro ⟨#HR, HB, Ho, ⟨Hd0, Hd1⟩, HO⟩ Hk
  extract_lets -underBinder -merge -useContext v353 v354
  iapply (oown m ρ c 2 2 3 rfl rfl rfl (off27_sl c) (k0_off28_eq c 2) (f := k0_pay96 (Scalar.remsi (w20 c) 2#32)) (fun j hj => ext_own m ρ c 2 j hj (par20 c))) $$ [HB Ho]
  · iframe
  iintro ⟨HB, Ho⟩
  extract_lets -underBinder -merge -useContext v367 v368
  iapply (oown m ρ c 3 3 4 rfl rfl rfl (off27_sl c) (k0_off28_eq c 3) (f := k0_pay97 (Scalar.remsi (w20 c) 2#32)) (fun j hj => ext_own m ρ c 3 j hj (par20 c))) $$ [HB Ho]
  · iframe
  iintro ⟨HB, Ho⟩
  ihave Ho := (Ou_imp m ρ c (P := PO (sl c).val 4) (P' := PR (sl c).val 0) (by intro n hn hp; unfold PR at hp; unfold PO; omega)) $$ Ho
  extract_lets -underBinder -merge -useContext v1 v2 v3 J
  iapply (blockd m ρ K c 0 (is20 c 0) (part9_spec m ρ K c) rfl rfl (f := k0_pay98) (ext_d m ρ c 0 1 3 1 (by decide) rfl rfl) 0 1 rfl rfl) $$ [Hd0 HO Ho]
  · iframe; iexact HR
  iintro ⟨Hd0, HO, Ho⟩
  subst J
  beta_reduce
  extract_lets -underBinder -merge -useContext v1 v2 v3 J
  iapply (blockd m ρ K c 1 (is20 c 1) (part10_spec m ρ K c) rfl rfl (f := k0_pay99) (ext_d m ρ c 1 1 3 1 (by decide) rfl rfl) 1 2 rfl rfl) $$ [Hd1 HO Ho]
  · iframe; iexact HR
  iintro ⟨Hd1, HO, Ho⟩
  subst J
  beta_reduce
  extract_lets
  iapply WP_done
  iapply Hk
  iframe

set_option maxHeartbeats 4000000 in
theorem part30_spec (K) (c : Dev nD) {Q} :
    iprop(Rec (F := F) m ρ K ∗ Ou m ρ c (PR (sl c).val 2)
        ∗ (wtd (F := F) c 2 ∗ wtd (F := F) c 3 ∗ wtd (F := F) c 4 ∗ wtd (F := F) c 5 ∗ wtd (F := F) c 6 ∗ wtd (F := F) c 7)
        ∗ (sent1 m ρ c 0 ∗ sent1 m ρ c 1 ∗ sent1 m ρ c 2 ∗ sent1 m ρ c 3)
        ∗ (atPos ER (aCell c 0) 0 ∅ 0 ∗ atPos ER (aCell c 1) 0 ∅ 0 ∗ atPos ER (aCell c 2) 0 ∅ 0 ∗ atPos ER (aCell c 3) 0 ∅ 0) ∗ owesE (F := F) c 0)
      ⊢ iprop((Ou m ρ c (PR (sl c).val 8) ∗ (gotd m ρ c 2 ∗ gotd m ρ c 3 ∗ gotd m ρ c 4 ∗ gotd m ρ c 5 ∗ gotd m ρ c 6 ∗ gotd m ρ c 7)
            ∗ (gota m ρ c 0 ∗ gota m ρ c 1 ∗ gota m ρ c 2 ∗ gota m ρ c 3) ∗ owesE (F := F) c 0 -∗ Q (Scalar.cmpi .ne (w20 c) 0#32))
        -∗ WP c (k0_part30 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9 (w19 c) (w20 c) (Scalar.cmpi .ne (w20 c) 2#32)) Q) := by
  rw [k0_part30_eq_skeleton]
  unfold k0_part30_skel gota
  iintro ⟨#HR, Ho, ⟨Hd2, Hd3, Hd4, Hd5, Hd6, Hd7⟩, ⟨Hs0, Hs1, Hs2, Hs3⟩, ⟨Ha0, Ha1, Ha2, Ha3⟩, HO⟩ Hk
  extract_lets -underBinder -merge -useContext v2 v3 J
  iapply (blockd m ρ K c 2 (is20 c 2) (part11_spec m ρ K c) rfl rfl (f := k0_pay100) (ext_d m ρ c 2 1 3 1 (by decide) rfl rfl) 2 3 rfl rfl) $$ [Hd2 HO Ho]
  · iframe; iexact HR
  iintro ⟨Hd2, HO, Ho⟩
  subst J
  beta_reduce
  extract_lets -underBinder -merge -useContext v1 v2 v3 J
  iapply (blockd m ρ K c 3 (is20 c 3) (part12_spec m ρ K c) rfl rfl (f := k0_pay101) (ext_d m ρ c 3 1 3 1 (by decide) rfl rfl) 3 4 rfl rfl) $$ [Hd3 HO Ho]
  · iframe; iexact HR
  iintro ⟨Hd3, HO, Ho⟩
  subst J
  beta_reduce
  extract_lets -underBinder -merge -useContext v1 v2 v3 J
  iapply (blockd m ρ K c 4 (is20 c 4) (part13_spec m ρ K c) rfl rfl (f := k0_pay102) (ext_d m ρ c 4 1 3 1 (by decide) rfl rfl) 4 5 rfl rfl) $$ [Hd4 HO Ho]
  · iframe; iexact HR
  iintro ⟨Hd4, HO, Ho⟩
  subst J
  beta_reduce
  extract_lets -underBinder -merge -useContext v1 v2 v3 J
  iapply (blockd m ρ K c 5 (is20 c 5) (part14_spec m ρ K c) rfl rfl (f := k0_pay103) (ext_d m ρ c 5 1 3 1 (by decide) rfl rfl) 5 6 rfl rfl) $$ [Hd5 HO Ho]
  · iframe; iexact HR
  iintro ⟨Hd5, HO, Ho⟩
  subst J
  beta_reduce
  extract_lets -underBinder -merge -useContext v1 v2 v3 J
  iapply (blockd m ρ K c 6 (is20 c 6) (part15_spec m ρ K c) rfl rfl (f := k0_pay104) (ext_d m ρ c 6 1 3 1 (by decide) rfl rfl) 6 7 rfl rfl) $$ [Hd6 HO Ho]
  · iframe; iexact HR
  iintro ⟨Hd6, HO, Ho⟩
  subst J
  beta_reduce
  extract_lets -underBinder -merge -useContext v1 v2 v3 J
  iapply (blockd m ρ K c 7 (is20 c 7) (part16_spec m ρ K c) rfl rfl (f := k0_pay105) (ext_d m ρ c 7 1 3 1 (by decide) rfl rfl) 7 8 rfl rfl) $$ [Hd7 HO Ho]
  · iframe; iexact HR
  iintro ⟨Hd7, HO, Ho⟩
  subst J
  beta_reduce
  extract_lets -underBinder -merge -useContext v1 v2 v3 J
  iapply (cwait_a m ρ K c 0 (is19 c 0) (semA 0 _ _ rfl)) $$ [Hs0 Ha0 HO]
  · iframe; iexact HR
  iintro ⟨Hy0, Hl0, HO⟩
  subst J
  beta_reduce
  extract_lets -underBinder -merge -useContext v1 v2 v3 J
  iapply (cwait_a m ρ K c 1 (is19 c 1) (semA 1 _ _ rfl)) $$ [Hs1 Ha1 HO]
  · iframe; iexact HR
  iintro ⟨Hy1, Hl1, HO⟩
  subst J
  beta_reduce
  extract_lets -underBinder -merge -useContext v1 v2 v3 J
  iapply (cwait_a m ρ K c 2 (is19 c 2) (semA 2 _ _ rfl)) $$ [Hs2 Ha2 HO]
  · iframe; iexact HR
  iintro ⟨Hy2, Hl2, HO⟩
  subst J
  beta_reduce
  extract_lets -underBinder -merge -useContext v1 v2 v3 J
  iapply (cwait_a m ρ K c 3 (is19 c 3) (semA 3 _ _ rfl)) $$ [Hs3 Ha3 HO]
  · iframe; iexact HR
  iintro ⟨Hy3, Hl3, HO⟩
  subst J
  beta_reduce
  extract_lets
  iapply WP_done
  iapply Hk
  iframe

end Cert.A2A
end
end
-- ==== Proof.Body.lean ====
/-
One device's body, from its first signal to its last returned send.
-/
module

public import proofs.«01_k».proof.Proof.Parts3
public import proofs.«01_k».proof.Proof.Parts4

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device's body starts from, beside its debts: for the signals, -/
def preSig (c : Dev nD) : sProp 𝕄 :=
  iprop((sigA (F := F) c 1 ∗ sigA (F := F) c 2 ∗ sigA (F := F) c 3)
    ∗ (sigS (F := F) c 1 ∗ sigS (F := F) c 2 ∗ sigS (F := F) c 3 ∗ sigS (F := F) c 4 ∗ sigS (F := F) c 5 ∗ sigS (F := F) c 6 ∗ sigS (F := F) c 7)
    ∗ cred (tallyAt (barCell c) () 10) ∗ atPos ER (barCell c) 0 ∅ 0)
/-- for the weights, -/
def preW (c : Dev nD) : sProp 𝕄 :=
  iprop((wres m c 0 ∗ wres m c 1 ∗ wres m c 2 ∗ wres m c 3) ∗ (atPos ER (wCell c 0) 0 ∅ 0 ∗ atPos ER (wCell c 1) 0 ∅ 0 ∗ atPos ER (wCell c 2) 0 ∅ 0 ∗ atPos ER (wCell c 3) 0 ∅ 0))
/-- for the first phase, -/
def preA (c : Dev nD) : sProp 𝕄 :=
  iprop(((∃ f, yPts (F := F) c 0 f) ∗ (∃ f, yPts (F := F) c 1 f) ∗ (∃ f, yPts (F := F) c 2 f) ∗ (∃ f, yPts (F := F) c 3 f)) ∗ (tk1 (F := F) c 0 ∗ tk1 (F := F) c 1 ∗ tk1 (F := F) c 2 ∗ tk1 (F := F) c 3)
    ∗ (∃ f, rPts (F := F) c (pl c) f) ∗ (wtb (F := F) c 0 ∗ wtb (F := F) c 1 ∗ wtb (F := F) c 2 ∗ wtb (F := F) c 3) ∗ (atPos ER (aCell c 0) 0 ∅ 0 ∗ atPos ER (aCell c 1) 0 ∅ 0 ∗ atPos ER (aCell c 2) 0 ∅ 0 ∗ atPos ER (aCell c 3) 0 ∅ 0))
/-- and for the second. -/
def preS (c : Dev nD) : sProp 𝕄 :=
  iprop(((∃ f, sPts (F := F) c 0 f) ∗ (∃ f, sPts (F := F) c 1 f) ∗ (∃ f, sPts (F := F) c 2 f) ∗ (∃ f, sPts (F := F) c 3 f) ∗ (∃ f, sPts (F := F) c 4 f) ∗ (∃ f, sPts (F := F) c 5 f) ∗ (∃ f, sPts (F := F) c 6 f) ∗ (∃ f, sPts (F := F) c 7 f)) ∗ (tk2 (F := F) c 0 ∗ tk2 (F := F) c 1 ∗ tk2 (F := F) c 2 ∗ tk2 (F := F) c 3 ∗ tk2 (F := F) c 4 ∗ tk2 (F := F) c 5 ∗ tk2 (F := F) c 6 ∗ tk2 (F := F) c 7) ∗ (wtd (F := F) c 0 ∗ wtd (F := F) c 1 ∗ wtd (F := F) c 2 ∗ wtd (F := F) c 3 ∗ wtd (F := F) c 4 ∗ wtd (F := F) c 5 ∗ wtd (F := F) c 6 ∗ wtd (F := F) c 7) ∗ (atPos ER (cCell c 0) 0 ∅ 0 ∗ atPos ER (cCell c 1) 0 ∅ 0 ∗ atPos ER (cCell c 2) 0 ∅ 0 ∗ atPos ER (cCell c 3) 0 ∅ 0 ∗ atPos ER (cCell c 4) 0 ∅ 0 ∗ atPos ER (cCell c 5) 0 ∅ 0 ∗ atPos ER (cCell c 6) 0 ∅ 0 ∗ atPos ER (cCell c 7) 0 ∅ 0))
/-- What it ends with: its cells, -/
def postSem (c : Dev nD) : sProp 𝕄 :=
  iprop(closable (F := F) m ρ (barCell c) ∗ (closable (F := F) m ρ (wCell c 0) ∗ closable (F := F) m ρ (wCell c 1) ∗ closable (F := F) m ρ (wCell c 2) ∗ closable (F := F) m ρ (wCell c 3)) ∗ (closable (F := F) m ρ (bCell c 0) ∗ closable (F := F) m ρ (bCell c 1) ∗ closable (F := F) m ρ (bCell c 2) ∗ closable (F := F) m ρ (bCell c 3)))
/-- and its buffers. -/
def postBuf (c : Dev nD) : sProp 𝕄 :=
  iprop((LX c ↦{fullShare} xstg m ρ c) ∗ Ou m ρ c (PR (sl c).val 8)
    ∗ ((wPts c 0 (WB m c) ∗ gPts c 0 (wgt m c)) ∗ (wPts c 1 (WB m c) ∗ gPts c 1 (wgt m c)) ∗ (wPts c 2 (WB m c) ∗ gPts c 2 (wgt m c)) ∗ (wPts c 3 (WB m c) ∗ gPts c 3 (wgt m c))) ∗ (gota m ρ c 0 ∗ gota m ρ c 1 ∗ gota m ρ c 2 ∗ gota m ρ c 3) ∗ (LR c ↦{fullShare} RB m ρ c) ∗ (gotd m ρ c 0 ∗ gotd m ρ c 1 ∗ gotd m ρ c 2 ∗ gotd m ρ c 3 ∗ gotd m ρ c 4 ∗ gotd m ρ c 5 ∗ gotd m ρ c 6 ∗ gotd m ρ c 7) ∗ (gotc m ρ c 0 ∗ gotc m ρ c 1 ∗ gotc m ρ c 2 ∗ gotc m ρ c 3 ∗ gotc m ρ c 4 ∗ gotc m ρ c 5 ∗ gotc m ρ c 6 ∗ gotc m ρ c 7))

/-- The other planes' and places' buffers, one by one. -/
theorem barGot_list (c : Dev nD) : barGot (F := F) c ⊢ iprop((off (pl c) 0 (iprop(∃ f, rPts (F := F) (dv 0 (sl c)) (pl c) f)) ∗ off (pl c) 1 (iprop(∃ f, rPts (F := F) (dv 1 (sl c)) (pl c) f)) ∗ off (pl c) 2 (iprop(∃ f, rPts (F := F) (dv 2 (sl c)) (pl c) f)) ∗ off (pl c) 3 (iprop(∃ f, rPts (F := F) (dv 3 (sl c)) (pl c) f))) ∗ (off (sl c) 0 (iprop(∃ f, dPts (F := F) (dv (pl c) 0) (sl c) f)) ∗ off (sl c) 1 (iprop(∃ f, dPts (F := F) (dv (pl c) 1) (sl c) f)) ∗ off (sl c) 2 (iprop(∃ f, dPts (F := F) (dv (pl c) 2) (sl c) f)) ∗ off (sl c) 3 (iprop(∃ f, dPts (F := F) (dv (pl c) 3) (sl c) f)) ∗ off (sl c) 4 (iprop(∃ f, dPts (F := F) (dv (pl c) 4) (sl c) f)) ∗ off (sl c) 5 (iprop(∃ f, dPts (F := F) (dv (pl c) 5) (sl c) f)) ∗ off (sl c) 6 (iprop(∃ f, dPts (F := F) (dv (pl c) 6) (sl c) f)) ∗ off (sl c) 7 (iprop(∃ f, dPts (F := F) (dv (pl c) 7) (sl c) f)))) := by
  unfold barGot
  rw [bigSep_univ_eq_bigSepL [0, 1, 2, 3] (by decide) (by decide), bigSep_univ_eq_bigSepL [0, 1, 2, 3, 4, 5, 6, 7] (by decide) (by decide)]
  exact .rfl

theorem OS_eq (c : Dev nD) : OS c = 0 + O2 c 7 + O2 c 6 + O2 c 5 + O2 c 4 + O2 c 3 + O2 c 2 + O2 c 1 + O2 c 0 + O1 c 3 + O1 c 2 + O1 c 1 + O1 c 0 := by
  unfold OS; rw [zero_add]

theorem above_two (c : Dev nD) {n} (hn : n < 3) : Above n (0 + O2 c 7 + O2 c 6 + O2 c 5 + O2 c 4 + O2 c 3 + O2 c 2 + O2 c 1 + O2 c 0) := by
  have h := fun s => above_O2 c s (n := n) hn
  exact above_add (above_add (above_add (above_add (above_add (above_add (above_add (above_add (above_zero n) (h 7)) (h 6)) (h 5)) (h 4)) (h 3)) (h 2)) (h 1)) (h 0)
theorem above_OS (c : Dev nD) {n} (hn : n < 2) : Above n (0 + O2 c 7 + O2 c 6 + O2 c 5 + O2 c 4 + O2 c 3 + O2 c 2 + O2 c 1 + O2 c 0 + O1 c 3 + O1 c 2 + O1 c 1 + O1 c 0) := by
  have h := fun a => above_O1 c a (n := n) hn
  exact above_add (above_add (above_add (above_add (above_two c (by omega)) (h 3)) (h 2)) (h 1)) (h 0)

set_option maxHeartbeats 4000000 in
theorem body_spec (K) (c : Dev nD) {Q : PUnit → sProp 𝕄} :
    iprop(Rec (F := F) m ρ K ∗ preSig (F := F) c ∗ preW m c ∗ preA (F := F) c ∗ preS (F := F) c
        ∗ (LX c ↦{fullShare} xstg m ρ c) ∗ Ou m ρ c (PO (sl c).val 0) ∗ owesE c (O₀ c))
      ⊢ iprop((postSem m ρ c ∗ postBuf m ρ c ∗ owesE (F := F) c 0 -∗ Q ⟨⟩) -∗ WP c (k0_part31 (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) Q) := by
  rw [k0_part31_eq_skeleton]
  unfold k0_part31_skel preSig preW preA preS postSem postBuf gotc O₀
  rw [OS_eq]
  iintro ⟨#HR, ⟨⟨HA1, HA2, HA3⟩, ⟨HS1, HS2, HS3, HS4, HS5, HS6, HS7⟩, Hbc, Hbp⟩, ⟨⟨Hw0, Hw1, Hw2, Hw3⟩, ⟨Hwp0, Hwp1, Hwp2, Hwp3⟩⟩, ⟨⟨HY0, HY1, HY2, HY3⟩, ⟨Ht0, Ht1, Ht2, Ht3⟩, Hr, ⟨Hwb0, Hwb1, Hwb2, Hwb3⟩, ⟨Hap0, Hap1, Hap2, Hap3⟩⟩, ⟨⟨Hs0, Hs1, Hs2, Hs3, Hs4, Hs5, Hs6, Hs7⟩, ⟨Hu0, Hu1, Hu2, Hu3, Hu4, Hu5, Hu6, Hu7⟩, ⟨Hd0, Hd1, Hd2, Hd3, Hd4, Hd5, Hd6, Hd7⟩, ⟨Ha0, Ha1, Ha2, Ha3, Ha4, Ha5, Ha6, Ha7⟩⟩, HX, Ho, HO⟩ Hk
  rw [WP_bind]
  iapply (part17_spec m ρ K c) $$ [HA1 HA2 HO]
  · iframe; iexact HR
  iintro HO
  rw [WP_bind]
  iapply (part18_spec m ρ K c) $$ [HA3 HS1 HS2 HS3 HO]
  · iframe; iexact HR
  iintro %v61 %c1 HO
  rw [WP_bind]
  iapply (part19_spec m ρ K c v61 c1) $$ [HS4 HS5 HS6 HS7 Hw0 HO]
  · iframe; iexact HR
  iintro ⟨Hc0, HO⟩
  rw [WP_bind]
  iapply (part20_spec m ρ K c (above_OS c (by decide))) $$ [Hw1 Hw2 Hw3 Hc0 Hwp0 HX HO]
  · unfold wgo; iframe; iexact HR
  iintro ⟨Hc1, Hc2, Hc3, Hg0, HX, HO⟩
  rw [WP_bind]
  iapply (part21_spec m ρ K c (above_OS c (by decide)) (above_OS c (by decide))) $$ [Hc1 Hc2 Hc3 Hwp1 Hwp2 Hwp3 Hbc Hbp HO]
  · unfold wgo; iframe; iexact HR
  unfold wgot
  icases Hg0 with ⟨⟨Hwb_0, Hgb0⟩, Hlw0⟩
  iintro ⟨⟨⟨Hwb_1, Hgb1⟩, Hlw1⟩, ⟨⟨Hwb_2, Hgb2⟩, Hlw2⟩, ⟨⟨Hwb_3, Hgb3⟩, Hlw3⟩, Hbar, Hlbar, HO⟩
  ihave Hbar := (barGot_list c) $$ Hbar
  icases Hbar with ⟨⟨Hrr0, Hrr1, Hrr2, Hrr3⟩, ⟨Hdd0, Hdd1, Hdd2, Hdd3, Hdd4, Hdd5, Hdd6, Hdd7⟩⟩
  ihave HY0 := (Yu_zero m ρ c 0) $$ HY0
  ihave HY1 := (Yu_zero m ρ c 1) $$ HY1
  ihave HY2 := (Yu_zero m ρ c 2) $$ HY2
  ihave HY3 := (Yu_zero m ρ c 3) $$ HY3
  rw [WP_bind]
  iapply (part22_spec m ρ K c) $$ [HY0 Hrr0 Ht0 HO]
  · unfold go1; iframe; iexact HR
  iintro ⟨Hq0, HO⟩
  rw [WP_bind]
  iapply (part23_spec m ρ c) $$ [HY1 Hwb_3]
  · iframe
  iintro %v213 ⟨HY1, Hwb_3⟩
  rw [WP_bind]
  iapply (part24_spec m ρ K c v213) $$ [HY1 HY2 Hwb_3 Hrr1 Ht1 HO]
  · unfold go1; iframe; iexact HR
  iintro ⟨Hq1, HY2, Hwb_3, HO⟩
  rw [WP_bind]
  iapply (part25_spec m ρ K c) $$ [HY2 HY3 Hwb_3 Hrr2 Ht2 HO]
  · unfold go1; iframe; iexact HR
  iintro ⟨Hq2, HY3, Hwb_3, HO⟩
  rw [WP_bind]
  iapply (part26_spec m ρ K c (above_two c (by decide))) $$ [HY3 Hrr3 Ht3 Hq0 Hq1 Hq2 Hr Hwb0 Hwb1 Hwb2 Hwb3 Hs0 Hdd0 Hu0 HO]
  · unfold go1 go2; iframe; iexact HR
  iintro %v314 ⟨⟨Hq0, Hq1, Hq2, Hq3⟩, Hlb, HB, Hz0, HO⟩
  rw [WP_bind]
  iapply (part27_spec m ρ K c v314) $$ [HB Hs1 Hdd1 Hu1 Hs2 Hdd2 Hu2 Hs3 Hdd3 Hu3 Hs4 Hdd4 Hu4 Hs5 Hdd5 Hu5 Hs6 Hdd6 Hu6 Hs7 Hdd7 Hu7 HO]
  · unfold go2; iframe; iexact HR
  iintro %v ⟨HB, ⟨Hz1, Hz2, Hz3, Hz4, Hz5, Hz6, Hz7⟩, HO⟩
  obtain ⟨v335, v346, v348⟩ := v
  dsimp -zeta only
  rw [WP_bind]
  iapply (part28_spec m ρ c v335 v346 v348) $$ [HB Ho]
  · iframe
  iintro %v351 ⟨HB, Ho⟩
  rw [WP_bind]
  iapply (part29_spec m ρ K c v351) $$ [HB Ho Hd0 Hd1 HO]
  · iframe; iexact HR
  iintro ⟨HB, Ho, ⟨Hd0, Hd1⟩, HO⟩
  rw [WP_bind]
  iapply (part30_spec m ρ K c) $$ [Ho Hd2 Hd3 Hd4 Hd5 Hd6 Hd7 Hq0 Hq1 Hq2 Hq3 Hap0 Hap1 Hap2 Hap3 HO]
  · iframe; iexact HR
  iintro ⟨Ho, ⟨Hd2, Hd3, Hd4, Hd5, Hd6, Hd7⟩, Hga, HO⟩
  beta_reduce
  extract_lets -underBinder -merge -useContext v2 v3 J
  iapply (cwait_c m ρ K c 0 (is20 c 0) (semC 0 _ _ rfl)) $$ [Hz0 Ha0 HO]
  · iframe; iexact HR
  iintro ⟨Hy0, Hl0, HO⟩
  subst J
  beta_reduce
  extract_lets -underBinder -merge -useContext v1 v2 v3 J
  iapply (cwait_c m ρ K c 1 (is20 c 1) (semC 1 _ _ rfl)) $$ [Hz1 Ha1 HO]
  · iframe; iexact HR
  iintro ⟨Hy1, Hl1, HO⟩
  subst J
  beta_reduce
  extract_lets -underBinder -merge -useContext v1 v2 v3 J
  iapply (cwait_c m ρ K c 2 (is20 c 2) (semC 2 _ _ rfl)) $$ [Hz2 Ha2 HO]
  · iframe; iexact HR
  iintro ⟨Hy2, Hl2, HO⟩
  subst J
  beta_reduce
  extract_lets -underBinder -merge -useContext v1 v2 v3 J
  iapply (cwait_c m ρ K c 3 (is20 c 3) (semC 3 _ _ rfl)) $$ [Hz3 Ha3 HO]
  · iframe; iexact HR
  iintro ⟨Hy3, Hl3, HO⟩
  subst J
  beta_reduce
  extract_lets -underBinder -merge -useContext v1 v2 v3 J
  iapply (cwait_c m ρ K c 4 (is20 c 4) (semC 4 _ _ rfl)) $$ [Hz4 Ha4 HO]
  · iframe; iexact HR
  iintro ⟨Hy4, Hl4, HO⟩
  subst J
  beta_reduce
  extract_lets -underBinder -merge -useContext v1 v2 v3 J
  iapply (cwait_c m ρ K c 5 (is20 c 5) (semC 5 _ _ rfl)) $$ [Hz5 Ha5 HO]
  · iframe; iexact HR
  iintro ⟨Hy5, Hl5, HO⟩
  subst J
  beta_reduce
  extract_lets -underBinder -merge -useContext v1 v2 v3 J
  iapply (cwait_c m ρ K c 6 (is20 c 6) (semC 6 _ _ rfl)) $$ [Hz6 Ha6 HO]
  · iframe; iexact HR
  iintro ⟨Hy6, Hl6, HO⟩
  subst J
  beta_reduce
  extract_lets -underBinder -merge -useContext v1 v2 v3 J
  iapply (cwait_c m ρ K c 7 (is20 c 7) (semC 7 _ _ rfl)) $$ [Hz7 Ha7 HO]
  · iframe; iexact HR
  iintro ⟨Hy7, Hl7, HO⟩
  subst J
  beta_reduce
  iapply WP_done
  iapply Hk
  iframe

end Cert.A2A
end
end
-- ==== Proof.Tokens.lean ====
/-
The launch: what each device is dealt of the cells and the tokens.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells, one by one -/

theorem kcell_injective : Function.Injective kcell := by
  have hc : Function.Injective csem := by
    have : ∀ k, ci (csem k) = k := by decide
    exact Function.LeftInverse.injective this
  rintro ⟨c, k⟩ ⟨c', k'⟩ h
  have h1 : c = c' := congrArg (fun g : GSem nD τ sig => g.1.1) h
  have h2 : csem k = csem k' := congrArg Prod.snd h
  rw [h1, hc h2]

theorem use_csem (k : Fin 29) : InUse (csem k) := by unfold InUse; revert k; decide

theorem cells_flat (Φ : GSem nD τ sig → sProp 𝕄) (c : Dev nD) :
    (bigSep Finset.univ fun k : Fin 29 => Φ (kcell (c, k))) = iprop(Φ (barCell c) ∗ Φ (wCell c 0) ∗ Φ (wCell c 1) ∗ Φ (wCell c 2) ∗ Φ (wCell c 3) ∗ Φ (aCell c 0) ∗ Φ (aCell c 1) ∗ Φ (aCell c 2) ∗ Φ (aCell c 3) ∗ Φ (bCell c 0) ∗ Φ (bCell c 1) ∗ Φ (bCell c 2) ∗ Φ (bCell c 3) ∗ Φ (cCell c 0) ∗ Φ (cCell c 1) ∗ Φ (cCell c 2) ∗ Φ (cCell c 3) ∗ Φ (cCell c 4) ∗ Φ (cCell c 5) ∗ Φ (cCell c 6) ∗ Φ (cCell c 7) ∗ Φ (dCell c 0) ∗ Φ (dCell c 1) ∗ Φ (dCell c 2) ∗ Φ (dCell c 3) ∗ Φ (dCell c 4) ∗ Φ (dCell c 5) ∗ Φ (dCell c 6) ∗ Φ (dCell c 7)) := by
  rw [bigSep_univ_eq_bigSepL [0, 1, 2, 3, 4, 5, 6, 7, 8, 9, 10, 11, 12, 13, 14, 15, 16, 17, 18, 19, 20, 21, 22, 23, 24, 25, 26, 27, 28] (by decide) (by decide)]
  rfl

set_option maxHeartbeats 1000000 in
/-- The cells by family, -/
theorem cells_fam (Φ : GSem nD τ sig → sProp 𝕄) (c : Dev nD) :
    (bigSep Finset.univ fun k : Fin 29 => Φ (kcell (c, k))) ⊢ iprop(Φ (barCell c) ∗ (Φ (wCell c 0) ∗ Φ (wCell c 1) ∗ Φ (wCell c 2) ∗ Φ (wCell c 3)) ∗ (Φ (aCell c 0) ∗ Φ (aCell c 1) ∗ Φ (aCell c 2) ∗ Φ (aCell c 3)) ∗ (Φ (bCell c 0) ∗ Φ (bCell c 1) ∗ Φ (bCell c 2) ∗ Φ (bCell c 3)) ∗ (Φ (cCell c 0) ∗ Φ (cCell c 1) ∗ Φ (cCell c 2) ∗ Φ (cCell c 3) ∗ Φ (cCell c 4) ∗ Φ (cCell c 5) ∗ Φ (cCell c 6) ∗ Φ (cCell c 7)) ∗ (Φ (dCell c 0) ∗ Φ (dCell c 1) ∗ Φ (dCell c 2) ∗ Φ (dCell c 3) ∗ Φ (dCell c 4) ∗ Φ (dCell c 5) ∗ Φ (dCell c 6) ∗ Φ (dCell c 7))) := by
  rw [cells_flat]
  iintro ⟨Hx, Hw0, Hw1, Hw2, Hw3, Ha0, Ha1, Ha2, Ha3, Hb0, Hb1, Hb2, Hb3, Hc0, Hc1, Hc2, Hc3, Hc4, Hc5, Hc6, Hc7, Hd0, Hd1, Hd2, Hd3, Hd4, Hd5, Hd6, Hd7⟩
  iframe
set_option maxHeartbeats 1000000 in
/-- and back. -/
theorem fam_cells (Φ : GSem nD τ sig → sProp 𝕄) (c : Dev nD) :
    iprop(Φ (barCell c) ∗ (Φ (wCell c 0) ∗ Φ (wCell c 1) ∗ Φ (wCell c 2) ∗ Φ (wCell c 3)) ∗ (Φ (aCell c 0) ∗ Φ (aCell c 1) ∗ Φ (aCell c 2) ∗ Φ (aCell c 3)) ∗ (Φ (bCell c 0) ∗ Φ (bCell c 1) ∗ Φ (bCell c 2) ∗ Φ (bCell c 3)) ∗ (Φ (cCell c 0) ∗ Φ (cCell c 1) ∗ Φ (cCell c 2) ∗ Φ (cCell c 3) ∗ Φ (cCell c 4) ∗ Φ (cCell c 5) ∗ Φ (cCell c 6) ∗ Φ (cCell c 7)) ∗ (Φ (dCell c 0) ∗ Φ (dCell c 1) ∗ Φ (dCell c 2) ∗ Φ (dCell c 3) ∗ Φ (dCell c 4) ∗ Φ (dCell c 5) ∗ Φ (dCell c 6) ∗ Φ (dCell c 7))) ⊢ (bigSep Finset.univ fun k : Fin 29 => Φ (kcell (c, k))) := by
  rw [cells_flat]
  iintro ⟨Hx, ⟨Hw0, Hw1, Hw2, Hw3⟩, ⟨Ha0, Ha1, Ha2, Ha3⟩, ⟨Hb0, Hb1, Hb2, Hb3⟩, ⟨Hc0, Hc1, Hc2, Hc3, Hc4, Hc5, Hc6, Hc7⟩, ⟨Hd0, Hd1, Hd2, Hd3, Hd4, Hd5, Hd6, Hd7⟩⟩
  iframe

/-- The kernel's own semaphores: all its cells but the barrier's. -/
abbrev osem (k : Fin 28) : SemLoc sig := csem k.succ

theorem sems_eq (c : Dev nD) : (bigSep Finset.univ fun k : Fin 29 => (semVal (kcell (c, k)) 0 : sProp 𝕄))
    = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12, 13, 14, 15, 16, 17, 18, 19, 20, 21, 22, 23, 24, 25, 26, 27] (by decide) (by decide), cells_flat (fun g => semVal g 0)]
  unfold unscopedSems0
  rw [bigSep_eq_bigSepL_of_eq [SemLoc.reg barS] (by decide) (by decide)]
  rfl

/-! ## The tokens, by who pays -/

/-- What a device pays for: a signal to each plane and place, a weight block's copy, a send and its arrival. -/
abbrev Jt : Type := Fin 4 ⊕ (Fin 8 ⊕ (Fin 4 ⊕ ((Fin 4 ⊕ Fin 4) ⊕ (Fin 8 ⊕ Fin 8))))

def tokOf : Dev nD × Jt → GSem nD τ sig × ℕ × Dty
  | (c, .inl a) => (barCell (dv a (sl c)), 0, .inl (pl c))
  | (c, .inr (.inl s)) => (barCell (dv (pl c) s), 0, .inr (sl c))
  | (c, .inr (.inr (.inl b))) => (wCell c b, 0, .inl 0)
  | (c, .inr (.inr (.inr (.inl (.inl a))))) => (aCell c a, 0, .inl 0)
  | (c, .inr (.inr (.inr (.inl (.inr a))))) => (bCell (dv a (sl c)) (pl c), 0, .inl 0)
  | (c, .inr (.inr (.inr (.inr (.inl s))))) => (cCell c s, 0, .inl 0)
  | (c, .inr (.inr (.inr (.inr (.inr s))))) => (dCell (dv (pl c) s) (sl c), 0, .inl 0)

/-- Who pays a token. -/
def payer (x : GSem nD τ sig × ℕ × Dty) : Dev nD × Jt := match gk x.1 with
  | .idle => (x.1.1.1, .inl 0)
  | .bar => match x.2.2 with
    | .inl p => (dv p (sl x.1.1.1), .inl (pl x.1.1.1))
    | .inr s => (dv (pl x.1.1.1) s, .inr (.inl (sl x.1.1.1)))
  | .w b => (x.1.1.1, .inr (.inr (.inl b)))
  | .a a => (x.1.1.1, .inr (.inr (.inr (.inl (.inl a)))))
  | .b p => (dv p (sl x.1.1.1), .inr (.inr (.inr (.inl (.inr (pl x.1.1.1))))))
  | .c s => (x.1.1.1, .inr (.inr (.inr (.inr (.inl s)))))
  | .d s => (dv (pl x.1.1.1) s, .inr (.inr (.inr (.inr (.inr (sl x.1.1.1))))))

theorem payer_tokOf (x : Dev nD × Jt) : payer (tokOf x) = x := by
  rcases x with ⟨c, a | s | b | (a | a) | (s | s)⟩ <;> unfold payer tokOf
  · dsimp only; rw [gk_bar]; dsimp only; rw [sl_dv, pl_dv, dv_pl_sl]
  · dsimp only; rw [gk_bar]; dsimp only; rw [sl_dv, pl_dv, dv_pl_sl]
  · dsimp only; rw [gk_w]
  · dsimp only; rw [gk_a]
  · dsimp only; rw [gk_b]; dsimp only; rw [sl_dv, pl_dv, dv_pl_sl]
  · dsimp only; rw [gk_c]
  · dsimp only; rw [gk_d]; dsimp only; rw [sl_dv, pl_dv, dv_pl_sl]

theorem tokOf_injective : Function.Injective tokOf := Function.LeftInverse.injective payer_tokOf

def allCells : Finset (GSem nD τ sig) := Finset.univ.map ⟨kcell, kcell_injective⟩
def allToks : Finset (GSem nD τ sig × ℕ × Dty) := Finset.univ.map ⟨tokOf, tokOf_injective⟩

def u₀ : UU :=
  (initOf (Pipeline.cells cfgs cellOf_inj) (Pipeline.launchToks cfgs cellOf_inj), initOf allCells allToks)

/-- The tokens a device pays with. -/
def T (c : Dev nD) : sProp 𝕄 :=
  iprop((bigSep Finset.univ fun a : Fin 4 => tok (barCell (dv a (sl c))) (.inl (pl c)))
    ∗ (bigSep Finset.univ fun s : Fin 8 => tok (barCell (dv (pl c) s)) (.inr (sl c)))
    ∗ (bigSep Finset.univ fun b : Fin 4 => tok (wCell c b) (.inl 0))
    ∗ (bigSep Finset.univ fun a : Fin 4 => tk1 (F := F) c a)
    ∗ (bigSep Finset.univ fun s : Fin 8 => tk2 (F := F) c s))

theorem toks_eq : bigSep allToks (fun x => (dutyTok ER x.1 x.2.1 x.2.2 : sProp 𝕄)) = bigSep Finset.univ fun c : Dev nD => T c := by
  unfold allToks
  rw [bigSep_map, bigSep_univ_prod]
  refine bigSep_congr fun c _ => ?_
  rw [bigSep_univ_sum, bigSep_univ_sum, bigSep_univ_sum, bigSep_univ_sum, bigSep_univ_sum, bigSep_univ_sum]
  unfold T tk1 tk2
  rw [bigSep_sep', bigSep_sep']
  rfl

/-! ## From the launch to every device's share -/

/-- What the launch deals a device. -/
def G (c : Dev nD) : sProp 𝕄 :=
  iprop((bigSep Finset.univ fun k : Fin 29 => roundState ER (Rd (F := F) m ρ) (kcell (c, k)) 0)
    ∗ ((bigSep Finset.univ fun k : Fin 29 => atPos ER (kcell (c, k)) 0 ∅ 0) ∗ (bigSep Finset.univ fun k : Fin 29 => reached ER (kcell (c, k)) 0)) ∗ T c)

theorem fund_all : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun k : Fin 29 => Φ (kcell (c, k)) := by
    unfold allCells; rw [bigSep_map, bigSep_univ_prod]; rfl
  iintro HX
  imod (Rounds.fund ER (Rd (F := F) m ρ) allCells allToks) $$ HX with ⟨H1, H2, H3, H4⟩
  imodintro
  ihave H1 := (Entails.of_eq (hX fun g => roundState ER (Rd (F := F) m ρ) g 0)) $$ H1
  ihave H2 := (Entails.of_eq (hX fun g => reached ER g 0)) $$ H2
  ihave H3 := (Entails.of_eq (hX fun g => atPos ER g 0 ∅ 0)) $$ H3
  ihave H4 := (Entails.of_eq toks_eq) $$ H4
  unfold G
  rw [bigSep_sep', bigSep_sep', bigSep_sep']
  isplitl [H1]; · iexact H1
  isplitl [H2 H3]
  · isplitl [H3] <;> iassumption
  iexact H4

/-- Invariants at names `K`, every cell's round reached. -/
def RecN (K : Dev nD × Fin 29 → ℕ) : sProp 𝕄 :=
  iprop((bigSep Finset.univ fun x : Dev nD × Fin 29 => cellInv ER (Rd (F := F) m ρ) (K x) (kcell x))
    ∗ (bigSep Finset.univ fun x : Dev nD × Fin 29 => reached ER (kcell x) 0))

instance RecN_persistent (K) : BI.Persistent (RecN (F := F) m ρ K) := by unfold RecN; infer_instance

/-- A device's share: the invariants, its positions, its tokens. -/
def G' (c : Dev nD) : sProp 𝕄 :=
  iprop(∃ K, RecN (F := F) m ρ K ∗ (bigSep Finset.univ fun k : Fin 29 => atPos ER (kcell (c, k)) 0 ∅ 0) ∗ T c)

theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun k : Fin 29 => iprop(∃ κ : ℕ, cellInv ER (Rd (F := F) m ρ) κ (kcell (c, k))))
          ∗ ((bigSep Finset.univ fun k : Fin 29 => atPos ER (kcell (c, k)) 0 ∅ 0) ∗ (bigSep Finset.univ fun k : Fin 29 => reached ER (kcell (c, k)) 0)) ∗ T c) := by
  have hi : iprop((bigSep Finset.univ fun k : Fin 29 => semVal (kcell (c, k)) 0) ∗ bigSep Finset.univ fun k : Fin 29 => roundState ER (Rd (F := F) m ρ) (kcell (c, k)) 0)
      ⊢ (|={Set.univ}=> bigSep Finset.univ fun k : Fin 29 => iprop(∃ κ : ℕ, cellInv ER (Rd (F := F) m ρ) κ (kcell (c, k))) : sProp 𝕄) := by
    rw [← bigSep_sep']
    exact (bigSep_mono fun k _ => (Rounds.body_intro ER (Rd (F := F) m ρ) (kcell (c, k))).trans inv_alloc).trans (bigSep_fupd _ _)
  unfold G
  iintro ⟨Ho, Hu, Hst, Hat, Ht⟩
  imod (hi) $$ [Ho Hu Hst] with Hinv
  · isplitl [Ho Hu]
    · rw [sems_eq]; isplitl [Hu] <;> iassumption
    · iexact Hst
  imodintro
  isplitl [Hinv]; · iexact Hinv
  isplitl [Hat]; · iexact Hat
  iexact Ht

/-- What every member of a family takes from one lasting fact. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun k : Fin 29 => iprop(∃ κ : ℕ, cellInv ER (Rd (F := F) m ρ) κ (kcell (c, k))))
          ∗ ((bigSep Finset.univ fun k : Fin 29 => atPos ER (kcell (c, k)) 0 ∅ 0) ∗ (bigSep Finset.univ fun k : Fin 29 => reached ER (kcell (c, k)) 0)) ∗ T c) : sProp 𝕄)
      ⊢ bigSep Finset.univ (G' (F := F) m ρ) := by
  rw [bigSep_sep', bigSep_sep', bigSep_sep', ← bigSep_univ_prod (fun x : Dev nD × Fin 29 => iprop(∃ κ : ℕ, cellInv ER (Rd (F := F) m ρ) κ (kcell x))),
    ← bigSep_univ_prod (fun x : Dev nD × Fin 29 => (reached ER (kcell x) 0 : sProp 𝕄))]
  iintro ⟨HI, ⟨Hat, #HR⟩, Ht⟩
  ihave HK := (BI.bigSep_exists_pi Finset.univ (fun (x : Dev nD × Fin 29) (κ : ℕ) => (cellInv ER (Rd (F := F) m ρ) κ (kcell x) : sProp 𝕄))) $$ HI
  icases HK with ⟨%K, #HI⟩
  iapply (deal (R := RecN (F := F) m ρ K) (Φ := fun c : Dev nD => iprop((bigSep Finset.univ fun k : Fin 29 => atPos ER (kcell (c, k)) 0 ∅ 0) ∗ T c)) fun c _ => by
    unfold G'; iintro H; iexists K; iexact H)
  isplitr
  · unfold RecN; isplitl; · iexact HI
    iexact HR
  · rw [bigSep_sep']
    isplitl [Hat]; · iexact Hat
    iexact Ht

/-- All devices' semaphores and shares, at once. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc m ρ c).trans (bigSep_fupd _ _)).trans (BI.fupd_mono (regroup m ρ))

/-- A device's cells, done with, are its counters at zero again. -/
theorem close_all (K) (c : Dev nD) :
    iprop(Rec (F := F) m ρ K ∗ bigSep Finset.univ fun k : Fin 29 => closable (F := F) m ρ (kcell (c, k)))
      ⊢ |={Set.univ}=> iprop(unscopedSems0 c ∗ Pipeline.ownSems0 (Ix := Unit) (Name := ℕ) (U := UU) (Lvl := ℕ) (Val := Elt F) (τ := τ) osem c) := by
  rw [← sems_eq]
  exact (deal fun k _ => close m ρ K c (use_csem k)).trans (bigSep_fupd _ _)

end Cert.A2A
end
end
-- ==== Proof.Credits.lean ====
/-
The launch: what each device is owed.
-/
module

public import proofs.«01_k».proof.Proof.Body
public import Idealize.ShloMosaic.Lib.Pipeline.Launch

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device is owed -/

def OA (c : Dev nD) : CellTallies nD τ sig Unit := ∑ a : Fin 4, O1 c a
def OZ (c : Dev nD) : CellTallies nD τ sig Unit := ∑ s : Fin 8, O2 c s

theorem OS_sum (c : Dev nD) : OS c = OA c + OZ c := by
  unfold OS OA OZ; rw [Fin.sum_univ_eight, Fin.sum_univ_four]; ac_rfl

/-- What the other planes send a device, -/
def IA (c : Dev nD) : CellTallies nD τ sig Unit := ∑ a : Fin 4, if a = pl c then 0 else tallyAt (bCell c a) () N1
/-- and the other places. -/
def IZ (c : Dev nD) : CellTallies nD τ sig Unit := ∑ s : Fin 8, if s = sl c then 0 else tallyAt (dCell c s) () N2

/-- The device a send goes to, with the plane it comes from. -/
def swA : Dev nD × Fin 4 ≃ Dev nD × Fin 4 where
  toFun x := (dv x.2 (sl x.1), pl x.1)
  invFun x := (dv x.2 (sl x.1), pl x.1)
  left_inv x := by dsimp only; rw [sl_dv, pl_dv, dv_pl_sl]
  right_inv x := by dsimp only; rw [sl_dv, pl_dv, dv_pl_sl]
def swZ : Dev nD × Fin 8 ≃ Dev nD × Fin 8 where
  toFun x := (dv (pl x.1) x.2, sl x.1)
  invFun x := (dv (pl x.1) x.2, sl x.1)
  left_inv x := by dsimp only; rw [sl_dv, pl_dv, dv_pl_sl]
  right_inv x := by dsimp only; rw [sl_dv, pl_dv, dv_pl_sl]

theorem sumA : (∑ d, OA d) = ∑ d, IA d := by
  unfold OA IA
  rw [← Fintype.sum_prod_type' (fun (d : Dev nD) (a : Fin 4) => O1 d a),
    ← Fintype.sum_prod_type' (fun (d : Dev nD) (a : Fin 4) => (if a = pl d then 0 else tallyAt (bCell d a) () N1 : CellTallies nD τ sig Unit))]
  refine Fintype.sum_equiv swA _ _ fun x => ?_
  unfold O1 swA
  dsimp only [Equiv.coe_fn_mk]
  by_cases h : x.2 = pl x.1
  · rw [if_pos h, if_pos (by rw [pl_dv]; exact h.symm)]
  · rw [if_neg h, if_neg (by rw [pl_dv]; exact Ne.symm h)]
theorem sumZ : (∑ d, OZ d) = ∑ d, IZ d := by
  unfold OZ IZ
  rw [← Fintype.sum_prod_type' (fun (d : Dev nD) (s : Fin 8) => O2 d s),
    ← Fintype.sum_prod_type' (fun (d : Dev nD) (s : Fin 8) => (if s = sl d then 0 else tallyAt (dCell d s) () N2 : CellTallies nD τ sig Unit))]
  refine Fintype.sum_equiv swZ _ _ fun x => ?_
  unfold O2 swZ
  dsimp only [Equiv.coe_fn_mk]
  by_cases h : x.2 = sl x.1
  · rw [if_pos h, if_pos (by rw [sl_dv]; exact h.symm)]
  · rw [if_neg h, if_neg (by rw [sl_dv]; exact Ne.symm h)]

theorem tally_ne {g g' : GSem nD τ sig} {n : ℕ} (h : tallyAt g () n g' ≠ (0 : Unit →₀ ℕ)) : g' = g := by
  by_contra hn
  refine h (Finsupp.ext fun u => ?_)
  rw [tallyAt_apply, if_neg fun hh => hn hh.1]; rfl

theorem IA_own (d : Dev nD) (g) (h : IA d g ≠ 0) : g.1 = (d.tc : Thread nD τ) := by
  unfold IA at h
  rw [Finset.sum_apply] at h
  obtain ⟨a, -, ha⟩ := Finset.exists_ne_zero_of_sum_ne_zero h
  by_cases hp : a = pl d
  · rw [if_pos hp] at ha; exact absurd rfl ha
  · rw [if_neg hp] at ha; rw [tally_ne ha]
theorem IZ_own (d : Dev nD) (g) (h : IZ d g ≠ 0) : g.1 = (d.tc : Thread nD τ) := by
  unfold IZ at h
  rw [Finset.sum_apply] at h
  obtain ⟨a, -, ha⟩ := Finset.exists_ne_zero_of_sum_ne_zero h
  by_cases hp : a = sl d
  · rw [if_pos hp] at ha; exact absurd rfl ha
  · rw [if_neg hp] at ha; rw [tally_ne ha]

theorem cred_off {n : ℕ} (k b : Fin n) (O : CellTallies nD τ sig Unit) :
    (cred (if b = k then 0 else O) : sProp 𝕄) = off k b (cred O) := by
  by_cases h : b = k
  · rw [if_pos h, off_pos h]; exact cred_zero
  · rw [if_neg h, off_neg h]

theorem credA (c : Dev nD) : (Pipeline.launchCred OA c : sProp 𝕄) = bigSep Finset.univ fun a : Fin 4 => off (pl c) a (cred (tallyAt (bCell c a) () N1)) := by
  rw [Pipeline.launchCred_of_sum OA IA sumA IA_own]
  unfold IA
  rw [Pipeline.cred_finsetSum]
  exact bigSep_congr fun a _ => cred_off _ _ _
theorem credZ (c : Dev nD) : (Pipeline.launchCred OZ c : sProp 𝕄) = bigSep Finset.univ fun s : Fin 8 => off (sl c) s (cred (tallyAt (dCell c s) () N2)) := by
  rw [Pipeline.launchCred_of_sum OZ IZ sumZ IZ_own]
  unfold IZ
  rw [Pipeline.cred_finsetSum]
  exact bigSep_congr fun a _ => cred_off _ _ _

theorem pA_pA (c : Dev nD) (j j' : ℕ) (h : (j + j') % 4 = 0) (s : Fin 8) : pA (dv (pA c j) s) j' = pl c := by
  have := (pl c).isLt
  refine Fin.ext ?_
  show ((pl (dv (pA c j) s)).val + j') % 4 = (pl c).val
  rw [pl_dv]
  show (((pl c).val + j) % 4 + j') % 4 = (pl c).val
  omega
theorem pS_pS (c : Dev nD) (j j' : ℕ) (h : (j + j') % 8 = 0) (a : Fin 4) : pS (dv a (pS c j)) j' = sl c := by
  have := (sl c).isLt
  refine Fin.ext ?_
  show ((sl (dv a (pS c j))).val + j') % 8 = (sl c).val
  rw [sl_dv]
  show (((sl c).val + j) % 8 + j') % 8 = (sl c).val
  omega

theorem credBA (c : Dev nD) (j j' : ℕ) (h : (j + j') % 4 = 0) :
    (Pipeline.launchCred (fun d => OB1 (dv (pA d j) (sl d))) c : sProp 𝕄) ⊢ cred (tallyAt (barCell c) () 1) :=
  Pipeline.launchCred_tallyAt (.reg barS) (fun d => dv (pA d j) (sl d)) (fun d => dv (pA d j') (sl d))
    (fun d => by rw [sl_dv, pA_pA d j' j (by omega), dv_pl_sl]) (fun d => by rw [sl_dv, pA_pA d j j' h, dv_pl_sl]) () 1 c
theorem credBS (c : Dev nD) (j j' : ℕ) (h : (j + j') % 8 = 0) :
    (Pipeline.launchCred (fun d => OB1 (dv (pl d) (pS d j))) c : sProp 𝕄) ⊢ cred (tallyAt (barCell c) () 1) :=
  Pipeline.launchCred_tallyAt (.reg barS) (fun d => dv (pl d) (pS d j)) (fun d => dv (pl d) (pS d j'))
    (fun d => by rw [pl_dv, pS_pS d j' j (by omega), dv_pl_sl]) (fun d => by rw [pl_dv, pS_pS d j j' h, dv_pl_sl]) () 1 c

theorem cred_bar (c : Dev nD) (a b : ℕ) :
    iprop(cred (tallyAt (barCell c) () a) ∗ cred (tallyAt (barCell c) () b)) ⊢ (cred (tallyAt (barCell c) () (a + b)) : sProp 𝕄) := by
  rw [← tallyAt_add]; exact (cred_add _ _).2

/-- Ten units at the barrier, and every other device's two sends. -/
theorem creds (c : Dev nD) :
    (Pipeline.launchCred O₀ c : sProp 𝕄) ⊢ iprop(cred (tallyAt (barCell c) () 10)
      ∗ (bigSep Finset.univ fun a : Fin 4 => off (pl c) a (cred (tallyAt (bCell c a) () N1)))
      ∗ (bigSep Finset.univ fun s : Fin 8 => off (sl c) s (cred (tallyAt (dCell c s) () N2)))) := by
  rw [show O₀ = fun d => OA d + OZ d + OB1 (dv (pl d) (pS d 7)) + OB1 (dv (pl d) (pS d 6)) + OB1 (dv (pl d) (pS d 5)) + OB1 (dv (pl d) (pS d 4))
    + OB1 (dv (pl d) (pS d 3)) + OB1 (dv (pl d) (pS d 2)) + OB1 (dv (pl d) (pS d 1))
    + OB1 (dv (pA d 3) (sl d)) + OB1 (dv (pA d 2) (sl d)) + OB1 (dv (pA d 1) (sl d)) from funext fun d => by rw [← OS_sum]; rfl]
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add]
  iintro ⟨⟨⟨⟨⟨⟨⟨⟨⟨⟨⟨HA, HZ⟩, H7⟩, H6⟩, H5⟩, H4⟩, H3⟩, H2⟩, H1⟩, G3⟩, G2⟩, G1⟩
  ihave HA := (Entails.of_eq (credA c)) $$ HA
  ihave HZ := (Entails.of_eq (credZ c)) $$ HZ
  ihave H7 := (credBS c 7 1 (by decide)) $$ H7
  ihave H6 := (credBS c 6 2 (by decide)) $$ H6
  ihave H5 := (credBS c 5 3 (by decide)) $$ H5
  ihave H4 := (credBS c 4 4 (by decide)) $$ H4
  ihave H3 := (credBS c 3 5 (by decide)) $$ H3
  ihave H2 := (credBS c 2 6 (by decide)) $$ H2
  ihave H1 := (credBS c 1 7 (by decide)) $$ H1
  ihave G3 := (credBA c 3 1 (by decide)) $$ G3
  ihave G2 := (credBA c 2 2 (by decide)) $$ G2
  ihave G1 := (credBA c 1 3 (by decide)) $$ G1
  ihave B2 := (cred_bar c 1 1) $$ [H7 H6]
  · iframe
  ihave B3 := (cred_bar c 2 1) $$ [B2 H5]
  · iframe
  ihave B4 := (cred_bar c 3 1) $$ [B3 H4]
  · iframe
  ihave B5 := (cred_bar c 4 1) $$ [B4 H3]
  · iframe
  ihave B6 := (cred_bar c 5 1) $$ [B5 H2]
  · iframe
  ihave B7 := (cred_bar c 6 1) $$ [B6 H1]
  · iframe
  ihave B8 := (cred_bar c 7 1) $$ [B7 G3]
  · iframe
  ihave B9 := (cred_bar c 8 1) $$ [B8 G2]
  · iframe
  ihave B10 := (cred_bar c 9 1) $$ [B9 G1]
  · iframe
  iframe

end Cert.A2A
end
end
-- ==== Proof.Deal.lean ====
/-
The launch: what a device's body starts from, out of its share, and what becomes of what it ends with.
-/
module

public import proofs.«01_k».proof.Proof.Tokens
public import proofs.«01_k».proof.Proof.Credits
public import Idealize.ShloMosaic.Lib.Ring

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers by their parts -/

theorem l4 (P : Fin 4 → sProp 𝕄) : bigSep Finset.univ P = iprop(P 0 ∗ P 1 ∗ P 2 ∗ P 3) := bigSep_univ_eq_bigSepL [0, 1, 2, 3] (by decide) (by decide) P
theorem l8 (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P

theorem wSet_disj (a b : Fin 4) (h : a ≠ b) : Disjoint (wSet a) (wSet b) :=
  Finset.disjoint_left.mpr fun i hi hj => h (Fin.ext ((Finset.mem_filter.mp hi).2.symm.trans (Finset.mem_filter.mp hj).2))
theorem wSet_all : Finset.univ.biUnion wSet = Finset.univ :=
  Finset.ext fun i => ⟨fun _ => Finset.mem_univ _, fun _ => Finset.mem_biUnion.mpr ⟨i 0, Finset.mem_univ _, Finset.mem_filter.mpr ⟨Finset.mem_univ _, rfl⟩⟩⟩
theorem gSet_disj (a b : Fin 4) (h : a ≠ b) : Disjoint (gSet a) (gSet b) :=
  Finset.disjoint_left.mpr fun i hi hj => h (Fin.ext ((Finset.mem_filter.mp hi).2.symm.trans (Finset.mem_filter.mp hj).2))
theorem gSet_all : Finset.univ.biUnion gSet = Finset.univ :=
  Finset.ext fun i => ⟨fun _ => Finset.mem_univ _, fun _ => Finset.mem_biUnion.mpr ⟨⟨(i 0).val / 512, by have h : (i 0).val < 2048 := (i 0).isLt; omega⟩, Finset.mem_univ _, Finset.mem_filter.mpr ⟨Finset.mem_univ _, rfl⟩⟩⟩
theorem ySet_disj (a b : Fin 4) (h : a ≠ b) : Disjoint (ySet a) (ySet b) :=
  Finset.disjoint_left.mpr fun i hi hj => h (Fin.ext ((Finset.mem_filter.mp hi).2.symm.trans (Finset.mem_filter.mp hj).2))
theorem ySet_all : Finset.univ.biUnion ySet = Finset.univ :=
  Finset.ext fun i => ⟨fun _ => Finset.mem_univ _, fun _ => Finset.mem_biUnion.mpr ⟨⟨(i 0).val / 4, by have h : (i 0).val < 16 := (i 0).isLt; omega⟩, Finset.mem_univ _, Finset.mem_filter.mpr ⟨Finset.mem_univ _, rfl⟩⟩⟩
theorem sSet_disj (a b : Fin 8) (h : a ≠ b) : Disjoint (sSet a) (sSet b) :=
  Finset.disjoint_left.mpr fun i hi hj => h (Fin.ext ((Finset.mem_filter.mp hi).2.symm.trans (Finset.mem_filter.mp hj).2))
theorem sSet_all : Finset.univ.biUnion sSet = Finset.univ :=
  Finset.ext fun i => ⟨fun _ => Finset.mem_univ _, fun _ => Finset.mem_biUnion.mpr ⟨i 0, Finset.mem_univ _, Finset.mem_filter.mpr ⟨Finset.mem_univ _, rfl⟩⟩⟩

theorem w_some (c : Dev nD) (b : Fin 4) (f : Buf (Elt F) (LW c)) : (LW c ↦[wSet b]{fullShare} f) ⊢ iprop(∃ f, wPts (F := F) c b f) := by
  unfold wPts; iintro H; iexists f; iexact H
theorem w_cut (c : Dev nD) : iprop(∃ f, LW c ↦{fullShare} f) ⊢ (bigSep Finset.univ fun b : Fin 4 => iprop(∃ f, wPts (F := F) c b f)) := by
  iintro ⟨%f, H⟩
  ihave H := ((Entails.of_eq (Idealize.ShloMosaic.Ring.pointsTo_blocks (ℓ := LW c) wSet wSet_disj wSet_all f)).trans
    (bigSep_mono (Ψ := fun b => iprop(∃ f, wPts (F := F) c b f)) fun b _ => w_some c b f)) $$ H
  iexact H
theorem w_all (c : Dev nD) : (bigSep Finset.univ fun b : Fin 4 => iprop(∃ f, wPts (F := F) c b f)) ⊢ iprop(∃ f, LW c ↦{fullShare} f) := by
  unfold wPts
  exact Idealize.ShloMosaic.Ring.pointsTo_blocks_join_exists (ℓ := LW c) wSet wSet_disj wSet_all (fun _ => Inhabited.default)

theorem y_some (c : Dev nD) (b : Fin 4) (f : Buf (Elt F) (LY c)) : (LY c ↦[ySet b]{fullShare} f) ⊢ iprop(∃ f, yPts (F := F) c b f) := by
  unfold yPts; iintro H; iexists f; iexact H
theorem y_cut (c : Dev nD) : iprop(∃ f, LY c ↦{fullShare} f) ⊢ (bigSep Finset.univ fun b : Fin 4 => iprop(∃ f, yPts (F := F) c b f)) := by
  iintro ⟨%f, H⟩
  ihave H := ((Entails.of_eq (Idealize.ShloMosaic.Ring.pointsTo_blocks (ℓ := LY c) ySet ySet_disj ySet_all f)).trans
    (bigSep_mono (Ψ := fun b => iprop(∃ f, yPts (F := F) c b f)) fun b _ => y_some c b f)) $$ H
  iexact H
theorem y_all (c : Dev nD) : (bigSep Finset.univ fun b : Fin 4 => iprop(∃ f, yPts (F := F) c b f)) ⊢ iprop(∃ f, LY c ↦{fullShare} f) := by
  unfold yPts
  exact Idealize.ShloMosaic.Ring.pointsTo_blocks_join_exists (ℓ := LY c) ySet ySet_disj ySet_all (fun _ => Inhabited.default)

theorem r_some (c : Dev nD) (b : Fin 4) (f : Buf (Elt F) (LR c)) : (LR c ↦[rSet b]{fullShare} f) ⊢ iprop(∃ f, rPts (F := F) c b f) := by
  unfold rPts; iintro H; iexists f; iexact H
theorem r_cut (c : Dev nD) : iprop(∃ f, LR c ↦{fullShare} f) ⊢ (bigSep Finset.univ fun b : Fin 4 => iprop(∃ f, rPts (F := F) c b f)) := by
  iintro ⟨%f, H⟩
  ihave H := ((Entails.of_eq (Idealize.ShloMosaic.Ring.pointsTo_blocks (ℓ := LR c) rSet rSet_disj rSet_all f)).trans
    (bigSep_mono (Ψ := fun b => iprop(∃ f, rPts (F := F) c b f)) fun b _ => r_some c b f)) $$ H
  iexact H

theorem s_some (c : Dev nD) (b : Fin 8) (f : Buf (Elt F) (LS c)) : (LS c ↦[sSet b]{fullShare} f) ⊢ iprop(∃ f, sPts (F := F) c b f) := by
  unfold sPts; iintro H; iexists f; iexact H
theorem s_cut (c : Dev nD) : iprop(∃ f, LS c ↦{fullShare} f) ⊢ (bigSep Finset.univ fun b : Fin 8 => iprop(∃ f, sPts (F := F) c b f)) := by
  iintro ⟨%f, H⟩
  ihave H := ((Entails.of_eq (Idealize.ShloMosaic.Ring.pointsTo_blocks (ℓ := LS c) sSet sSet_disj sSet_all f)).trans
    (bigSep_mono (Ψ := fun b => iprop(∃ f, sPts (F := F) c b f)) fun b _ => s_some c b f)) $$ H
  iexact H
theorem s_all (c : Dev nD) : (bigSep Finset.univ fun b : Fin 8 => iprop(∃ f, sPts (F := F) c b f)) ⊢ iprop(∃ f, LS c ↦{fullShare} f) := by
  unfold sPts
  exact Idealize.ShloMosaic.Ring.pointsTo_blocks_join_exists (ℓ := LS c) sSet sSet_disj sSet_all (fun _ => Inhabited.default)

theorem d_some (c : Dev nD) (b : Fin 8) (f : Buf (Elt F) (LD c)) : (LD c ↦[sSet b]{fullShare} f) ⊢ iprop(∃ f, dPts (F := F) c b f) := by
  unfold dPts; iintro H; iexists f; iexact H
theorem d_cut (c : Dev nD) : iprop(∃ f, LD c ↦{fullShare} f) ⊢ (bigSep Finset.univ fun b : Fin 8 => iprop(∃ f, dPts (F := F) c b f)) := by
  iintro ⟨%f, H⟩
  ihave H := ((Entails.of_eq (Idealize.ShloMosaic.Ring.pointsTo_blocks (ℓ := LD c) sSet sSet_disj sSet_all f)).trans
    (bigSep_mono (Ψ := fun b => iprop(∃ f, dPts (F := F) c b f)) fun b _ => d_some c b f)) $$ H
  iexact H
theorem d_all (c : Dev nD) : (bigSep Finset.univ fun b : Fin 8 => iprop(∃ f, dPts (F := F) c b f)) ⊢ iprop(∃ f, LD c ↦{fullShare} f) := by
  unfold dPts
  exact Idealize.ShloMosaic.Ring.pointsTo_blocks_join_exists (ℓ := LD c) sSet sSet_disj sSet_all (fun _ => Inhabited.default)

theorem g_cut (c : Dev nD) (f : Buf (Elt F) (LG c)) : (LG c ↦{fullShare} f) = (bigSep Finset.univ fun b : Fin 4 => gPts (F := F) c b f) :=
  Idealize.ShloMosaic.Ring.pointsTo_blocks (ℓ := LG c) gSet gSet_disj gSet_all f

/-! ## Planes and places in a device's own order -/

theorem pA_zero (c : Dev nD) : pA c 0 = pl c := Fin.ext (Nat.mod_eq_of_lt (pl c).isLt)
theorem pS_zero (c : Dev nD) : pS c 0 = sl c := Fin.ext (Nat.mod_eq_of_lt (sl c).isLt)

def eA (c : Dev nD) : Fin 4 ≃ Fin 4 := Equiv.ofBijective (fun i : Fin 4 => pA c i.val) <| Finite.injective_iff_bijective.mp fun i i' h => by
  have := congrArg Fin.val h
  have h1 := i.isLt; have h2 := i'.isLt; have h3 := (pl c).isLt
  simp only [pA] at this
  exact Fin.ext (by omega)
def eS (c : Dev nD) : Fin 8 ≃ Fin 8 := Equiv.ofBijective (fun i : Fin 8 => pS c i.val) <| Finite.injective_iff_bijective.mp fun i i' h => by
  have := congrArg Fin.val h
  have h1 := i.isLt; have h2 := i'.isLt; have h3 := (sl c).isLt
  simp only [pS] at this
  exact Fin.ext (by omega)

theorem ordA (c : Dev nD) (P : Fin 4 → sProp 𝕄) : bigSep Finset.univ P = iprop(P (pl c) ∗ P (pA c 1) ∗ P (pA c 2) ∗ P (pA c 3)) := by
  rw [bigSep_univ_equiv (eA c) P, l4, ← pA_zero c]
  rfl
theorem ordS (c : Dev nD) (P : Fin 8 → sProp 𝕄) :
    bigSep Finset.univ P = iprop(P (sl c) ∗ P (pS c 1) ∗ P (pS c 2) ∗ P (pS c 3) ∗ P (pS c 4) ∗ P (pS c 5) ∗ P (pS c 6) ∗ P (pS c 7)) := by
  rw [bigSep_univ_equiv (eS c) P, l8, ← pS_zero c]
  rfl

/-- One member of a family, as a family that is there at that member only. -/
theorem onl_all {n : ℕ} (k : Fin n) (P : Fin n → sProp 𝕄) : P k ⊢ bigSep Finset.univ fun b => onl k b (P b) := by
  rw [bigSep_univ_split k, onl_pos rfl]
  have he : (iprop(emp) : sProp 𝕄) ⊢ bigSep (Finset.univ.erase k) fun b => onl k b (P b) := by
    rw [bigSep_congr (Ψ := fun _ => (iprop(emp) : sProp 𝕄)) fun b hb => onl_neg (Finset.mem_erase.mp hb).1 _]
    exact Entails.of_eq (BI.bigSep_emp_const _).symm
  show _ ⊢ iprop(P k ∗ bigSep (Finset.univ.erase k) fun b => onl k b (P b))
  iintro H
  isplitl [H]; · iexact H
  iapply he
  iempintro

/-! ## What a device starts from -/

/-- The scratch buffers, at whatever contents. -/
def scr (c : Dev nD) : sProp 𝕄 :=
  iprop((∃ f, LW c ↦{fullShare} f) ∗ (∃ f, LY c ↦{fullShare} f) ∗ (∃ f, LR c ↦{fullShare} f) ∗ (∃ f, LS c ↦{fullShare} f) ∗ (∃ f, LD c ↦{fullShare} f))

set_option maxHeartbeats 2000000 in
theorem pre_intro (c : Dev nD) :
    iprop((bigSep Finset.univ fun k : Fin 29 => atPos ER (kcell (c, k)) 0 ∅ 0) ∗ T c ∗ Pipeline.launchCred O₀ c ∗ (LG c ↦{fullShare} wgt m c) ∗ scr c)
      ⊢ iprop(preSig (F := F) c ∗ preW m c ∗ preA (F := F) c ∗ preS (F := F) c) := by
  unfold T scr preSig preW preA preS wres wtb wtd sigA sigS
  rw [ordA c (fun a => tok (barCell (dv a (sl c))) (.inl (pl c))), ordS c (fun s => tok (barCell (dv (pl c) s)) (.inr (sl c))),
    l4 (fun b => tok (wCell c b) (.inl 0)), l4 (fun a => tk1 c a), l8 (fun s => tk2 c s), g_cut, l4 (fun b => gPts c b (wgt m c))]
  iintro ⟨Hp, ⟨⟨-, Ta1, Ta2, Ta3⟩, ⟨-, Ts1, Ts2, Ts3, Ts4, Ts5, Ts6, Ts7⟩, ⟨Tw0, Tw1, Tw2, Tw3⟩, T1, T2⟩, Hc, ⟨Hg0, Hg1, Hg2, Hg3⟩, HW, HY, HR, HS, HD⟩
  ihave Hp := (cells_fam (fun g => atPos ER g 0 ∅ 0) c) $$ Hp
  icases Hp with ⟨Hpx, ⟨Hpw0, Hpw1, Hpw2, Hpw3⟩, Hpa, ⟨Hpb0, Hpb1, Hpb2, Hpb3⟩, Hpc, ⟨Hpd0, Hpd1, Hpd2, Hpd3, Hpd4, Hpd5, Hpd6, Hpd7⟩⟩
  ihave Hc := (creds c) $$ Hc
  icases Hc with ⟨Hcx, Hcb, Hcd⟩
  ihave Hcb := (Entails.of_eq (l4 (fun a => off (pl c) a (cred (tallyAt (bCell c a) () N1))))) $$ Hcb
  icases Hcb with ⟨Hcb0, Hcb1, Hcb2, Hcb3⟩
  ihave Hcd := (Entails.of_eq (l8 (fun s => off (sl c) s (cred (tallyAt (dCell c s) () N2))))) $$ Hcd
  icases Hcd with ⟨Hcd0, Hcd1, Hcd2, Hcd3, Hcd4, Hcd5, Hcd6, Hcd7⟩
  ihave HW := ((w_cut c).trans (Entails.of_eq (l4 _))) $$ HW
  icases HW with ⟨HW0, HW1, HW2, HW3⟩
  ihave HY := ((y_cut c).trans (Entails.of_eq (l4 _))) $$ HY
  ihave HR := ((r_cut c).trans (Entails.of_eq (ordA c _))) $$ HR
  icases HR with ⟨HR0, HR1, HR2, HR3⟩
  ihave HS := ((s_cut c).trans (Entails.of_eq (l8 _))) $$ HS
  ihave HD := ((d_cut c).trans (Entails.of_eq (ordS c _))) $$ HD
  icases HD with ⟨HD0, HD1, HD2, HD3, HD4, HD5, HD6, HD7⟩
  ihave HD0 := ((onl_all (sl c) (fun s => iprop(∃ f, dPts (F := F) c s f))).trans (Entails.of_eq (l8 _))) $$ HD0
  icases HD0 with ⟨Ho0, Ho1, Ho2, Ho3, Ho4, Ho5, Ho6, Ho7⟩
  isplitl [Ta1 Ta2 Ta3 HR1 HR2 HR3 Ts1 Ts2 Ts3 Ts4 Ts5 Ts6 Ts7 HD1 HD2 HD3 HD4 HD5 HD6 HD7 Hcx Hpx]
  · iframe
  isplitl [Hg0 Hg1 Hg2 Hg3 HW0 HW1 HW2 HW3 Tw0 Tw1 Tw2 Tw3 Hpw0 Hpw1 Hpw2 Hpw3]
  · iframe
  isplitl [HY T1 HR0 Hcb0 Hcb1 Hcb2 Hcb3 Hpb0 Hpb1 Hpb2 Hpb3 Hpa]
  · isplitl [HY]; · iexact HY
    isplitl [T1]; · iexact T1
    isplitl [HR0]; · iexact HR0
    isplitl [Hcb0 Hcb1 Hcb2 Hcb3 Hpb0 Hpb1 Hpb2 Hpb3]
    · iframe
    iexact Hpa
  isplitl [HS]; · iexact HS
  isplitl [T2]; · iexact T2
  isplitl [Hcd0 Hcd1 Hcd2 Hcd3 Hcd4 Hcd5 Hcd6 Hcd7 Ho0 Ho1 Ho2 Ho3 Ho4 Ho5 Ho6 Ho7 Hpd0 Hpd1 Hpd2 Hpd3 Hpd4 Hpd5 Hpd6 Hpd7]
  · iframe
  iexact Hpc

/-! ## What it ends with -/

theorem Ou_none (c : Dev nD) (f : Buf (Elt F) (LO c)) : (LO c ↦{fullShare} f) ⊢ Ou m ρ c (PO (sl c).val 0) := by
  unfold Ou
  exact upto_none _ _ _ _ (fun i _ h => absurd h.2 (Nat.not_lt_zero _)) f
theorem Ou_done (c : Dev nD) : Ou m ρ c (PR (sl c).val 8) ⊢ (LO c ↦{fullShare} OB m ρ c) := by
  unfold Ou
  exact upto_all _ _ _ _ fun i _ => Or.inr (Nat.mod_lt _ (by decide))

set_option maxHeartbeats 2000000 in
theorem post_elim (K) (c : Dev nD) :
    iprop(Rec (F := F) m ρ K ∗ postSem m ρ c ∗ postBuf m ρ c)
      ⊢ |={Set.univ}=> iprop((unscopedSems0 c ∗ Pipeline.ownSems0 (Ix := Unit) (Name := ℕ) (U := UU) (Lvl := ℕ) (Val := Elt F) (τ := τ) osem c)
          ∗ (LX c ↦{fullShare} xstg m ρ c) ∗ (LO c ↦{fullShare} OB m ρ c) ∗ (LG c ↦{fullShare} wgt m c) ∗ scr c) := by
  unfold postSem postBuf gota gotd gotc
  iintro ⟨#HR, ⟨Kx, Kw, Kb⟩, HX, HO, ⟨⟨W0, G0⟩, ⟨W1, G1⟩, ⟨W2, G2⟩, ⟨W3, G3⟩⟩, ⟨⟨Y0, Ka0⟩, ⟨Y1, Ka1⟩, ⟨Y2, Ka2⟩, ⟨Y3, Ka3⟩⟩, HRb, ⟨⟨D0, Kd0⟩, ⟨D1, Kd1⟩, ⟨D2, Kd2⟩, ⟨D3, Kd3⟩, ⟨D4, Kd4⟩, ⟨D5, Kd5⟩, ⟨D6, Kd6⟩, ⟨D7, Kd7⟩⟩, ⟨⟨S0, Kc0⟩, ⟨S1, Kc1⟩, ⟨S2, Kc2⟩, ⟨S3, Kc3⟩, ⟨S4, Kc4⟩, ⟨S5, Kc5⟩, ⟨S6, Kc6⟩, ⟨S7, Kc7⟩⟩⟩
  ihave Hk := (fam_cells (fun g => closable (F := F) m ρ g) c) $$ [Kx Kw Kb Ka0 Ka1 Ka2 Ka3 Kc0 Kd0 Kc1 Kd1 Kc2 Kd2 Kc3 Kd3 Kc4 Kd4 Kc5 Kd5 Kc6 Kd6 Kc7 Kd7]
  · isplitl [Kx]; · iexact Kx
    isplitl [Kw]; · iexact Kw
    isplitl [Ka0 Ka1 Ka2 Ka3]; · iframe
    isplitl [Kb]; · iexact Kb
    isplitl [Kc0 Kc1 Kc2 Kc3 Kc4 Kc5 Kc6 Kc7]; · iframe
    iframe
  imod (close_all m ρ K c) $$ [Hk] with Hz
  · isplitr; · iexact HR
    iexact Hk
  imodintro
  isplitl [Hz]; · iexact Hz
  isplitl [HX]; · iexact HX
  isplitl [HO]; · iapply (Ou_done m ρ c) $$ HO
  isplitl [G0 G1 G2 G3]
  · rw [g_cut, l4]; iframe
  unfold scr
  isplitl [W0 W1 W2 W3]
  · iapply (w_all c)
    rw [l4]
    isplitl [W0]; · iexists _; iexact W0
    isplitl [W1]; · iexists _; iexact W1
    isplitl [W2]; · iexists _; iexact W2
    iexists _; iexact W3
  isplitl [Y0 Y1 Y2 Y3]
  · iapply (y_all c)
    rw [l4]
    isplitl [Y0]; · iexists _; iexact Y0
    isplitl [Y1]; · iexists _; iexact Y1
    isplitl [Y2]; · iexists _; iexact Y2
    iexists _; iexact Y3
  isplitl [HRb]; · iexists _; iexact HRb
  isplitl [S0 S1 S2 S3 S4 S5 S6 S7]
  · iapply (s_all c)
    rw [l8]; iframe
  iapply (d_all c)
  rw [l8]; iframe

end Cert.A2A
end
end
-- ==== Proof.Launch.lean ====
/-
The run: the body on every device, started and ended by the launch.
-/
module

public import proofs.«01_k».proof.Proof.Deal
public import proofs.«01_k».proof.Proof.Gen.KernelIdeal.Points
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device's body starts from, -/
def start (c : Dev nD) : sProp 𝕄 :=
  iprop((∃ K, Rec (F := F) m ρ K ∗ (bigSep Finset.univ fun k : Fin 29 => atPos ER (kcell (c, k)) 0 ∅ 0) ∗ T c)
    ∗ Pipeline.launchCred O₀ c ∗ (LG c ↦{fullShare} wgt m c))
def Φ₀ (c : Dev nD) : sProp 𝕄 := iprop(start (F := F) m ρ c ∗ scr c)
/-- and what it ends with. -/
def Φ₁ (c : Dev nD) : sProp 𝕄 :=
  iprop((unscopedSems0 c ∗ Pipeline.ownSems0 (Ix := Unit) (Name := ℕ) (U := UU) (Lvl := ℕ) (Val := Elt F) (τ := τ) osem c)
    ∗ (LG c ↦{fullShare} wgt m c) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OB m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem stg_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m ρ c) ∗ stg c cc0_stg1_0 (OB m ρ c))

theorem before_x (c : Dev nD) (d) : (dats m ρ 0 c).before (0 : Fin 2) t0_0 d = xstg m ρ c := by
  unfold Dat.before
  rw [if_pos (fetch0_0 t0_0)]
  rfl

theorem owes_in (c : Dev nD) : (dats m ρ 0 c).owesAt () t0_0.castSucc ⊢ owesE (F := F) c (O₀ c) := by
  unfold Dat.owesAt Pipeline.owesWithin owesE
  rw [show (dats m ρ 0 c).owed t0_0.castSucc = O₀ c from rfl]
  iintro ⟨%W, -, H⟩
  iexists W; iexact H
theorem owes_out (c : Dev nD) : owesE (F := F) c 0 ⊢ (dats m ρ 0 c).owesAt () t0_0.succ := by
  unfold Dat.owesAt Pipeline.owesWithin owesE
  rw [show (dats m ρ 0 c).owed t0_0.succ = 0 from rfl]
  iintro ⟨%W, H⟩
  iexists W
  isplitr; · ipureintro; exact fun _ _ => Or.inl trivial
  iexact H

theorem sound_body (c : Dev nD) :
    bodyPre m ρ c ⊢ WP (F := F) c (cc0_body (F := F) xM (Memref.isWhole_whole _) gM (Memref.isWhole_whole _) oM (Memref.isWhole_whole _) wM (Memref.isWhole_whole _) yM (Memref.isWhole_whole _) rM (Memref.isWhole_whole _) sM (Memref.isWhole_whole _) dM (Memref.isWhole_whole _) cc0_scratch5 cc0_scratch6 cc0_scratch7 cc0_scratch8 cc0_scratch9) (fun _ => bodyPost m ρ c) := by
  rw [cc0_body_eq_skeleton]
  unfold cc0_body_skel bodyPre Φ₀ start
  simp only [before_x]
  rw [WP_bind]
  iintro ⟨⟨⟨⟨%K, #HR, Hp, HT⟩, Hc, HG⟩, Hs⟩, HO, ⟨%d0, %g0, %hg0, HX⟩, ⟨%d1, %g1, %hg1, Ho⟩⟩
  subst hg0
  ihave HO := (owes_in m ρ c) $$ HO
  ihave Ho := (Ou_none m ρ c g1) $$ Ho
  ihave Hpre := (pre_intro m c) $$ [Hp HT Hc HG Hs]
  · isplitl [Hp]; · iexact Hp
    isplitl [HT]; · iexact HT
    isplitl [Hc]; · iexact Hc
    isplitl [HG] <;> iassumption
  icases Hpre with ⟨H1, H2, H3, H4⟩
  iapply (body_spec m ρ K c) $$ [H1 H2 H3 H4 HX Ho HO]
  · isplitr; · iexact HR
    isplitl [H1]; · iexact H1
    isplitl [H2]; · iexact H2
    isplitl [H3]; · iexact H3
    isplitl [H4]; · iexact H4
    isplitl [HX]; · iexact HX
    isplitl [Ho] <;> iassumption
  iintro ⟨Hsem, Hbuf, HO⟩
  rw [Prog.pure_eq_ret, WP_ret]
  imod (post_elim m ρ K c) $$ [Hsem Hbuf] with ⟨Hz, HX, Ho, HG, Hs⟩
  · isplitr; · iexact HR
    isplitl [Hsem] <;> iassumption
  imodintro
  unfold bodyPost Φ₁
  isplitl [Hz HG Hs]
  · isplitl [Hz]; · iexact Hz
    isplitl [HG] <;> iassumption
  isplitl [HO]; · iapply (owes_out m ρ c) $$ HO
  isplitl [HX]
  · iexists _; isplitr; · (ipureintro; rfl)
    iexact HX
  iexists _; isplitr; · (ipureintro; rfl)
  iexact Ho

set_option maxRecDepth 4000 in
/-- The body, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [stg_eq]
  exact sound_body m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem above_O₀ (c : Dev nD) : Above 0 (O₀ c) := by
  have h := fun c' => above_OB1 c' (n := 0) (by decide)
  unfold O₀
  rw [OS_eq]
  exact above_add (above_add (above_add (above_add (above_add (above_add (above_add (above_add (above_add (above_add (above_OS c (by decide)) (h _)) (h _)) (h _)) (h _)) (h _)) (h _)) (h _)) (h _)) (h _)) (h _)

theorem mayWait_stg (c : Dev nD) (q : DmaSem sig) (hq : lv ((c : Thread nD τ), .dma q) () = 0) (O : CellTallies nD τ sig Unit) (hO : O = O₀ c ∨ O = 0) :
    (levAts Lw lv : sProp 𝕄) ⊢ MayWait (c : Thread nD τ) (.dma q) () O := by
  have h := mayWait (F := F) c (.dma q) O (by
    rw [hq]
    rcases hO with rfl | rfl
    · exact above_O₀ c
    · exact above_zero 0)
  unfold Lev at h
  exact h

theorem waits (c : Dev nD) : (levAts Lw lv : sProp 𝕄) ⊢ Pipeline.cellsWaits cfgs (dats m ρ) () 0 c :=
  Pipeline.cellsWaits_intro cfgs (dats m ρ) () 0 c fun w s t =>
    mayWait_stg c _ (by
      have h : ∀ (w : Fin 2) (s : Fin (spec0 w).nbuf), kind (.dma ((spec0 w).sem s)) = .idle := by decide
      show (match gk _ with | .bar => 1 | .b _ => 2 | .d _ => 3 | _ => 0) = 0
      rw [gk_tc]
      rw [show kind _ = .idle from h w s]) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts Lw lv
        ∗ Pipeline.launchCred O₀ c ∗ prngReg c (ρ c) ∗ G' m ρ c)
      ⊢ |={Set.univ}=> iprop(start (F := F) m ρ c ∗ emp) := by
  have hL : (levAts Lw lv : sProp 𝕄) ⊢ Lev (F := F) := by unfold Lev; exact .rfl
  rw [Pipeline.unscopedRestP_none, unscopedRest0_eq]
  unfold G' start RecN Rec
  iintro ⟨HG, Hlev, Hc, -, ⟨%K, ⟨HI, HR⟩, Hp, HT⟩⟩
  ihave Hlev := hL $$ Hlev
  imodintro
  isplitl
  · isplitl [HI HR Hlev Hp HT]
    · iexists K
      isplitl [HI HR Hlev]
      · isplitl [HI]; · iexact HI
        isplitl [HR] <;> iassumption
      isplitl [Hp] <;> iassumption
    isplitl [Hc]; · iexact Hc
    iexact HG
  · iempintro

theorem phi_in (c : Dev nD) :
    iprop(start (F := F) m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, H⟩
  isplitl [Hs]; · iexact Hs
  iexact H

theorem phi_out (c : Dev nD) :
    (dats m ρ 0 c).Φ (Fin.last cfg0.N) ⊢ iprop((unscopedSems0 c ∗ (LG c ↦{fullShare} wgt m c)) ∗ Pipeline.ownSems0 osem c ∗ Pipeline.scopedRest cfg0.spec c) := by
  rw [show (dats m ρ 0 c).Φ (Fin.last cfg0.N) = Φ₁ m c from rfl, scopedRest0_eq]
  unfold Φ₁ scr
  iintro ⟨⟨Hu, Ho⟩, HG, H⟩
  isplitl [Hu HG]
  · isplitl [Hu] <;> iassumption
  isplitl [Ho]; · iexact Ho
  iexact H

/-! ## The run -/

/-- A window's array after the run. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w) ∧ r.2.mem (LG c) = m (LG c)

/-- What is read of a device's memory at the end. -/
def QY (c : Dev nD) (s : MemSt nD τ sig (Elt F)) : Prop :=
  (∀ sm : SemLoc sig, sm.isScoped .tc = false → s.sem ((c.tc : Thread nD τ), sm) = 0) ∧ s.mem (LG c) = m (LG c)

theorem read_end (c : Dev nD) (s' : Phys nD τ sig (Elt F)) :
    iprop((unscopedSems0 c ∗ (LG c ↦{fullShare} wgt m c)) ∗ emp ∗ SI s') ⊢ |={Set.univ}=> (iprop(⌜QY m c s'.mem⌝ ∗ SI s') : sProp 𝕄) := by
  have hg : iprop(SI s' ∗ (LG c ↦{fullShare} wgt m c)) ⊢ (⌜s'.mem.mem (LG c) = m (LG c)⌝ : sProp 𝕄) :=
    (SI_pointsTo_agree (st := s') (ℓ := LG c) (I := Finset.univ) (q := fullShare) (f := wgt m c)).trans
      (BI.pure_mono fun h => funext fun i => h i (Finset.mem_univ i))
  iintro ⟨⟨Hu, HG⟩, -, HSI⟩
  imod (Pipeline.unscopedSems0_read (X := unscopedSems0 c) (c := c) fupd_intro s') $$ [Hu HSI] with ⟨%h, HSI⟩
  · isplitl [Hu] <;> iassumption
  ihave %h2 := hg $$ [HSI HG]
  · isplitl [HSI] <;> iassumption
  imodintro
  isplitr; · ipureintro; exact ⟨h, h2⟩
  iexact HSI

set_option maxRecDepth 8000 in
/-- Every execution from zero counters ends with every device's result array as computed, its arguments as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := Lw) (lv := lv) (hL := Lw_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ (LG c ↦{fullShare} wgt m c))) (Z := fun _ => iprop(emp))
    (hX := start_intro m ρ) (hin := phi_in m ρ) (hout := phi_out m ρ)
    (QY := QY m)
    (hY := read_end m)
    (hQ := fun _ h hs => ⟨fun c => ⟨fun w => (h c).1 w, (h c).2.2.2⟩, sem_eq_zero hs fun c => (h c).2.2.1⟩)

/-- The input array after the run holds what it held. -/
theorem finalA_x (c : Dev nD) : finalA m ρ c (0 : Fin 2) = m ((c : Thread nD τ).loc main_arg0) :=
  (dats (F := F) m ρ 0 c).arrAt_in (0 : Fin 2) rfl _

end Cert.A2A
end
end
-- ==== Proof.Pure.lean ====
/-
What a device computes, element by element over the extended reals, and the reference's element.
-/
module

public import proofs.«01_k».proof.Proof.Common
public import proofs.«01_k».proof.Proof.Gen.ReferenceIdeal
public import Idealize.ShloMosaic.Lib.Pointwise
public import Idealize.ShloMosaic.PureOps.Ideal.Laws

@[expose] public section

noncomputable section

namespace Cert.A2A

open Cert.KernelIdeal Cert.KernelIdeal.Gen
open Idealize.ShloMosaic Idealize.ShloMosaic.TcCoe

set_option maxRecDepth 16384

/-- The activation of one element, in the kernel's order of products. -/
def gel (z : EReal) : EReal :=
  Ideal.ofBits FTy.f32 1056964608#32 * z
    * (1 + Ideal.tanh (Ideal.ofBits FTy.f32 1061962282#32 * (z + Ideal.ofBits FTy.f32 1027024659#32 * z * z * z)))

/-- The reference's result, as its run gives it. -/
def refOut (x w : FVec Ideal Cert.ReferenceIdeal.S2048x2048 .f32) : FVec Ideal Cert.ReferenceIdeal.S2048x2048 .f32 :=
  mulf (mulf (broadcastInDim Cert.ReferenceIdeal.S2048x2048 ![] Cert.ReferenceIdeal.Gen.bcast_S_S2048x2048 (constant Cert.ReferenceIdeal.S_ .f32 0x3F000000#32)) (Host.dotGeneral Cert.ReferenceIdeal.dot_S2048x2048_S2048x2048_S2048x2048_1_0_0_1_n_n none x w)) (addf (broadcastInDim Cert.ReferenceIdeal.S2048x2048 ![] Cert.ReferenceIdeal.Gen.bcast_S_S2048x2048 (constant Cert.ReferenceIdeal.S_ .f32 0x3F800000#32)) (Host.tanh (mulf (broadcastInDim Cert.ReferenceIdeal.S2048x2048 ![] Cert.ReferenceIdeal.Gen.bcast_S_S2048x2048 (constant Cert.ReferenceIdeal.S_ .f32 0x3F4C422A#32)) (addf (Host.dotGeneral Cert.ReferenceIdeal.dot_S2048x2048_S2048x2048_S2048x2048_1_0_0_1_n_n none x w) (mulf (broadcastInDim Cert.ReferenceIdeal.S2048x2048 ![] Cert.ReferenceIdeal.Gen.bcast_S_S2048x2048 (constant Cert.ReferenceIdeal.S_ .f32 0x3D372713#32)) (mulf (mulf (Host.dotGeneral Cert.ReferenceIdeal.dot_S2048x2048_S2048x2048_S2048x2048_1_0_0_1_n_n none x w) (Host.dotGeneral Cert.ReferenceIdeal.dot_S2048x2048_S2048x2048_S2048x2048_1_0_0_1_n_n none x w)) (Host.dotGeneral Cert.ReferenceIdeal.dot_S2048x2048_S2048x2048_S2048x2048_1_0_0_1_n_n none x w)))))))

theorem ref_apply (x w : FVec Ideal Cert.ReferenceIdeal.S2048x2048 .f32) (r l : Fin 2048) :
    refOut x w (ix2 r l) = gel (∑ k : Fin 2048, x (ix2 r k) * w (ix2 k l)) := by
  pointwise [refOut, gel]
  simp only [mul_assoc]

/-- A sum over 2048 positions, 512 at a time. -/
theorem sum_cut (f : Fin 2048 → EReal) :
    ∑ k, f k = ∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩ := by
  rw [Fin.sum_univ_two_halves 1536 512 rfl f, Fin.sum_univ_two_halves 1024 512 rfl, Fin.sum_univ_two_halves 512 512 rfl]

theorem acc_apply (x : Vec Ideal S64x2048 .f32) (w0 w1 w2 : Vec Ideal S1x512x2048 .f32) (r : Fin 64) (l : Fin 2048) :
    k0_pay59 (k0_pay57 x) (k0_pay58 x w0) w1 w2 (ix2 r l)
      = (∑ k : Fin 512, x (ix2 r ⟨k.val, by omega⟩) * w0 (ix3 0 k l) + ∑ k : Fin 512, x (ix2 r ⟨512 + k.val, by omega⟩) * w1 (ix3 0 k l)
        + ∑ k : Fin 512, x (ix2 r ⟨1024 + k.val, by omega⟩) * w2 (ix3 0 k l) : EReal) := by
  pointwise [k0_pay57, k0_pay58, k0_pay59]

theorem last_apply (x : Vec Ideal S64x2048 .f32) (r : Fin 64) (k : Fin 512) :
    k0_pay60 (k0_pay57 x) (ix2 r k) = x (ix2 r ⟨1536 + k.val, by omega⟩) := by
  pointwise [k0_pay57, k0_pay60]

theorem pay63_apply (v : Vec Ideal S64x2048 .f32) (x : FVec Ideal S64x512 .f32) (w : Vec Ideal S1x512x512 .f32) (z : FVec Ideal S64x512 .f32)
    (r : Fin 64) (l : Fin 512) (hz : z (ix2 r l) = v (ix2 r ⟨l.val, by omega⟩)) :
    k0_pay63 x (k0_pay61 w) z (constant S64x512 .f32 0x00000000#32) (ix2 r l)
      = gel (v (ix2 r ⟨l.val, by omega⟩) + ∑ k : Fin 512, x (ix2 r k) * w (ix3 0 k l)) := by
  rw [← hz]
  pointwise [k0_pay61, k0_pay63, gel]

theorem pay68_apply (v : FVec Ideal S64x2048 .f32) (x : FVec Ideal S64x512 .f32) (w : Vec Ideal S1x512x512 .f32) (r : Fin 64) (l : Fin 512) :
    k0_pay68 v x w (ix2 r l) = gel (v (ix2 r ⟨512 + l.val, by omega⟩) + ∑ k : Fin 512, x (ix2 r k) * w (ix3 0 k l)) := by
  pointwise [k0_pay68, gel]

theorem pay73_apply (v : FVec Ideal S64x2048 .f32) (x : FVec Ideal S64x512 .f32) (w : Vec Ideal S1x512x512 .f32) (r : Fin 64) (l : Fin 512) :
    k0_pay73 v x w (ix2 r l) = gel (v (ix2 r ⟨1024 + l.val, by omega⟩) + ∑ k : Fin 512, x (ix2 r k) * w (ix3 0 k l)) := by
  pointwise [k0_pay73, gel]

theorem pay79_apply (v : FVec Ideal S64x2048 .f32) (x : FVec Ideal S64x512 .f32) (w : Vec Ideal S1x512x512 .f32) (r : Fin 64) (l : Fin 512) :
    k0_pay79 v x w (ix2 r l) = gel (v (ix2 r ⟨1536 + l.val, by omega⟩) + ∑ k : Fin 512, x (ix2 r k) * w (ix3 0 k l)) := by
  pointwise [k0_pay79, gel]

/-- The four partial products of one element make the whole product. -/
theorem dot_cut (x : Vec Ideal S64x2048 .f32) (W : Vec Ideal S2048x2048 .f32) (w0 w1 w2 : Vec Ideal S1x512x2048 .f32)
    (w3 : Fin 512 → EReal) (r : Fin 64) (l : Fin 2048)
    (h0 : ∀ k : Fin 512, w0 (ix3 0 k l) = W (ix2 ⟨k.val, by omega⟩ l)) (h1 : ∀ k : Fin 512, w1 (ix3 0 k l) = W (ix2 ⟨512 + k.val, by omega⟩ l))
    (h2 : ∀ k : Fin 512, w2 (ix3 0 k l) = W (ix2 ⟨1024 + k.val, by omega⟩ l)) (h3 : ∀ k : Fin 512, w3 k = W (ix2 ⟨1536 + k.val, by omega⟩ l)) :
    (k0_pay59 (k0_pay57 x) (k0_pay58 x w0) w1 w2 (ix2 r l) + ∑ k : Fin 512, k0_pay60 (k0_pay57 x) (ix2 r k) * w3 k : EReal)
      = ∑ k : Fin 2048, x (ix2 r k) * W (ix2 k l) := by
  rw [acc_apply, sum_cut]
  simp only [h0, h1, h2, h3, last_apply]

end Cert.A2A
end
-- ==== Proof.Value.lean ====
/-
What the run leaves in the result arrays, over the extended reals: each device's columns of the reference's result.
-/
module

public import proofs.«01_k».proof.Proof.Launch
public import proofs.«01_k».proof.Proof.Pure
public import Idealize.ShloMosaic.Lib.Layout

@[expose] public section

noncomputable section

namespace Cert.A2A

open Cert.KernelIdeal Cert.KernelIdeal.Gen
open Idealize.ShloMosaic Idealize.ShloMosaic.TcCoe Idealize.SL.Sem

/-! ## The arrays at the ends of the run -/

section
variable {F : FTy → Type} [FloatOps F]
variable (m : (ℓ : Loc nD τ sig) → Buf (Elt F) ℓ) (ρ : Dev nD → PrngReg)

/-- The staged block is the device's rows. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends as the staged result. -/
theorem finalA_out (c : Dev nD) : finalA m ρ c (1 : Fin 2) = OB m ρ c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m ρ c (1 : Fin 2))
  refine hr.symm.trans ?_
  show (win0_1.blk (0 : Fin 1)).view.read (Elt F) (finalA m ρ c (1 : Fin 2)) = OB m ρ c
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact View.read_write_univ _ _
end

/-! ## The values -/

variable (m : (ℓ : Loc nD τ sig) → Buf (Elt Ideal) ℓ) (ρ : Dev nD → PrngReg)

/-- A weight block's element is the weights'. -/
theorem WL_apply (c : Dev nD) (b : Fin 4) (k : Fin 512) (l : Fin 2048) :
    WL m c b (ix3 0 k l) = (wgt m c : Vec Ideal S2048x2048 .f32) (ix2 ⟨512 * b.val + k.val, by omega⟩ l) := by
  unfold WL WB
  rw [ix2_eq_valueIdx]
  rfl
theorem WC_apply (c : Dev nD) (a : Fin 4) (k l : Fin 512) :
    WC m c a (ix3 0 k l) = (wgt m c : Vec Ideal S2048x2048 .f32) (ix2 ⟨1536 + k.val, by omega⟩ ⟨512 * a.val + l.val, by omega⟩) := by
  unfold WC WB
  rw [ix2_eq_valueIdx]
  rfl

/-- The product's element: a row against a column of the weights, -/
def dotE (x : S64x2048.Idx → EReal) (W : S2048x2048.Idx → EReal) (r : Fin 64) (l : Fin 2048) : EReal :=
  ∑ k : Fin 2048, x (ix2 r k) * W (ix2 k l)
/-- of a device. -/
def dotx (c : Dev nD) (r : Fin 64) (l : Fin 2048) : EReal := dotE (xstg m ρ c) (wgt m c) r l

/-- A block of the last product on top of the sum of the others, at an element. -/
def part (c : Dev nD) (a : Fin 4) (r : Fin 64) (l : Fin 512) (n : ℕ) (hn : n + 512 ≤ 2048) : EReal :=
  V132 m ρ c (ix2 r ⟨n + l.val, by omega⟩) + ∑ k : Fin 512, V138 m ρ c (ix2 r k) * WC m c a (ix3 0 k l)

theorem part_eq (c : Dev nD) (a : Fin 4) (r : Fin 64) (l : Fin 512) (n : ℕ) (hn : n + 512 ≤ 2048) (h : n = 512 * a.val) :
    part m ρ c a r l n hn = dotx m ρ c r ⟨n + l.val, by omega⟩ := by
  subst h
  have e : ∀ (b : Fin 4) (n : ℕ) (hn : n = 512 * b.val) (k : Fin 512) (l : Fin 2048),
      WL m c b (ix3 0 k l) = (wgt m c : Vec Ideal S2048x2048 .f32) (ix2 ⟨n + k.val, by omega⟩ l) := fun b n hn k l => by
    subst hn; exact WL_apply m c b k l
  unfold part V132 V138 V103 V112 dotx dotE
  refine dot_cut _ (wgt m c) _ _ _ (fun k => WC m c a (ix3 0 k l)) r _ (fun k => ?_) (e 1 512 rfl · _) (e 2 1024 rfl · _) (WC_apply m c a · l)
  have h := e 0 0 rfl k ⟨512 * a.val + l.val, by omega⟩
  rw [h]
  exact congrArg (fun i => (wgt m c : Vec Ideal S2048x2048 .f32) (ix2 i _)) (Fin.ext (Nat.zero_add _))

theorem YV_0 (c : Dev nD) (r : Fin 64) (l : Fin 512) : YV m ρ c 0 (ix2 r l) = gel (part m ρ c 0 r l 0 (by decide)) := by
  have h := pay63_apply (V132 m ρ c) (V138 m ρ c) (WC m c 0) (V141 m ρ c) r l (by
    unfold V141 V132
    pointwise [k0_pay62])
  refine Eq.trans ?_ (h.trans (congrArg gel (congrArg (· + _) (congrArg (fun i => V132 m ρ c (ix2 r i)) (Fin.ext (Nat.zero_add _).symm)))))
  rfl
theorem YV_1 (c : Dev nD) (r : Fin 64) (l : Fin 512) : YV m ρ c 1 (ix2 r l) = gel (part m ρ c 1 r l 512 (by decide)) :=
  pay68_apply (V132 m ρ c) (V138 m ρ c) (WC m c 1) r l
theorem YV_2 (c : Dev nD) (r : Fin 64) (l : Fin 512) : YV m ρ c 2 (ix2 r l) = gel (part m ρ c 2 r l 1024 (by decide)) :=
  pay73_apply (V132 m ρ c) (V138 m ρ c) (WC m c 2) r l
theorem YV_3 (c : Dev nD) (r : Fin 64) (l : Fin 512) : YV m ρ c 3 (ix2 r l) = gel (part m ρ c 3 r l 1536 (by decide)) :=
  pay79_apply (V132 m ρ c) (V138 m ρ c) (WC m c 3) r l

/-- An activated element. -/
theorem YV_apply (c : Dev nD) (a : Fin 4) (r : Fin 64) (l : Fin 512) :
    YV m ρ c a (ix2 r l) = gel (dotx m ρ c r ⟨512 * a.val + l.val, by omega⟩) := by
  have e : ∀ (n : ℕ) (hn : n + 512 ≤ 2048) (h : n = 512 * a.val),
      gel (part m ρ c a r l n hn) = gel (dotx m ρ c r ⟨512 * a.val + l.val, by omega⟩) := fun n hn h => by
    rw [part_eq m ρ c a r l n hn h]
    subst h
    rfl
  match a, e with
  | 0, e => exact (YV_0 m ρ c r l).trans (e _ _ rfl)
  | 1, e => exact (YV_1 m ρ c r l).trans (e _ _ rfl)
  | 2, e => exact (YV_2 m ρ c r l).trans (e _ _ rfl)
  | 3, e => exact (YV_3 m ρ c r l).trans (e _ _ rfl)

/-- The device's columns, element by element. -/
theorem OB_apply (c : Dev nD) (i : S2048x64.Idx) (d : Dev nD) (r : Fin 64) (l : Fin 2048)
    (hi : (i 0).val = 64 * d.val + r.val) (hl : l.val = 64 * c.val + (i 1).val) :
    OB m ρ c i = gel (dotx m ρ d r l) := by
  have hr := r.isLt
  have h1 : (i 1).val < 64 := (i 1).isLt
  have hd : (⟨(i 0).val / 64, by have h0 : (i 0).val < 2048 := (i 0).isLt; simp only [nD]; omega⟩ : Dev nD) = d := Fin.ext (by show (i 0).val / 64 = d.val; omega)
  have hp : (pl c).val = c.val / 8 := rfl
  have hs : (sl c).val = c.val % 8 := rfl
  have hc : c.val < 32 := c.isLt
  unfold OB
  show YB m ρ _ _ = _
  rw [hd]
  unfold YB
  show YV m ρ d ⟨(4 * (pl c).val + (sl c).val / 2) / 4, _⟩ (ValueIdx.ix2 ⟨(i 0).val % 64, _⟩ ⟨128 * ((4 * (pl c).val + (sl c).val / 2) % 4) + (64 * ((sl c).val % 2) + (i 1).val), _⟩) = _
  rw [← ix2_eq_valueIdx, YV_apply]
  refine congrArg gel ?_
  have e1 : (⟨(i 0).val % 64, by omega⟩ : Fin 64) = r := Fin.ext (by show (i 0).val % 64 = r.val; omega)
  rw [e1]
  refine congrArg (dotx m ρ d r) (Fin.ext ?_)
  show 512 * ((4 * (pl c).val + (sl c).val / 2) / 4) + (128 * ((4 * (pl c).val + (sl c).val / 2) % 4) + (64 * ((sl c).val % 2) + (i 1).val)) = l.val
  rw [hp, hs, hl]
  omega

/-- From the blocks of whole arrays, the run leaves each device its columns of the reference's result. -/
theorem finalA_block (X W : FVec Ideal Cert.ReferenceIdeal.S2048x2048 .f32)
    (hx : ∀ c : Dev nD, m ((c : Thread nD τ).loc main_arg0) = Layout.block ⟨2, ![64, 2048]⟩ ⟨2, ![2048, 2048]⟩ 0 32 c X)
    (hw : ∀ c : Dev nD, m ((c : Thread nD τ).loc main_arg1) = W) (c : Dev nD) :
    finalA m ρ c (1 : Fin 2) = Layout.block ⟨2, ![2048, 64]⟩ ⟨2, ![2048, 2048]⟩ 1 32 c (refOut X W) := by
  rw [finalA_out]
  funext i
  have h0 : (i 0).val < 2048 := (i 0).isLt
  have h1 : (i 1).val < 64 := (i 1).isLt
  have hc : c.val < 32 := c.isLt
  have hb : (Layout.block ⟨2, ![2048, 64]⟩ ⟨2, ![2048, 2048]⟩ 1 32 c (refOut X W)) i
      = refOut X W (ix2 ⟨(i 0).val, h0⟩ ⟨64 * c.val + (i 1).val, by omega⟩) := by
    rw [Layout.block_apply]
    refine congrArg (refOut X W) (funext fun b => Fin.ext ?_)
    rw [Layout.Tiles.idx_val]
    match b with
    | ⟨0, _⟩ => rfl
    | ⟨1, _⟩ => exact congrArg (· + (i 1).val) (Nat.mul_comm c.val 64)
  rw [hb, ref_apply]
  refine (OB_apply m ρ c i ⟨(i 0).val / 64, by simp only [nD]; omega⟩ ⟨(i 0).val % 64, by omega⟩ ⟨64 * c.val + (i 1).val, by omega⟩
    (by show (i 0).val = 64 * ((i 0).val / 64) + (i 0).val % 64; omega) rfl).trans (congrArg gel ?_)
  unfold dotx dotE wgt
  refine Finset.sum_congr rfl fun k _ => ?_
  rw [xstg_eq, hx, hw]
  refine congrArg (· * _) ?_
  rw [Layout.block_apply]
  refine congrArg X (funext fun b => Fin.ext ?_)
  rw [Layout.Tiles.idx_val]
  match b with
  | ⟨0, _⟩ => show (i 0).val / 64 * 64 + (i 0).val % 64 = (i 0).val; omega
  | ⟨1, _⟩ => rfl

end Cert.A2A
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 100000 in
/-- The two programs' kernel tables are one: they have the same text. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))
theorem defs_eq : Cert.Kernel.defs (F := Bits) = Cert.KernelIdeal.defs (F := Bits) :=
  congrArg (Pipeline.defs Cert.KernelIdeal.pcfgs) defs₀_eq

set_option maxRecDepth 100000 in
/-- The kernel at the bit patterns: its run with the values dropped. -/
theorem frame_p : Cert.quiescent_Kernel := fun m ρ _ => by
  rw [defs_eq]
  exact (θ_run Cert.KernelIdeal.defs _ _).mono
    (fun _ h => ⟨fun c => ⟨((h.1 c).1 (0 : Fin 2)).trans (Cert.A2A.finalA_x m ρ c), (h.1 c).2⟩, h.2⟩)
    (Cert.A2A.run_main (F := Bits) m ρ)

/-- The same over extended reals. -/
theorem frame_pi : Cert.quiescent_KernelIdeal := fun m ρ _ =>
  (θ_run Cert.KernelIdeal.defs _ _).mono
    (fun _ h => ⟨fun c => ⟨((h.1 c).1 (0 : Fin 2)).trans (Cert.A2A.finalA_x m ρ c), (h.1 c).2⟩, h.2⟩)
    (Cert.A2A.run_main (F := Ideal) m ρ)

/-- The reference: host operations only, and no counter declared. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over extended reals, each device ends with its columns of the reference's result. -/
theorem algebraic : Cert.algebraic_KernelIdeal_ReferenceIdeal := fun m ρ m' ρ' _ hin =>
  ⟨Cert.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c).1 (1 : Fin 2)).trans (Cert.A2A.finalA_block m ρ _ _ (fun d => (hin d).1) (fun d => (hin d).2) c),
        ((h.1 c).1 (0 : Fin 2)).trans (Cert.A2A.finalA_x m ρ c), (h.1 c).2⟩)
      (Cert.A2A.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_p, frame_pi, frame_ri, trivial, algebraic⟩

end Cert.Proof

end
